-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4x8448x3072 : Shape := ⟨3, ![4, 8448, 3072]⟩
abbrev S1x1 : Shape := ⟨2, ![1, 1]⟩
abbrev S128 : Shape := ⟨1, ![128]⟩
abbrev S4x8448x1536 : Shape := ⟨3, ![4, 8448, 1536]⟩
abbrev S_ : Shape := ⟨0, ![]⟩

class Facts : Prop where
  slices_S4x8448x3072_S4x8448x1536_0_0_1536 : S4x8448x3072.Slices ![0, 0, 1536] S4x8448x1536
  bcast_S_S4x8448x1536 : S_.BroadcastsInDim S4x8448x1536 (![] : Fin 0 → Fin S4x8448x1536.rank)
  reducesTo_S4x8448x1536_S_d0_1_2 : S4x8448x1536.ReducesTo [0, 1, 2] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S4x8448x3072 .f32) (main_arg1 : FVec F S1x1 .f32) (main_arg2 : FVec F S128 .f32) : IVec S_ 1 :=
  let main_v0 : FVec F S4x8448x1536 .f32 := (extractStridedSlice S4x8448x1536 ![0, 0, 1536] · slices_S4x8448x3072_S4x8448x1536_0_0_1536) main_arg0
  let main_v1 : FVec F S4x8448x1536 .f32 := Host.absf main_v0
  let main_cst : FVec F S_ .f32 := constant S_ .f32 0x7F800000#32
  let main_v2 : FVec F S4x8448x1536 .f32 := broadcastInDim S4x8448x1536 ![] bcast_S_S4x8448x1536 main_cst
  let main_v3 : IVec S4x8448x1536 1 := cmpf .olt main_v1 main_v2
  let main_c : IVec S_ 1 := constantI S_ 1 1#1
  let main_v4 : IVec S_ 1 := (fun x v => Host.reduce IntOp.andi x v reducesTo_S4x8448x1536_S_d0_1_2 h_S_) main_v3 main_c
  let main_v5 : FVec F S1x1 .f32 := Host.absf main_arg1
  let main_cst_0 : FVec F S_ .f32 := constant S_ .f32 0x7F800000#32
  let main_v6 : FVec F S1x1 .f32 := broadcastInDim S1x1 ![] bcast_S_S1x1 main_cst_0
  let main_v7 : IVec S1x1 1 := cmpf .olt main_v5 main_v6
  let main_c_1 : IVec S_ 1 := constantI S_ 1 1#1
  let main_v8 : IVec S_ 1 := (fun x v => Host.reduce IntOp.andi x v reducesTo_S1x1_S_d0_1 h_S_) main_v7 main_c_1
  let main_v9 : IVec S_ 1 := andi main_v4 main_v8
  main_v9
-- ==== Pre_finite5.lean ====
abbrev S4x8448x1024 : Shape := ⟨3, ![4, 8448, 1024]⟩
abbrev S1024 : Shape := ⟨1, ![1024]⟩
abbrev S1024x2056 : Shape := ⟨2, ![1024, 2056]⟩
abbrev S16x1024 : Shape := ⟨2, ![16, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S4x8448x1024 .f32) (main_arg1 : FVec F S1024 .f32) (main_arg2 : FVec F S1024x2056 .f32) (main_arg3 : FVec F S16x1024 .bf16) (main_arg4 : FVec F S16x1024 .bf16) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S16x1024 .bf16 := Host.absf main_arg3
  let main_cst_0 : FVec F S_ .bf16 := constant S_ .bf16 0x7F80#16
  let main_v5 : FVec F S16x1024 .bf16 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S4x8448x3072 : Shape := ⟨3, ![4, 8448, 3072]⟩
abbrev S1x1 : Shape := ⟨2, ![1, 1]⟩
abbrev S128 : Shape := ⟨1, ![128]⟩
abbrev S33792x3072 : Shape := ⟨2, ![33792, 3072]⟩
abbrev S33792x512 : Shape := ⟨2, ![33792, 512]⟩
abbrev S33792x1024 : Shape := ⟨2, ![33792, 1024]⟩
abbrev S_ : Shape := ⟨0, ![]⟩
abbrev S33792x2048 : Shape := ⟨2, ![33792, 2048]⟩
abbrev S2048x33792 : Shape := ⟨2, ![2048, 33792]⟩
abbrev S128x1 : Shape := ⟨2, ![128, 1]⟩
abbrev S128x256 : Shape := ⟨2, ![128, 256]⟩
abbrev S8448x256 : Shape := ⟨2, ![8448, 256]⟩
abbrev S256x256 : Shape := ⟨2, ![256, 256]⟩
abbrev S256x8448 : Shape := ⟨2, ![256, 8448]⟩
abbrev S4x144x256 : Shape := ⟨3, ![4, 144, 256]⟩
abbrev S4x1x256 : Shape := ⟨3, ![4, 1, 256]⟩
abbrev S2x768x1024 : Shape := ⟨3, ![2, 768, 1024]⟩
abbrev S64x256 : Shape := ⟨2, ![64, 256]⟩
abbrev S256x1024 : Shape := ⟨2, ![256, 1024]⟩
abbrev S768x256 : Shape := ⟨2, ![768, 256]⟩
abbrev S768x1024 : Shape := ⟨2, ![768, 1024]⟩
abbrev S1x768x1024 : Shape := ⟨3, ![1, 768, 1024]⟩
abbrev S256x768 : Shape := ⟨2, ![256, 768]⟩
abbrev S768x1 : Shape := ⟨2, ![768, 1]⟩
abbrev S16x768 : Shape := ⟨2, ![16, 768]⟩
abbrev S1x768x256 : Shape := ⟨3, ![1, 768, 256]⟩
abbrev S1x1x256 : Shape := ⟨3, ![1, 1, 256]⟩
abbrev S1x256 : Shape := ⟨2, ![1, 256]⟩
abbrev S256 : Shape := ⟨1, ![256]⟩
abbrev S128x768 : Shape := ⟨2, ![128, 768]⟩
abbrev S144x768 : Shape := ⟨2, ![144, 768]⟩
abbrev S1x144x256 : Shape := ⟨3, ![1, 144, 256]⟩
abbrev S144x256 : Shape := ⟨2, ![144, 256]⟩
abbrev S256x1 : Shape := ⟨2, ![256, 1]⟩
abbrev S16x256 : Shape := ⟨2, ![16, 256]⟩
abbrev S1x256x256 : Shape := ⟨3, ![1, 256, 256]⟩
abbrev S256x512 : Shape := ⟨2, ![256, 512]⟩
abbrev S512x1 : Shape := ⟨2, ![512, 1]⟩
abbrev S512x256 : Shape := ⟨2, ![512, 256]⟩
abbrev S16x512 : Shape := ⟨2, ![16, 512]⟩
abbrev S1x512x256 : Shape := ⟨3, ![1, 512, 256]⟩
abbrev S128x512 : Shape := ⟨2, ![128, 512]⟩
abbrev S144x512 : Shape := ⟨2, ![144, 512]⟩

abbrev nBuf : Space → Nat
  | .hbm => 24
  | .vmem => 12
  | .smem => 1
  | _ => 0

abbrev bufTy : (tb : Table) → Fin (tcTables nBuf tb) → BufTy
  | .hbm, ⟨0, _⟩ => ⟨S4x8448x3072, .f32⟩
  | .hbm, ⟨1, _⟩ => ⟨S1x1, .f32⟩
  | .hbm, ⟨2, _⟩ => ⟨S128, .f32⟩
  | .hbm, ⟨3, _⟩ => ⟨S33792x3072, .f32⟩
  | .hbm, ⟨4, _⟩ => ⟨S33792x512, .f32⟩
  | .hbm, ⟨5, _⟩ => ⟨S33792x512, .f32⟩
  | .hbm, ⟨6, _⟩ => ⟨S33792x1024, .f32⟩
  | .hbm, ⟨7, _⟩ => ⟨S33792x1024, .bf16⟩
  | .hbm, ⟨8, _⟩ => ⟨S33792x512, .f32⟩
  | .hbm, ⟨9, _⟩ => ⟨S_, .f32⟩
  | .hbm, ⟨10, _⟩ => ⟨S33792x512, .f32⟩
  | .hbm, ⟨11, _⟩ => ⟨S33792x512, .f32⟩
  | .hbm, ⟨12, _⟩ => ⟨S33792x512, .f32⟩
  | .hbm, ⟨13, _⟩ => ⟨S33792x512, .f32⟩
  | .hbm, ⟨14, _⟩ => ⟨S_, .f32⟩
  | .hbm, ⟨15, _⟩ => ⟨S33792x512, .f32⟩
  | .hbm, ⟨16, _⟩ => ⟨S33792x512, .f32⟩
  | .hbm, ⟨17, _⟩ => ⟨S33792x512, .f32⟩
  | .hbm, ⟨18, _⟩ => ⟨S33792x2048, .f32⟩
  | .hbm, ⟨19, _⟩ => ⟨S2048x33792, .f32⟩
  | .hbm, ⟨20, _⟩ => ⟨S2048x33792, .bf16⟩
  | .hbm, ⟨21, _⟩ => ⟨S128x1, .f32⟩
  | .hbm, ⟨22, _⟩ => ⟨S128x256, .f32⟩
  | .hbm, ⟨23, _⟩ => ⟨S33792x512, .bf16⟩
  | .local _ .vmem, ⟨0, _⟩ => ⟨S8448x256, .bf16⟩
  | .local _ .vmem, ⟨1, _⟩ => ⟨S8448x256, .bf16⟩
  | .local _ .vmem, ⟨2, _⟩ => ⟨S256x256, .bf16⟩
  | .local _ .vmem, ⟨3, _⟩ => ⟨S256x256, .bf16⟩
  | .local _ .vmem, ⟨4, _⟩ => ⟨S256x8448, .bf16⟩
  | .local _ .vmem, ⟨5, _⟩ => ⟨S256x8448, .bf16⟩
  | .local _ .vmem, ⟨6, _⟩ => ⟨S128x256, .f32⟩
  | .local _ .vmem, ⟨7, _⟩ => ⟨S256x256, .bf16⟩
  | .local _ .vmem, ⟨8, _⟩ => ⟨S256x256, .bf16⟩
  | .local _ .vmem, ⟨9, _⟩ => ⟨S4x144x256, .f32⟩
  | .local _ .vmem, ⟨10, _⟩ => ⟨S4x1x256, .f32⟩
  | .local _ .vmem, ⟨11, _⟩ => ⟨S2x768x1024, .f32⟩
  | .local _ .smem, ⟨0, _⟩ => ⟨S1x1, .f32⟩
  | _, _ => ⟨S4x8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 33], ![false, false, false]⟩

def k0_mult1 : BitVec 32 :=
  let c0_i32_14 : BitVec 32 := 0#32
  c0_i32_14
def k0_cond1 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c0_i32_20 : BitVec 32 := 0#32
  let v48 : BitVec 1 := Scalar.cmpi .sgt v28 c0_i32_20
  let v49 : BitVec 32 := Scalar.extui v48
  let c0_i32_21 : BitVec 32 := 0#32
  let v50 : BitVec 1 := Scalar.cmpi .ne v49 c0_i32_21
  v50

def k0_mult2 : BitVec 32 :=
  let c768_i32 : BitVec 32 := 768#32
  c768_i32
def k0_mult3 : BitVec 32 :=
  let c0_i32_87 : BitVec 32 := 0#32
  c0_i32_87
@[reducible] def k0_t1_loop (i : grid0.Coords) : Scf.Loop 32 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_25 : BitVec 32 := 1#32
  ⟨c1_i32_23, v55, c1_i32_25⟩
def k0_cond2 (i : grid0.Coords) (k0_t1 : Fin (k0_t1_loop i).trips) : BitVec 1 :=
  let c1_i32_23 : BitVec 32 := 1#32
  let c1_i32_25 : BitVec 32 := 1#32
  let arg12 : BitVec 32 := Scf.iv c1_i32_23 c1_i32_25 k0_t1
  let c2_i32_82 : BitVec 32 := 2#32
  let c0_i32_83 : BitVec 32 := 0#32
  let v176 : BitVec 1 := Scalar.cmpi .eq c2_i32_82 c0_i32_83
  let c1_i32_84 : BitVec 32 := 1#32
  let v177 : BitVec 32 := Scalar.select v176 c1_i32_84 c2_i32_82
  let v178 : BitVec 32 := Scalar.remsi arg12 v177
  let c0_i32_86 : BitVec 32 := 0#32
  let v180 : BitVec 1 := Scalar.cmpi .slt v178 c0_i32_86
  let c0_i32_87 : BitVec 32 := 0#32
  let v181 : BitVec 1 := Scalar.cmpi .slt v177 c0_i32_87
  let v182 : BitVec 1 := Scalar.xori v180 v181
  let c0_i32_85 : BitVec 32 := 0#32
  let v179 : BitVec 1 := Scalar.cmpi .ne v178 c0_i32_85
  let v183 : BitVec 1 := Scalar.andi v182 v179
  let v184 : BitVec 32 := Scalar.addi v178 v177
  let v185 : BitVec 32 := Scalar.select v183 v184 v178
  let c0_i32_88 : BitVec 32 := 0#32
  let v186 : BitVec 1 := Scalar.cmpi .eq v185 c0_i32_88
  let v187 : BitVec 32 := Scalar.extui v186
  let c0_i32_89 : BitVec 32 := 0#32
  let v188 : BitVec 1 := Scalar.cmpi .ne v187 c0_i32_89
  v188

def k0_mult4 (i : grid0.Coords) (k0_t1 : Fin (k0_t1_loop i).trips) : BitVec 32 :=
  let c1_i32_23 : BitVec 32 := 1#32
  let c1_i32_25 : BitVec 32 := 1#32
  let arg12 : BitVec 32 := Scf.iv c1_i32_23 c1_i32_25 k0_t1
  let c1_i32_98 : BitVec 32 := 1#32
  let v202 : BitVec 32 := Scalar.addi arg12 c1_i32_98
  let c768_i32 : BitVec 32 := 768#32
  let v203 : BitVec 32 := Scalar.muli v202 c768_i32
  v203
def k0_off1 (i : grid0.Coords) (k0_t1 : Fin (k0_t1_loop i).trips) : Fin 2 → Nat :=
  let c1_i32_23 : BitVec 32 := 1#32
  let c1_i32_25 : BitVec 32 := 1#32
  let arg12 : BitVec 32 := Scf.iv c1_i32_23 c1_i32_25 k0_t1
  let c1_i32_98 : BitVec 32 := 1#32
  let v202 : BitVec 32 := Scalar.addi arg12 c1_i32_98
  let c768_i32 : BitVec 32 := 768#32
  let v203 : BitVec 32 := Scalar.muli v202 c768_i32
  let v204 : BitVec 32 := v203
  let v205 : Index := Scalar.indexCast v204
  let c0_99 : Index := 0#32
  ![v205.toNat, 0]
def k0_mult5 (i : grid0.Coords) (k0_t1 : Fin (k0_t1_loop i).trips) : BitVec 32 :=
  let c1_i32_23 : BitVec 32 := 1#32
  let c1_i32_25 : BitVec 32 := 1#32
  let arg12 : BitVec 32 := Scf.iv c1_i32_23 c1_i32_25 k0_t1
  let c768_i32_104 : BitVec 32 := 768#32
  let v212 : BitVec 32 := Scalar.muli arg12 c768_i32_104
  v212
def k0_off2 (i : grid0.Coords) (k0_t1 : Fin (k0_t1_loop i).trips) : Fin 2 → Nat :=
  let c0_105 : Index := 0#32
  let c1_i32_23 : BitVec 32 := 1#32
  let c1_i32_25 : BitVec 32 := 1#32
  let arg12 : BitVec 32 := Scf.iv c1_i32_23 c1_i32_25 k0_t1
  let c768_i32_104 : BitVec 32 := 768#32
  let v212 : BitVec 32 := Scalar.muli arg12 c768_i32_104
  let v213 : BitVec 32 := v212
  let v214 : Index := Scalar.indexCast v213
  ![0, v214.toNat]
def k0_cond3 (i : grid0.Coords) (k0_t1 : Fin (k0_t1_loop i).trips) : BitVec 1 :=
  let c1_i32_23 : BitVec 32 := 1#32
  let c1_i32_25 : BitVec 32 := 1#32
  let arg12 : BitVec 32 := Scf.iv c1_i32_23 c1_i32_25 k0_t1
  let c2_i32_90 : BitVec 32 := 2#32
  let c0_i32_91 : BitVec 32 := 0#32
  let v189 : BitVec 1 := Scalar.cmpi .eq c2_i32_90 c0_i32_91
  let c1_i32_92 : BitVec 32 := 1#32
  let v190 : BitVec 32 := Scalar.select v189 c1_i32_92 c2_i32_90
  let v191 : BitVec 32 := Scalar.remsi arg12 v190
  let c0_i32_94 : BitVec 32 := 0#32
  let v193 : BitVec 1 := Scalar.cmpi .slt v191 c0_i32_94
  let c0_i32_95 : BitVec 32 := 0#32
  let v194 : BitVec 1 := Scalar.cmpi .slt v190 c0_i32_95
  let v195 : BitVec 1 := Scalar.xori v193 v194
  let c0_i32_93 : BitVec 32 := 0#32
  let v192 : BitVec 1 := Scalar.cmpi .ne v191 c0_i32_93
  let v196 : BitVec 1 := Scalar.andi v195 v192
  let v197 : BitVec 32 := Scalar.addi v191 v190
  let v198 : BitVec 32 := Scalar.select v196 v197 v191
  let c1_i32_96 : BitVec 32 := 1#32
  let v199 : BitVec 1 := Scalar.cmpi .eq v198 c1_i32_96
  let v200 : BitVec 32 := Scalar.extui v199
  let c0_i32_97 : BitVec 32 := 0#32
  let v201 : BitVec 1 := Scalar.cmpi .ne v200 c0_i32_97
  v201

def k0_mult6 (i : grid0.Coords) (k0_t1 : Fin (k0_t1_loop i).trips) : BitVec 32 :=
  let c1_i32_23 : BitVec 32 := 1#32
  let c1_i32_25 : BitVec 32 := 1#32
  let arg12 : BitVec 32 := Scf.iv c1_i32_23 c1_i32_25 k0_t1
  let c1_i32_98 : BitVec 32 := 1#32
  let v202 : BitVec 32 := Scalar.addi arg12 c1_i32_98
  let c768_i32 : BitVec 32 := 768#32
  let v203 : BitVec 32 := Scalar.muli v202 c768_i32
  v203
def k0_off3 (i : grid0.Coords) (k0_t1 : Fin (k0_t1_loop i).trips) : Fin 2 → Nat :=
  let c1_i32_23 : BitVec 32 := 1#32
  let c1_i32_25 : BitVec 32 := 1#32
  let arg12 : BitVec 32 := Scf.iv c1_i32_23 c1_i32_25 k0_t1
  let c1_i32_98 : BitVec 32 := 1#32
  let v202 : BitVec 32 := Scalar.addi arg12 c1_i32_98
  let c768_i32 : BitVec 32 := 768#32
  let v203 : BitVec 32 := Scalar.muli v202 c768_i32
  let v204 : BitVec 32 := v203
  let v205 : Index := Scalar.indexCast v204
  let c0_99 : Index := 0#32
  ![v205.toNat, 0]
def k0_mult7 (i : grid0.Coords) (k0_t1 : Fin (k0_t1_loop i).trips) : BitVec 32 :=
  let c1_i32_23 : BitVec 32 := 1#32
  let c1_i32_25 : BitVec 32 := 1#32
  let arg12 : BitVec 32 := Scf.iv c1_i32_23 c1_i32_25 k0_t1
  let c768_i32_104 : BitVec 32 := 768#32
  let v212 : BitVec 32 := Scalar.muli arg12 c768_i32_104
  v212
def k0_off4 (i : grid0.Coords) (k0_t1 : Fin (k0_t1_loop i).trips) : Fin 2 → Nat :=
  let c0_105 : Index := 0#32
  let c1_i32_23 : BitVec 32 := 1#32
  let c1_i32_25 : BitVec 32 := 1#32
  let arg12 : BitVec 32 := Scf.iv c1_i32_23 c1_i32_25 k0_t1
  let c768_i32_104 : BitVec 32 := 768#32
  let v212 : BitVec 32 := Scalar.muli arg12 c768_i32_104
  let v213 : BitVec 32 := v212
  let v214 : Index := Scalar.indexCast v213
  ![0, v214.toNat]
@[reducible] def k0_t2_loop (i : grid0.Coords) : Scf.Loop 32 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let v52 : BitVec 32 := Scalar.addi c1_i32_23 v51
  let c1_i32_26 : BitVec 32 := 1#32
  ⟨v55, v52, c1_i32_26⟩
def k0_cond4 (i : grid0.Coords) (k0_t2 : Fin (k0_t2_loop i).trips) : BitVec 1 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c2_i32_82 : BitVec 32 := 2#32
  let c0_i32_83 : BitVec 32 := 0#32
  let v176 : BitVec 1 := Scalar.cmpi .eq c2_i32_82 c0_i32_83
  let c1_i32_84 : BitVec 32 := 1#32
  let v177 : BitVec 32 := Scalar.select v176 c1_i32_84 c2_i32_82
  let v178 : BitVec 32 := Scalar.remsi arg12 v177
  let c0_i32_86 : BitVec 32 := 0#32
  let v180 : BitVec 1 := Scalar.cmpi .slt v178 c0_i32_86
  let c0_i32_87 : BitVec 32 := 0#32
  let v181 : BitVec 1 := Scalar.cmpi .slt v177 c0_i32_87
  let v182 : BitVec 1 := Scalar.xori v180 v181
  let c0_i32_85 : BitVec 32 := 0#32
  let v179 : BitVec 1 := Scalar.cmpi .ne v178 c0_i32_85
  let v183 : BitVec 1 := Scalar.andi v182 v179
  let v184 : BitVec 32 := Scalar.addi v178 v177
  let v185 : BitVec 32 := Scalar.select v183 v184 v178
  let c0_i32_88 : BitVec 32 := 0#32
  let v186 : BitVec 1 := Scalar.cmpi .eq v185 c0_i32_88
  let v187 : BitVec 32 := Scalar.extui v186
  let c0_i32_89 : BitVec 32 := 0#32
  let v188 : BitVec 1 := Scalar.cmpi .ne v187 c0_i32_89
  v188

def k0_mult8 (i : grid0.Coords) (k0_t2 : Fin (k0_t2_loop i).trips) : BitVec 32 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c1_i32_98 : BitVec 32 := 1#32
  let v202 : BitVec 32 := Scalar.addi arg12 c1_i32_98
  let c768_i32 : BitVec 32 := 768#32
  let v203 : BitVec 32 := Scalar.muli v202 c768_i32
  v203
def k0_off5 (i : grid0.Coords) (k0_t2 : Fin (k0_t2_loop i).trips) : Fin 2 → Nat :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c1_i32_98 : BitVec 32 := 1#32
  let v202 : BitVec 32 := Scalar.addi arg12 c1_i32_98
  let c768_i32 : BitVec 32 := 768#32
  let v203 : BitVec 32 := Scalar.muli v202 c768_i32
  let v204 : BitVec 32 := v203
  let v205 : Index := Scalar.indexCast v204
  let c0_99 : Index := 0#32
  ![v205.toNat, 0]
def k0_mult9 (i : grid0.Coords) (k0_t2 : Fin (k0_t2_loop i).trips) : BitVec 32 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c768_i32_104 : BitVec 32 := 768#32
  let v212 : BitVec 32 := Scalar.muli arg12 c768_i32_104
  v212
def k0_off6 (i : grid0.Coords) (k0_t2 : Fin (k0_t2_loop i).trips) : Fin 2 → Nat :=
  let c0_105 : Index := 0#32
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c768_i32_104 : BitVec 32 := 768#32
  let v212 : BitVec 32 := Scalar.muli arg12 c768_i32_104
  let v213 : BitVec 32 := v212
  let v214 : Index := Scalar.indexCast v213
  ![0, v214.toNat]
def k0_cond5 (i : grid0.Coords) (k0_t2 : Fin (k0_t2_loop i).trips) : BitVec 1 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c2_i32_90 : BitVec 32 := 2#32
  let c0_i32_91 : BitVec 32 := 0#32
  let v189 : BitVec 1 := Scalar.cmpi .eq c2_i32_90 c0_i32_91
  let c1_i32_92 : BitVec 32 := 1#32
  let v190 : BitVec 32 := Scalar.select v189 c1_i32_92 c2_i32_90
  let v191 : BitVec 32 := Scalar.remsi arg12 v190
  let c0_i32_94 : BitVec 32 := 0#32
  let v193 : BitVec 1 := Scalar.cmpi .slt v191 c0_i32_94
  let c0_i32_95 : BitVec 32 := 0#32
  let v194 : BitVec 1 := Scalar.cmpi .slt v190 c0_i32_95
  let v195 : BitVec 1 := Scalar.xori v193 v194
  let c0_i32_93 : BitVec 32 := 0#32
  let v192 : BitVec 1 := Scalar.cmpi .ne v191 c0_i32_93
  let v196 : BitVec 1 := Scalar.andi v195 v192
  let v197 : BitVec 32 := Scalar.addi v191 v190
  let v198 : BitVec 32 := Scalar.select v196 v197 v191
  let c1_i32_96 : BitVec 32 := 1#32
  let v199 : BitVec 1 := Scalar.cmpi .eq v198 c1_i32_96
  let v200 : BitVec 32 := Scalar.extui v199
  let c0_i32_97 : BitVec 32 := 0#32
  let v201 : BitVec 1 := Scalar.cmpi .ne v200 c0_i32_97
  v201

def k0_mult10 (i : grid0.Coords) (k0_t2 : Fin (k0_t2_loop i).trips) : BitVec 32 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c1_i32_98 : BitVec 32 := 1#32
  let v202 : BitVec 32 := Scalar.addi arg12 c1_i32_98
  let c768_i32 : BitVec 32 := 768#32
  let v203 : BitVec 32 := Scalar.muli v202 c768_i32
  v203
def k0_off7 (i : grid0.Coords) (k0_t2 : Fin (k0_t2_loop i).trips) : Fin 2 → Nat :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c1_i32_98 : BitVec 32 := 1#32
  let v202 : BitVec 32 := Scalar.addi arg12 c1_i32_98
  let c768_i32 : BitVec 32 := 768#32
  let v203 : BitVec 32 := Scalar.muli v202 c768_i32
  let v204 : BitVec 32 := v203
  let v205 : Index := Scalar.indexCast v204
  let c0_99 : Index := 0#32
  ![v205.toNat, 0]
def k0_mult11 (i : grid0.Coords) (k0_t2 : Fin (k0_t2_loop i).trips) : BitVec 32 :=
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c768_i32_104 : BitVec 32 := 768#32
  let v212 : BitVec 32 := Scalar.muli arg12 c768_i32_104
  v212
def k0_off8 (i : grid0.Coords) (k0_t2 : Fin (k0_t2_loop i).trips) : Fin 2 → Nat :=
  let c0_105 : Index := 0#32
  let c1_i32_23 : BitVec 32 := 1#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let v51 : BitVec 32 := Scalar.subi v28 c1_i32_23
  let c1_i32_24 : BitVec 32 := 1#32
  let v53 : BitVec 32 := Scalar.divsi v51 c1_i32_24
  let v54 : BitVec 32 := Scalar.muli v53 c1_i32_24
  let v55 : BitVec 32 := Scalar.addi c1_i32_23 v54
  let c1_i32_26 : BitVec 32 := 1#32
  let arg12 : BitVec 32 := Scf.iv v55 c1_i32_26 k0_t2
  let c768_i32_104 : BitVec 32 := 768#32
  let v212 : BitVec 32 := Scalar.muli arg12 c768_i32_104
  let v213 : BitVec 32 := v212
  let v214 : Index := Scalar.indexCast v213
  ![0, v214.toNat]
def k0_cond6 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c2_i32 : BitVec 32 := 2#32
  let c0_i32_27 : BitVec 32 := 0#32
  let v56 : BitVec 1 := Scalar.cmpi .eq c2_i32 c0_i32_27
  let c1_i32_28 : BitVec 32 := 1#32
  let v57 : BitVec 32 := Scalar.select v56 c1_i32_28 c2_i32
  let v58 : BitVec 32 := Scalar.remsi v28 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c0_i32_32 : BitVec 32 := 0#32
  let v66 : BitVec 1 := Scalar.cmpi .eq v65 c0_i32_32
  let c3_i32_5 : BitVec 32 := 3#32
  let v29 : BitVec 32 := Scalar.muli v28 c3_i32_5
  let v30 : BitVec 32 := Scalar.subi arg2 v29
  let c256_i32 : BitVec 32 := 256#32
  let v31 : BitVec 32 := Scalar.muli v30 c256_i32
  let c0_i32_33 : BitVec 32 := 0#32
  let v67 : BitVec 1 := Scalar.cmpi .eq v31 c0_i32_33
  let v68 : BitVec 1 := Scalar.andi v66 v67
  let v69 : BitVec 32 := Scalar.extui v68
  let c0_i32_34 : BitVec 32 := 0#32
  let v70 : BitVec 1 := Scalar.cmpi .ne v69 c0_i32_34
  v70

def k0_mult12 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  v176
def k0_off9 (i : grid0.Coords) : Fin 2 → Nat :=
  let c0_82 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  let v177 : BitVec 32 := v176
  let v178 : Index := Scalar.indexCast v177
  ![0, v178.toNat]
def k0_cond7 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c2_i32 : BitVec 32 := 2#32
  let c0_i32_27 : BitVec 32 := 0#32
  let v56 : BitVec 1 := Scalar.cmpi .eq c2_i32 c0_i32_27
  let c1_i32_28 : BitVec 32 := 1#32
  let v57 : BitVec 32 := Scalar.select v56 c1_i32_28 c2_i32
  let v58 : BitVec 32 := Scalar.remsi v28 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c0_i32_32 : BitVec 32 := 0#32
  let v66 : BitVec 1 := Scalar.cmpi .eq v65 c0_i32_32
  let c3_i32_5 : BitVec 32 := 3#32
  let v29 : BitVec 32 := Scalar.muli v28 c3_i32_5
  let v30 : BitVec 32 := Scalar.subi arg2 v29
  let c256_i32 : BitVec 32 := 256#32
  let v31 : BitVec 32 := Scalar.muli v30 c256_i32
  let c256_i32_35 : BitVec 32 := 256#32
  let v71 : BitVec 1 := Scalar.cmpi .eq v31 c256_i32_35
  let v72 : BitVec 1 := Scalar.andi v66 v71
  let v73 : BitVec 32 := Scalar.extui v72
  let c0_i32_36 : BitVec 32 := 0#32
  let v74 : BitVec 1 := Scalar.cmpi .ne v73 c0_i32_36
  v74

def k0_mult13 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  v176
def k0_off10 (i : grid0.Coords) : Fin 2 → Nat :=
  let c0_82 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  let v177 : BitVec 32 := v176
  let v178 : Index := Scalar.indexCast v177
  ![0, v178.toNat]
def k0_cond8 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c2_i32 : BitVec 32 := 2#32
  let c0_i32_27 : BitVec 32 := 0#32
  let v56 : BitVec 1 := Scalar.cmpi .eq c2_i32 c0_i32_27
  let c1_i32_28 : BitVec 32 := 1#32
  let v57 : BitVec 32 := Scalar.select v56 c1_i32_28 c2_i32
  let v58 : BitVec 32 := Scalar.remsi v28 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c0_i32_32 : BitVec 32 := 0#32
  let v66 : BitVec 1 := Scalar.cmpi .eq v65 c0_i32_32
  let c3_i32_5 : BitVec 32 := 3#32
  let v29 : BitVec 32 := Scalar.muli v28 c3_i32_5
  let v30 : BitVec 32 := Scalar.subi arg2 v29
  let c256_i32 : BitVec 32 := 256#32
  let v31 : BitVec 32 := Scalar.muli v30 c256_i32
  let c512_i32 : BitVec 32 := 512#32
  let v75 : BitVec 1 := Scalar.cmpi .eq v31 c512_i32
  let v76 : BitVec 1 := Scalar.andi v66 v75
  let v77 : BitVec 32 := Scalar.extui v76
  let c0_i32_37 : BitVec 32 := 0#32
  let v78 : BitVec 1 := Scalar.cmpi .ne v77 c0_i32_37
  v78

def k0_mult14 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  v176
def k0_off11 (i : grid0.Coords) : Fin 2 → Nat :=
  let c0_82 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  let v177 : BitVec 32 := v176
  let v178 : Index := Scalar.indexCast v177
  ![0, v178.toNat]
def k0_cond9 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c2_i32_38 : BitVec 32 := 2#32
  let c0_i32_39 : BitVec 32 := 0#32
  let v79 : BitVec 1 := Scalar.cmpi .eq c2_i32_38 c0_i32_39
  let c1_i32_40 : BitVec 32 := 1#32
  let v80 : BitVec 32 := Scalar.select v79 c1_i32_40 c2_i32_38
  let v81 : BitVec 32 := Scalar.remsi v28 v80
  let c0_i32_42 : BitVec 32 := 0#32
  let v83 : BitVec 1 := Scalar.cmpi .slt v81 c0_i32_42
  let c0_i32_43 : BitVec 32 := 0#32
  let v84 : BitVec 1 := Scalar.cmpi .slt v80 c0_i32_43
  let v85 : BitVec 1 := Scalar.xori v83 v84
  let c0_i32_41 : BitVec 32 := 0#32
  let v82 : BitVec 1 := Scalar.cmpi .ne v81 c0_i32_41
  let v86 : BitVec 1 := Scalar.andi v85 v82
  let v87 : BitVec 32 := Scalar.addi v81 v80
  let v88 : BitVec 32 := Scalar.select v86 v87 v81
  let c1_i32_44 : BitVec 32 := 1#32
  let v89 : BitVec 1 := Scalar.cmpi .eq v88 c1_i32_44
  let c3_i32_5 : BitVec 32 := 3#32
  let v29 : BitVec 32 := Scalar.muli v28 c3_i32_5
  let v30 : BitVec 32 := Scalar.subi arg2 v29
  let c256_i32 : BitVec 32 := 256#32
  let v31 : BitVec 32 := Scalar.muli v30 c256_i32
  let c0_i32_45 : BitVec 32 := 0#32
  let v90 : BitVec 1 := Scalar.cmpi .eq v31 c0_i32_45
  let v91 : BitVec 1 := Scalar.andi v89 v90
  let v92 : BitVec 32 := Scalar.extui v91
  let c0_i32_46 : BitVec 32 := 0#32
  let v93 : BitVec 1 := Scalar.cmpi .ne v92 c0_i32_46
  v93

def k0_mult15 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  v176
def k0_off12 (i : grid0.Coords) : Fin 2 → Nat :=
  let c0_82 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  let v177 : BitVec 32 := v176
  let v178 : Index := Scalar.indexCast v177
  ![0, v178.toNat]
def k0_cond10 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c2_i32_38 : BitVec 32 := 2#32
  let c0_i32_39 : BitVec 32 := 0#32
  let v79 : BitVec 1 := Scalar.cmpi .eq c2_i32_38 c0_i32_39
  let c1_i32_40 : BitVec 32 := 1#32
  let v80 : BitVec 32 := Scalar.select v79 c1_i32_40 c2_i32_38
  let v81 : BitVec 32 := Scalar.remsi v28 v80
  let c0_i32_42 : BitVec 32 := 0#32
  let v83 : BitVec 1 := Scalar.cmpi .slt v81 c0_i32_42
  let c0_i32_43 : BitVec 32 := 0#32
  let v84 : BitVec 1 := Scalar.cmpi .slt v80 c0_i32_43
  let v85 : BitVec 1 := Scalar.xori v83 v84
  let c0_i32_41 : BitVec 32 := 0#32
  let v82 : BitVec 1 := Scalar.cmpi .ne v81 c0_i32_41
  let v86 : BitVec 1 := Scalar.andi v85 v82
  let v87 : BitVec 32 := Scalar.addi v81 v80
  let v88 : BitVec 32 := Scalar.select v86 v87 v81
  let c1_i32_44 : BitVec 32 := 1#32
  let v89 : BitVec 1 := Scalar.cmpi .eq v88 c1_i32_44
  let c3_i32_5 : BitVec 32 := 3#32
  let v29 : BitVec 32 := Scalar.muli v28 c3_i32_5
  let v30 : BitVec 32 := Scalar.subi arg2 v29
  let c256_i32 : BitVec 32 := 256#32
  let v31 : BitVec 32 := Scalar.muli v30 c256_i32
  let c256_i32_47 : BitVec 32 := 256#32
  let v94 : BitVec 1 := Scalar.cmpi .eq v31 c256_i32_47
  let v95 : BitVec 1 := Scalar.andi v89 v94
  let v96 : BitVec 32 := Scalar.extui v95
  let c0_i32_48 : BitVec 32 := 0#32
  let v97 : BitVec 1 := Scalar.cmpi .ne v96 c0_i32_48
  v97

def k0_mult16 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  v176
def k0_off13 (i : grid0.Coords) : Fin 2 → Nat :=
  let c0_82 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  let v177 : BitVec 32 := v176
  let v178 : Index := Scalar.indexCast v177
  ![0, v178.toNat]
def k0_cond11 (i : grid0.Coords) : BitVec 1 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c2_i32_38 : BitVec 32 := 2#32
  let c0_i32_39 : BitVec 32 := 0#32
  let v79 : BitVec 1 := Scalar.cmpi .eq c2_i32_38 c0_i32_39
  let c1_i32_40 : BitVec 32 := 1#32
  let v80 : BitVec 32 := Scalar.select v79 c1_i32_40 c2_i32_38
  let v81 : BitVec 32 := Scalar.remsi v28 v80
  let c0_i32_42 : BitVec 32 := 0#32
  let v83 : BitVec 1 := Scalar.cmpi .slt v81 c0_i32_42
  let c0_i32_43 : BitVec 32 := 0#32
  let v84 : BitVec 1 := Scalar.cmpi .slt v80 c0_i32_43
  let v85 : BitVec 1 := Scalar.xori v83 v84
  let c0_i32_41 : BitVec 32 := 0#32
  let v82 : BitVec 1 := Scalar.cmpi .ne v81 c0_i32_41
  let v86 : BitVec 1 := Scalar.andi v85 v82
  let v87 : BitVec 32 := Scalar.addi v81 v80
  let v88 : BitVec 32 := Scalar.select v86 v87 v81
  let c1_i32_44 : BitVec 32 := 1#32
  let v89 : BitVec 1 := Scalar.cmpi .eq v88 c1_i32_44
  let c3_i32_5 : BitVec 32 := 3#32
  let v29 : BitVec 32 := Scalar.muli v28 c3_i32_5
  let v30 : BitVec 32 := Scalar.subi arg2 v29
  let c256_i32 : BitVec 32 := 256#32
  let v31 : BitVec 32 := Scalar.muli v30 c256_i32
  let c512_i32_49 : BitVec 32 := 512#32
  let v98 : BitVec 1 := Scalar.cmpi .eq v31 c512_i32_49
  let v99 : BitVec 1 := Scalar.andi v89 v98
  let v100 : BitVec 32 := Scalar.extui v99
  let c0_i32_50 : BitVec 32 := 0#32
  let v101 : BitVec 1 := Scalar.cmpi .ne v100 c0_i32_50
  v101

def k0_mult17 (i : grid0.Coords) : BitVec 32 :=
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  v176
def k0_off14 (i : grid0.Coords) : Fin 2 → Nat :=
  let c0_82 : Index := 0#32
  let arg2 : BitVec 32 := BitVec.ofNat 32 (i 2).val
  let c0_i32 : BitVec 32 := 0#32
  let v13 : BitVec 1 := Scalar.cmpi .sgt arg2 c0_i32
  let v14 : BitVec 32 := Scalar.extui v13
  let c0_i32_1 : BitVec 32 := 0#32
  let v15 : BitVec 1 := Scalar.cmpi .slt arg2 c0_i32_1
  let v16 : BitVec 32 := Scalar.extui v15
  let v17 : BitVec 32 := Scalar.subi v14 v16
  let c3_i32 : BitVec 32 := 3#32
  let c0_i32_2 : BitVec 32 := 0#32
  let v18 : BitVec 1 := Scalar.cmpi .sgt c3_i32 c0_i32_2
  let v19 : BitVec 32 := Scalar.extui v18
  let c0_i32_3 : BitVec 32 := 0#32
  let v20 : BitVec 1 := Scalar.cmpi .slt c3_i32 c0_i32_3
  let v21 : BitVec 32 := Scalar.extui v20
  let v22 : BitVec 32 := Scalar.subi v19 v21
  let v23 : BitVec 1 := Scalar.cmpi .ne v17 v22
  let v24 : BitVec 32 := Scalar.remsi arg2 c3_i32
  let c0_i32_4 : BitVec 32 := 0#32
  let v25 : BitVec 1 := Scalar.cmpi .ne v24 c0_i32_4
  let v26 : BitVec 1 := Scalar.andi v23 v25
  let v12 : BitVec 32 := Scalar.divsi arg2 c3_i32
  let c1_i32 : BitVec 32 := 1#32
  let v27 : BitVec 32 := Scalar.subi v12 c1_i32
  let v28 : BitVec 32 := Scalar.select v26 v27 v12
  let c768_i32 : BitVec 32 := 768#32
  let v176 : BitVec 32 := Scalar.muli v28 c768_i32
  let v177 : BitVec 32 := v176
  let v178 : Index := Scalar.indexCast v177
  ![0, v178.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c33_i32 : BitVec 32 := 33#32
  let v1 : BitVec 32 := Scalar.muli arg0 c33_i32
  let v2 : BitVec 32 := Scalar.addi v1 arg2
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  ![v1.toNat, arg1.toNat]

abbrev stage0_0 : Fin 2 → Memref sig .tc .vmem S8448x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S4x8448x3072 : Shape := ⟨3, ![4, 8448, 3072]⟩
abbrev S1x1 : Shape := ⟨2, ![1, 1]⟩
abbrev S128 : Shape := ⟨1, ![128]⟩
abbrev S4x8448x512 : Shape := ⟨3, ![4, 8448, 512]⟩
abbrev S4x8448x4x2x64 : Shape := ⟨5, ![4, 8448, 4, 2, 64]⟩
abbrev S4x8448x4x128 : Shape := ⟨4, ![4, 8448, 4, 128]⟩
abbrev S8448 : Shape := ⟨1, ![8448]⟩
abbrev S_ : Shape := ⟨0, ![]⟩
abbrev S4x4x2x8448x8448 : Shape := ⟨5, ![4, 4, 2, 8448, 8448]⟩
abbrev S1x8448 : Shape := ⟨2, ![1, 8448]⟩
abbrev S8448x1 : Shape := ⟨2, ![8448, 1]⟩
abbrev S8448x8448 : Shape := ⟨2, ![8448, 8448]⟩
abbrev S4x4x2x8448 : Shape := ⟨4, ![4, 4, 2, 8448]⟩
abbrev S4x4x2x8448x1 : Shape := ⟨5, ![4, 4, 2, 8448, 1]⟩
abbrev S4x4x1x8448x8448 : Shape := ⟨5, ![4, 4, 1, 8448, 8448]⟩
abbrev S4x4x8448x8448 : Shape := ⟨4, ![4, 4, 8448, 8448]⟩
abbrev S1x1x1x1 : Shape := ⟨4, ![1, 1, 1, 1]⟩
abbrev S4x4x128x8448 : Shape := ⟨4, ![4, 4, 128, 8448]⟩
abbrev S1x8448x1x1 : Shape := ⟨4, ![1, 8448, 1, 1]⟩
abbrev S4x8448x4 : Shape := ⟨3, ![4, 8448, 4]⟩
abbrev S4x8448x4x1 : Shape := ⟨4, ![4, 8448, 4, 1]⟩
abbrev S1x1x1x128 : Shape := ⟨4, ![1, 1, 1, 128]⟩
abbrev S33792x512 : Shape := ⟨2, ![33792, 512]⟩

abbrev nBuf : Space → Nat
  | .hbm => 84
  | .vmem => 0
  | .smem => 0
  | _ => 0

abbrev bufTy : (tb : Table) → Fin (tcTables nBuf tb) → BufTy
  | .hbm, ⟨0, _⟩ => ⟨S4x8448x3072, .f32⟩
  | .hbm, ⟨1, _⟩ => ⟨S1x1, .f32⟩
  | .hbm, ⟨2, _⟩ => ⟨S128, .f32⟩
  | .hbm, ⟨3, _⟩ => ⟨S4x8448x512, .f32⟩
  | .hbm, ⟨4, _⟩ => ⟨S4x8448x512, .f32⟩
  | .hbm, ⟨5, _⟩ => ⟨S4x8448x512, .f32⟩
  | .hbm, ⟨6, _⟩ => ⟨S4x8448x512, .f32⟩
  | .hbm, ⟨7, _⟩ => ⟨S4x8448x512, .f32⟩
  | .hbm, ⟨8, _⟩ => ⟨S4x8448x512, .f32⟩
  | .hbm, ⟨9, _⟩ => ⟨S4x8448x4x2x64, .f32⟩
  | .hbm, ⟨10, _⟩ => ⟨S4x8448x4x2x64, .f32⟩
  | .hbm, ⟨11, _⟩ => ⟨S4x8448x4x128, .f32⟩
  | .hbm, ⟨12, _⟩ => ⟨S8448, .i32⟩
  | .hbm, ⟨13, _⟩ => ⟨S_, .i32⟩
  | .hbm, ⟨14, _⟩ => ⟨S8448, .i32⟩
  | .hbm, ⟨15, _⟩ => ⟨S8448, .i1⟩
  | .hbm, ⟨16, _⟩ => ⟨S4x4x2x8448x8448, .f32⟩
  | .hbm, ⟨17, _⟩ => ⟨S_, .f32⟩
  | .hbm, ⟨18, _⟩ => ⟨S4x4x2x8448x8448, .f32⟩
  | .hbm, ⟨19, _⟩ => ⟨S4x4x2x8448x8448, .f32⟩
  | .hbm, ⟨20, _⟩ => ⟨S1x8448, .i32⟩
  | .hbm, ⟨21, _⟩ => ⟨S8448x1, .i32⟩
  | .hbm, ⟨22, _⟩ => ⟨S8448x8448, .i32⟩
  | .hbm, ⟨23, _⟩ => ⟨S8448x8448, .i32⟩
  | .hbm, ⟨24, _⟩ => ⟨S8448x8448, .i1⟩
  | .hbm, ⟨25, _⟩ => ⟨S1x8448, .i1⟩
  | .hbm, ⟨26, _⟩ => ⟨S8448x8448, .i1⟩
  | .hbm, ⟨27, _⟩ => ⟨S8448x8448, .i1⟩
  | .hbm, ⟨28, _⟩ => ⟨S_, .f32⟩
  | .hbm, ⟨29, _⟩ => ⟨S_, .f32⟩
  | .hbm, ⟨30, _⟩ => ⟨S4x4x2x8448x8448, .i1⟩
  | .hbm, ⟨31, _⟩ => ⟨S4x4x2x8448x8448, .f32⟩
  | .hbm, ⟨32, _⟩ => ⟨S4x4x2x8448x8448, .f32⟩
  | .hbm, ⟨33, _⟩ => ⟨S_, .f32⟩
  | .hbm, ⟨34, _⟩ => ⟨S4x4x2x8448, .f32⟩
  | .hbm, ⟨35, _⟩ => ⟨S_, .f32⟩
  | .hbm, ⟨36, _⟩ => ⟨S4x4x2x8448, .f32⟩
  | .hbm, ⟨37, _⟩ => ⟨S4x4x2x8448, .f32⟩
  | .hbm, ⟨38, _⟩ => ⟨S4x4x2x8448x1, .f32⟩
  | .hbm, ⟨39, _⟩ => ⟨S4x4x2x8448x8448, .f32⟩
  | .hbm, ⟨40, _⟩ => ⟨S4x4x2x8448x8448, .f32⟩
  | .hbm, ⟨41, _⟩ => ⟨S4x4x2x8448x8448, .f32⟩
  | .hbm, ⟨42, _⟩ => ⟨S_, .f32⟩
  | .hbm, ⟨43, _⟩ => ⟨S4x4x2x8448, .f32⟩
  | .hbm, ⟨44, _⟩ => ⟨S4x4x2x8448x1, .f32⟩
  | .hbm, ⟨45, _⟩ => ⟨S4x4x2x8448x8448, .f32⟩
  | .hbm, ⟨46, _⟩ => ⟨S4x4x2x8448x8448, .f32⟩
  | .hbm, ⟨47, _⟩ => ⟨S4x4x1x8448x8448, .f32⟩
  | .hbm, ⟨48, _⟩ => ⟨S4x4x8448x8448, .f32⟩
  | .hbm, ⟨49, _⟩ => ⟨S4x4x1x8448x8448, .f32⟩
  | .hbm, ⟨50, _⟩ => ⟨S4x4x8448x8448, .f32⟩
  | .hbm, ⟨51, _⟩ => ⟨S1x1x1x1, .f32⟩
  | .hbm, ⟨52, _⟩ => ⟨S4x4x8448x8448, .f32⟩
  | .hbm, ⟨53, _⟩ => ⟨S4x4x8448x8448, .f32⟩
  | .hbm, ⟨54, _⟩ => ⟨S4x4x8448x8448, .f32⟩
  | .hbm, ⟨55, _⟩ => ⟨S4x4x128x8448, .f32⟩
  | .hbm, ⟨56, _⟩ => ⟨S4x8448x4x128, .f32⟩
  | .hbm, ⟨57, _⟩ => ⟨S1x8448x1x1, .i1⟩
  | .hbm, ⟨58, _⟩ => ⟨S_, .f32⟩
  | .hbm, ⟨59, _⟩ => ⟨S_, .f32⟩
  | .hbm, ⟨60, _⟩ => ⟨S4x8448x4x128, .i1⟩
  | .hbm, ⟨61, _⟩ => ⟨S4x8448x4x128, .f32⟩
  | .hbm, ⟨62, _⟩ => ⟨S4x8448x4x128, .f32⟩
  | .hbm, ⟨63, _⟩ => ⟨S4x8448x4x128, .f32⟩
  | .hbm, ⟨64, _⟩ => ⟨S_, .f32⟩
  | .hbm, ⟨65, _⟩ => ⟨S4x8448x4, .f32⟩
  | .hbm, ⟨66, _⟩ => ⟨S4x8448x4x1, .f32⟩
  | .hbm, ⟨67, _⟩ => ⟨S_, .f32⟩
  | .hbm, ⟨68, _⟩ => ⟨S4x8448x4x1, .f32⟩
  | .hbm, ⟨69, _⟩ => ⟨S4x8448x4x1, .f32⟩
  | .hbm, ⟨70, _⟩ => ⟨S_, .f32⟩
  | .hbm, ⟨71, _⟩ => ⟨S4x8448x4x1, .f32⟩
  | .hbm, ⟨72, _⟩ => ⟨S4x8448x4x1, .f32⟩
  | .hbm, ⟨73, _⟩ => ⟨S4x8448x4x1, .f32⟩
  | .hbm, ⟨74, _⟩ => ⟨S4x8448x4x128, .f32⟩
  | .hbm, ⟨75, _⟩ => ⟨S4x8448x4x128, .f32⟩
  | .hbm, ⟨76, _⟩ => ⟨S1x1x1x128, .f32⟩
  | .hbm, ⟨77, _⟩ => ⟨S4x8448x4x128, .f32⟩
  | .hbm, ⟨78, _⟩ => ⟨S4x8448x4x128, .f32⟩
  | .hbm, ⟨79, _⟩ => ⟨S_, .f32⟩
  | .hbm, ⟨80, _⟩ => ⟨S4x8448x4x128, .f32⟩
  | .hbm, ⟨81, _⟩ => ⟨S4x8448x4x128, .f32⟩
  | .hbm, ⟨82, _⟩ => ⟨S33792x512, .f32⟩
  | .hbm, ⟨83, _⟩ => ⟨S33792x512, .bf16⟩
  | _, _ => ⟨S4x8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x8448x512 : Shape := ⟨3, ![4, 8448, 512]⟩
abbrev S1024x1024 : Shape := ⟨2, ![1024, 1024]⟩
abbrev S512x512 : Shape := ⟨2, ![512, 512]⟩
abbrev S512 : Shape := ⟨1, ![512]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512 : Shape := ⟨2, ![1, 512]⟩
abbrev S1x768x1024 : Shape := ⟨3, ![1, 768, 1024]⟩
abbrev S1x768x512 : Shape := ⟨3, ![1, 768, 512]⟩
abbrev S768x1024 : Shape := ⟨2, ![768, 1024]⟩
abbrev S768x1 : Shape := ⟨2, ![768, 1]⟩
abbrev S768x512 : Shape := ⟨2, ![768, 512]⟩
abbrev S512x1024 : Shape := ⟨2, ![512, 1024]⟩
abbrev S768 : Shape := ⟨1, ![768]⟩
abbrev S1024x256 : Shape := ⟨2, ![1024, 256]⟩
abbrev S768x256 : Shape := ⟨2, ![768, 256]⟩
abbrev S256x1024 : Shape := ⟨2, ![256, 1024]⟩

abbrev nBuf : Space → Nat
  | .hbm => 18
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .bf16⟩
  | .hbm, ⟨2, _⟩ => ⟨S4x8448x512, .f32⟩
  | .hbm, ⟨3, _⟩ => ⟨S1024x1024, .f32⟩
  | .hbm, ⟨4, _⟩ => ⟨S512x512, .f32⟩
  | .hbm, ⟨5, _⟩ => ⟨S512, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S512x512, .bf16⟩
  | .hbm, ⟨15, _⟩ => ⟨S1x512, .f32⟩
  | .hbm, ⟨16, _⟩ => ⟨S1x1024, .f32⟩
  | .hbm, ⟨17, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x512, .bf16⟩
  | .local _ .vmem, ⟨3, _⟩ => ⟨S1x768x512, .bf16⟩
  | .local _ .vmem, ⟨4, _⟩ => ⟨S1x768x512, .f32⟩
  | .local _ .vmem, ⟨5, _⟩ => ⟨S1x768x512, .f32⟩
  | .local _ .vmem, ⟨6, _⟩ => ⟨S512x512, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1x768x1024, .f32⟩
  | .local _ .vmem, ⟨14, _⟩ => ⟨S1x768x1024, .f32⟩
  | .local _ .vmem, ⟨15, _⟩ => ⟨S768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x8448x1024 : Shape := ⟨3, ![4, 8448, 1024]⟩
abbrev S4x8448x512 : Shape := ⟨3, ![4, 8448, 512]⟩
abbrev S1024x1024 : Shape := ⟨2, ![1024, 1024]⟩
abbrev S512x512 : Shape := ⟨2, ![512, 512]⟩
abbrev S512 : Shape := ⟨1, ![512]⟩
abbrev S1024 : Shape := ⟨1, ![1024]⟩
abbrev S1024x5632 : Shape := ⟨2, ![1024, 5632]⟩
abbrev S2816x1024 : Shape := ⟨2, ![2816, 1024]⟩
abbrev S1x1x512 : Shape := ⟨3, ![1, 1, 512]⟩
abbrev S_ : Shape := ⟨0, ![]⟩
abbrev S8448 : Shape := ⟨1, ![8448]⟩
abbrev S1x8448x1 : Shape := ⟨3, ![1, 8448, 1]⟩
abbrev S4x8448 : Shape := ⟨2, ![4, 8448]⟩
abbrev S4x8448x1 : Shape := ⟨3, ![4, 8448, 1]⟩
abbrev S1x1x1024 : Shape := ⟨3, ![1, 1, 1024]⟩
abbrev S4x8448x5632 : Shape := ⟨3, ![4, 8448, 5632]⟩
abbrev S4x8448x2816 : Shape := ⟨3, ![4, 8448, 2816]⟩

abbrev nBuf : Space → Nat
  | .hbm => 92
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .bf16⟩
  | .hbm, ⟨2, _⟩ => ⟨S4x8448x512, .f32⟩
  | .hbm, ⟨3, _⟩ => ⟨S1024x1024, .f32⟩
  | .hbm, ⟨4, _⟩ => ⟨S512x512, .f32⟩
  | .hbm, ⟨5, _⟩ => ⟨S512, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S4x8448x512, .f32⟩
  | .hbm, ⟨11, _⟩ => ⟨S1x1x512, .f32⟩
  | .hbm, ⟨12, _⟩ => ⟨S4x8448x512, .f32⟩
  | .hbm, ⟨13, _⟩ => ⟨S4x8448x512, .f32⟩
  | .hbm, ⟨14, _⟩ => ⟨S4x8448x512, .f32⟩
  | .hbm, ⟨15, _⟩ => ⟨S4x8448x512, .f32⟩
  | .hbm, ⟨16, _⟩ => ⟨S_, .f32⟩
  | .hbm, ⟨17, _⟩ => ⟨S4x8448x512, .f32⟩
  | .hbm, ⟨18, _⟩ => ⟨S4x8448x512, .f32⟩
  | .hbm, ⟨19, _⟩ => ⟨S_, .f32⟩
  | .hbm, ⟨20, _⟩ => ⟨S4x8448x512, .f32⟩
  | .hbm, ⟨21, _⟩ => ⟨S4x8448x512, .f32⟩
  | .hbm, ⟨22, _⟩ => ⟨S4x8448x512, .f32⟩
  | .hbm, ⟨23, _⟩ => ⟨S4x8448x512, .f32⟩
  | .hbm, ⟨24, _⟩ => ⟨S8448, .i32⟩
  | .hbm, ⟨25, _⟩ => ⟨S_, .i32⟩
  | .hbm, ⟨26, _⟩ => ⟨S8448, .i32⟩
  | .hbm, ⟨27, _⟩ => ⟨S8448, .i1⟩
  | .hbm, ⟨28, _⟩ => ⟨S8448, .f32⟩
  | .hbm, ⟨29, _⟩ => ⟨S1x8448x1, .f32⟩
  | .hbm, ⟨30, _⟩ => ⟨S_, .f32⟩
  | .hbm, ⟨31, _⟩ => ⟨S1x8448x1, .f32⟩
  | .hbm, ⟨32, _⟩ => ⟨S1x8448x1, .i1⟩
  | .hbm, ⟨33, _⟩ => ⟨S_, .f32⟩
  | .hbm, ⟨34, _⟩ => ⟨S_, .f32⟩
  | .hbm, ⟨35, _⟩ => ⟨S4x8448x1024, .i1⟩
  | .hbm, ⟨36, _⟩ => ⟨S4x8448x1024, .f32⟩
  | .hbm, ⟨37, _⟩ => ⟨S4x8448x1024, .f32⟩
  | .hbm, ⟨38, _⟩ => ⟨S4x8448x1024, .f32⟩
  | .hbm, ⟨39, _⟩ => ⟨S4x8448x1024, .f32⟩
  | .hbm, ⟨40, _⟩ => ⟨S4x8448x1024, .f32⟩
  | .hbm, ⟨41, _⟩ => ⟨S4x8448x1024, .f32⟩
  | .hbm, ⟨42, _⟩ => ⟨S4x8448x1024, .f32⟩
  | .hbm, ⟨43, _⟩ => ⟨S4x8448x1024, .f32⟩
  | .hbm, ⟨44, _⟩ => ⟨S_, .f32⟩
  | .hbm, ⟨45, _⟩ => ⟨S4x8448, .f32⟩
  | .hbm, ⟨46, _⟩ => ⟨S4x8448x1, .f32⟩
  | .hbm, ⟨47, _⟩ => ⟨S_, .f32⟩
  | .hbm, ⟨48, _⟩ => ⟨S4x8448x1, .f32⟩
  | .hbm, ⟨49, _⟩ => ⟨S4x8448x1, .f32⟩
  | .hbm, ⟨50, _⟩ => ⟨S_, .f32⟩
  | .hbm, ⟨51, _⟩ => ⟨S4x8448x1, .f32⟩
  | .hbm, ⟨52, _⟩ => ⟨S4x8448x1, .f32⟩
  | .hbm, ⟨53, _⟩ => ⟨S4x8448x1, .f32⟩
  | .hbm, ⟨54, _⟩ => ⟨S4x8448x1024, .f32⟩
  | .hbm, ⟨55, _⟩ => ⟨S4x8448x1024, .f32⟩
  | .hbm, ⟨56, _⟩ => ⟨S1x1x1024, .f32⟩
  | .hbm, ⟨57, _⟩ => ⟨S4x8448x1024, .f32⟩
  | .hbm, ⟨58, _⟩ => ⟨S4x8448x1024, .f32⟩
  | .hbm, ⟨59, _⟩ => ⟨S4x8448x5632, .f32⟩
  | .hbm, ⟨60, _⟩ => ⟨S4x8448x2816, .f32⟩
  | .hbm, ⟨61, _⟩ => ⟨S4x8448x2816, .f32⟩
  | .hbm, ⟨62, _⟩ => ⟨S4x8448x2816, .f32⟩
  | .hbm, ⟨63, _⟩ => ⟨S4x8448x2816, .f32⟩
  | .hbm, ⟨64, _⟩ => ⟨S_, .f32⟩
  | .hbm, ⟨65, _⟩ => ⟨S4x8448x2816, .f32⟩
  | .hbm, ⟨66, _⟩ => ⟨S4x8448x2816, .f32⟩
  | .hbm, ⟨67, _⟩ => ⟨S_, .f32⟩
  | .hbm, ⟨68, _⟩ => ⟨S4x8448x2816, .f32⟩
  | .hbm, ⟨69, _⟩ => ⟨S4x8448x2816, .f32⟩
  | .hbm, ⟨70, _⟩ => ⟨S4x8448x2816, .f32⟩
  | .hbm, ⟨71, _⟩ => ⟨S4x8448x2816, .f32⟩
  | .hbm, ⟨72, _⟩ => ⟨S4x8448x1024, .f32⟩
  | .hbm, ⟨73, _⟩ => ⟨S4x8448x1024, .f32⟩
  | .hbm, ⟨74, _⟩ => ⟨S4x8448x1024, .f32⟩
  | .hbm, ⟨75, _⟩ => ⟨S4x8448x1024, .f32⟩
  | .hbm, ⟨76, _⟩ => ⟨S4x8448x1024, .f32⟩
  | .hbm, ⟨77, _⟩ => ⟨S_, .f32⟩
  | .hbm, ⟨78, _⟩ => ⟨S4x8448, .f32⟩
  | .hbm, ⟨79, _⟩ => ⟨S4x8448x1, .f32⟩
  | .hbm, ⟨80, _⟩ => ⟨S_, .f32⟩
  | .hbm, ⟨81, _⟩ => ⟨S4x8448x1, .f32⟩
  | .hbm, ⟨82, _⟩ => ⟨S4x8448x1, .f32⟩
  | .hbm, ⟨83, _⟩ => ⟨S_, .f32⟩
  | .hbm, ⟨84, _⟩ => ⟨S4x8448x1, .f32⟩
  | .hbm, ⟨85, _⟩ => ⟨S4x8448x1, .f32⟩
  | .hbm, ⟨86, _⟩ => ⟨S4x8448x1, .f32⟩
  | .hbm, ⟨87, _⟩ => ⟨S4x8448x1024, .f32⟩
  | .hbm, ⟨88, _⟩ => ⟨S4x8448x1024, .f32⟩
  | .hbm, ⟨89, _⟩ => ⟨S1x1x1024, .f32⟩
  | .hbm, ⟨90, _⟩ => ⟨S4x8448x1024, .f32⟩
  | .hbm, ⟨91, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x8448x512 : Shape := ⟨3, ![4, 8448, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x768x1024 : Shape := ⟨3, ![1, 768, 1024]⟩
abbrev S1x768x512 : Shape := ⟨3, ![1, 768, 512]⟩
abbrev S768x1024 : Shape := ⟨2, ![768, 1024]⟩
abbrev S768x1 : Shape := ⟨2, ![768, 1]⟩
abbrev S768x512 : Shape := ⟨2, ![768, 512]⟩
abbrev S512x1024 : Shape := ⟨2, ![512, 1024]⟩
abbrev S768 : Shape := ⟨1, ![768]⟩
abbrev S1024x256 : Shape := ⟨2, ![1024, 256]⟩
abbrev S768x256 : Shape := ⟨2, ![768, 256]⟩
abbrev S256x1024 : Shape := ⟨2, ![256, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .bf16⟩
  | .hbm, ⟨2, _⟩ => ⟨S4x8448x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x512, .bf16⟩
  | .local _ .vmem, ⟨3, _⟩ => ⟨S1x768x512, .bf16⟩
  | .local _ .vmem, ⟨4, _⟩ => ⟨S1x768x512, .bf16⟩
  | .local _ .vmem, ⟨5, _⟩ => ⟨S1x768x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x768x1024, .f32⟩
  | .local _ .vmem, ⟨11, _⟩ => ⟨S1x768x1024, .f32⟩
  | .local _ .vmem, ⟨12, _⟩ => ⟨S768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x8448x1024 : Shape := ⟨3, ![4, 8448, 1024]⟩
abbrev S4x8448x512 : Shape := ⟨3, ![4, 8448, 512]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8448 : Shape := ⟨1, ![8448]⟩
abbrev S_ : Shape := ⟨0, ![]⟩
abbrev S1x8448x1 : Shape := ⟨3, ![1, 8448, 1]⟩
abbrev S4x8448 : Shape := ⟨2, ![4, 8448]⟩
abbrev S4x8448x1 : Shape := ⟨3, ![4, 8448, 1]⟩
abbrev S1x1x1024 : Shape := ⟨3, ![1, 1, 1024]⟩
abbrev S4x8448x5632 : Shape := ⟨3, ![4, 8448, 5632]⟩
abbrev S4x8448x2816 : Shape := ⟨3, ![4, 8448, 2816]⟩

abbrev nBuf : Space → Nat
  | .hbm => 61
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .bf16⟩
  | .hbm, ⟨2, _⟩ => ⟨S4x8448x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x8448x512, .f32⟩
  | .hbm, ⟨8, _⟩ => ⟨S4x8448x512, .f32⟩
  | .hbm, ⟨9, _⟩ => ⟨S8448, .i32⟩
  | .hbm, ⟨10, _⟩ => ⟨S_, .i32⟩
  | .hbm, ⟨11, _⟩ => ⟨S8448, .i32⟩
  | .hbm, ⟨12, _⟩ => ⟨S8448, .i1⟩
  | .hbm, ⟨13, _⟩ => ⟨S8448, .f32⟩
  | .hbm, ⟨14, _⟩ => ⟨S1x8448x1, .f32⟩
  | .hbm, ⟨15, _⟩ => ⟨S_, .f32⟩
  | .hbm, ⟨16, _⟩ => ⟨S1x8448x1, .f32⟩
  | .hbm, ⟨17, _⟩ => ⟨S1x8448x1, .i1⟩
  | .hbm, ⟨18, _⟩ => ⟨S_, .f32⟩
  | .hbm, ⟨19, _⟩ => ⟨S_, .f32⟩
  | .hbm, ⟨20, _⟩ => ⟨S4x8448x1024, .i1⟩
  | .hbm, ⟨21, _⟩ => ⟨S4x8448x1024, .f32⟩
  | .hbm, ⟨22, _⟩ => ⟨S4x8448x1024, .f32⟩
  | .hbm, ⟨23, _⟩ => ⟨S4x8448x1024, .f32⟩
  | .hbm, ⟨24, _⟩ => ⟨S4x8448x1024, .f32⟩
  | .hbm, ⟨25, _⟩ => ⟨S4x8448x1024, .f32⟩
  | .hbm, ⟨26, _⟩ => ⟨S4x8448x1024, .f32⟩
  | .hbm, ⟨27, _⟩ => ⟨S4x8448x1024, .f32⟩
  | .hbm, ⟨28, _⟩ => ⟨S4x8448x1024, .f32⟩
  | .hbm, ⟨29, _⟩ => ⟨S_, .f32⟩
  | .hbm, ⟨30, _⟩ => ⟨S4x8448, .f32⟩
  | .hbm, ⟨31, _⟩ => ⟨S4x8448x1, .f32⟩
  | .hbm, ⟨32, _⟩ => ⟨S_, .f32⟩
  | .hbm, ⟨33, _⟩ => ⟨S4x8448x1, .f32⟩
  | .hbm, ⟨34, _⟩ => ⟨S4x8448x1, .f32⟩
  | .hbm, ⟨35, _⟩ => ⟨S_, .f32⟩
  | .hbm, ⟨36, _⟩ => ⟨S4x8448x1, .f32⟩
  | .hbm, ⟨37, _⟩ => ⟨S4x8448x1, .f32⟩
  | .hbm, ⟨38, _⟩ => ⟨S4x8448x1, .f32⟩
  | .hbm, ⟨39, _⟩ => ⟨S4x8448x1024, .f32⟩
  | .hbm, ⟨40, _⟩ => ⟨S4x8448x1024, .f32⟩
  | .hbm, ⟨41, _⟩ => ⟨S1x1x1024, .f32⟩
  | .hbm, ⟨42, _⟩ => ⟨S4x8448x1024, .f32⟩
  | .hbm, ⟨43, _⟩ => ⟨S4x8448x1024, .f32⟩
  | .hbm, ⟨44, _⟩ => ⟨S4x8448x5632, .f32⟩
  | .hbm, ⟨45, _⟩ => ⟨S4x8448x2816, .f32⟩
  | .hbm, ⟨46, _⟩ => ⟨S4x8448x2816, .f32⟩
  | .hbm, ⟨47, _⟩ => ⟨S4x8448x2816, .f32⟩
  | .hbm, ⟨48, _⟩ => ⟨S4x8448x2816, .f32⟩
  | .hbm, ⟨49, _⟩ => ⟨S_, .f32⟩
  | .hbm, ⟨50, _⟩ => ⟨S4x8448x2816, .f32⟩
  | .hbm, ⟨51, _⟩ => ⟨S4x8448x2816, .f32⟩
  | .hbm, ⟨52, _⟩ => ⟨S_, .f32⟩
  | .hbm, ⟨53, _⟩ => ⟨S4x8448x2816, .f32⟩
  | .hbm, ⟨54, _⟩ => ⟨S4x8448x2816, .f32⟩
  | .hbm, ⟨55, _⟩ => ⟨S4x8448x2816, .f32⟩
  | .hbm, ⟨56, _⟩ => ⟨S4x8448x2816, .f32⟩
  | .hbm, ⟨57, _⟩ => ⟨S4x8448x1024, .f32⟩
  | .hbm, ⟨58, _⟩ => ⟨S4x8448x1024, .f32⟩
  | .hbm, ⟨59, _⟩ => ⟨S4x8448x1024, .f32⟩
  | .hbm, ⟨60, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Kernel4.lean ====
abbrev S4x8448x1024 : Shape := ⟨3, ![4, 8448, 1024]⟩
abbrev S1024 : Shape := ⟨1, ![1024]⟩
abbrev S1024x3072 : Shape := ⟨2, ![1024, 3072]⟩
abbrev S1024x512 : Shape := ⟨2, ![1024, 512]⟩
abbrev S1024x1024 : Shape := ⟨2, ![1024, 1024]⟩
abbrev S_ : Shape := ⟨0, ![]⟩
abbrev S1024x2048 : Shape := ⟨2, ![1024, 2048]⟩
abbrev S2048x1024 : Shape := ⟨2, ![2048, 1024]⟩
abbrev S33792x1024 : Shape := ⟨2, ![33792, 1024]⟩
abbrev S1x1024 : Shape := ⟨2, ![1, 1024]⟩
abbrev S2048x33792 : Shape := ⟨2, ![2048, 33792]⟩
abbrev S512x1024 : Shape := ⟨2, ![512, 1024]⟩
abbrev S2048x512 : Shape := ⟨2, ![2048, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S256x512 : Shape := ⟨2, ![256, 512]⟩

abbrev nBuf : Space → Nat
  | .hbm => 24
  | .vmem => 9
  | .smem => 0
  | _ => 0

abbrev bufTy : (tb : Table) → Fin (tcTables nBuf tb) → BufTy
  | .hbm, ⟨0, _⟩ => ⟨S4x8448x1024, .f32⟩
  | .hbm, ⟨1, _⟩ => ⟨S1024, .f32⟩
  | .hbm, ⟨2, _⟩ => ⟨S1024x3072, .f32⟩
  | .hbm, ⟨3, _⟩ => ⟨S1024x512, .f32⟩
  | .hbm, ⟨4, _⟩ => ⟨S1024x512, .f32⟩
  | .hbm, ⟨5, _⟩ => ⟨S1024x1024, .f32⟩
  | .hbm, ⟨6, _⟩ => ⟨S1024x1024, .bf16⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x2048, .f32⟩
  | .hbm, ⟨18, _⟩ => ⟨S2048x1024, .f32⟩
  | .hbm, ⟨19, _⟩ => ⟨S2048x1024, .bf16⟩
  | .hbm, ⟨20, _⟩ => ⟨S33792x1024, .f32⟩
  | .hbm, ⟨21, _⟩ => ⟨S1x1024, .f32⟩
  | .hbm, ⟨22, _⟩ => ⟨S33792x1024, .bf16⟩
  | .hbm, ⟨23, _⟩ => ⟨S2048x33792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S2048x512, .bf16⟩
  | .local _ .vmem, ⟨8, _⟩ => ⟨S2048x512, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x8448x1024 : Shape := ⟨3, ![4, 8448, 1024]⟩
abbrev S1024 : Shape := ⟨1, ![1024]⟩
abbrev S1024x3072 : Shape := ⟨2, ![1024, 3072]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8448x3072 : Shape := ⟨3, ![4, 8448, 3072]⟩
abbrev S4x8448x512 : Shape := ⟨3, ![4, 8448, 512]⟩
abbrev S4x8448x2048 : Shape := ⟨3, ![4, 8448, 2048]⟩
abbrev S33792x1024 : Shape := ⟨2, ![33792, 1024]⟩
abbrev S33792x2048 : Shape := ⟨2, ![33792, 2048]⟩
abbrev S2048x33792 : Shape := ⟨2, ![2048, 33792]⟩

abbrev nBuf : Space → Nat
  | .hbm => 39
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S1024, .f32⟩
  | .hbm, ⟨2, _⟩ => ⟨S1024x3072, .f32⟩
  | .hbm, ⟨3, _⟩ => ⟨S4x8448x1024, .f32⟩
  | .hbm, ⟨4, _⟩ => ⟨S_, .f32⟩
  | .hbm, ⟨5, _⟩ => ⟨S4x8448, .f32⟩
  | .hbm, ⟨6, _⟩ => ⟨S4x8448x1, .f32⟩
  | .hbm, ⟨7, _⟩ => ⟨S_, .f32⟩
  | .hbm, ⟨8, _⟩ => ⟨S4x8448x1, .f32⟩
  | .hbm, ⟨9, _⟩ => ⟨S4x8448x1, .f32⟩
  | .hbm, ⟨10, _⟩ => ⟨S_, .f32⟩
  | .hbm, ⟨11, _⟩ => ⟨S4x8448x1, .f32⟩
  | .hbm, ⟨12, _⟩ => ⟨S4x8448x1, .f32⟩
  | .hbm, ⟨13, _⟩ => ⟨S4x8448x1, .f32⟩
  | .hbm, ⟨14, _⟩ => ⟨S4x8448x1024, .f32⟩
  | .hbm, ⟨15, _⟩ => ⟨S4x8448x1024, .f32⟩
  | .hbm, ⟨16, _⟩ => ⟨S1x1x1024, .f32⟩
  | .hbm, ⟨17, _⟩ => ⟨S4x8448x1024, .f32⟩
  | .hbm, ⟨18, _⟩ => ⟨S4x8448x1024, .f32⟩
  | .hbm, ⟨19, _⟩ => ⟨S4x8448x3072, .f32⟩
  | .hbm, ⟨20, _⟩ => ⟨S4x8448x512, .f32⟩
  | .hbm, ⟨21, _⟩ => ⟨S4x8448x512, .f32⟩
  | .hbm, ⟨22, _⟩ => ⟨S4x8448x512, .f32⟩
  | .hbm, ⟨23, _⟩ => ⟨S4x8448x512, .f32⟩
  | .hbm, ⟨24, _⟩ => ⟨S4x8448x512, .f32⟩
  | .hbm, ⟨25, _⟩ => ⟨S4x8448x512, .f32⟩
  | .hbm, ⟨26, _⟩ => ⟨S4x8448x1024, .f32⟩
  | .hbm, ⟨27, _⟩ => ⟨S_, .f32⟩
  | .hbm, ⟨28, _⟩ => ⟨S4x8448x512, .f32⟩
  | .hbm, ⟨29, _⟩ => ⟨S4x8448x512, .f32⟩
  | .hbm, ⟨30, _⟩ => ⟨S_, .f32⟩
  | .hbm, ⟨31, _⟩ => ⟨S4x8448x512, .f32⟩
  | .hbm, ⟨32, _⟩ => ⟨S4x8448x512, .f32⟩
  | .hbm, ⟨33, _⟩ => ⟨S4x8448x2048, .f32⟩
  | .hbm, ⟨34, _⟩ => ⟨S33792x1024, .f32⟩
  | .hbm, ⟨35, _⟩ => ⟨S33792x1024, .bf16⟩
  | .hbm, ⟨36, _⟩ => ⟨S33792x2048, .f32⟩
  | .hbm, ⟨37, _⟩ => ⟨S2048x33792, .f32⟩
  | .hbm, ⟨38, _⟩ => ⟨S2048x33792, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel5.lean ====
abbrev S4x8448x1024 : Shape := ⟨3, ![4, 8448, 1024]⟩
abbrev S1024 : Shape := ⟨1, ![1024]⟩
abbrev S1024x2056 : Shape := ⟨2, ![1024, 2056]⟩
abbrev S16x1024 : Shape := ⟨2, ![16, 1024]⟩
abbrev S1024x512 : Shape := ⟨2, ![1024, 512]⟩
abbrev S_ : Shape := ⟨0, ![]⟩
abbrev S1024x1024 : Shape := ⟨2, ![1024, 1024]⟩
abbrev S33792x1024 : Shape := ⟨2, ![33792, 1024]⟩
abbrev S1x1024 : Shape := ⟨2, ![1, 1024]⟩
abbrev S33792x512 : Shape := ⟨2, ![33792, 512]⟩
abbrev S1024x33792 : Shape := ⟨2, ![1024, 33792]⟩
abbrev S16x33792 : Shape := ⟨2, ![16, 33792]⟩
abbrev S512x1024 : Shape := ⟨2, ![512, 1024]⟩
abbrev S512x512 : Shape := ⟨2, ![512, 512]⟩
abbrev S16x512 : Shape := ⟨2, ![16, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S256x512 : Shape := ⟨2, ![256, 512]⟩

abbrev nBuf : Space → Nat
  | .hbm => 23
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S1024, .f32⟩
  | .hbm, ⟨2, _⟩ => ⟨S1024x2056, .f32⟩
  | .hbm, ⟨3, _⟩ => ⟨S16x1024, .bf16⟩
  | .hbm, ⟨4, _⟩ => ⟨S16x1024, .bf16⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x512, .f32⟩
  | .hbm, ⟨16, _⟩ => ⟨S1024x512, .bf16⟩
  | .hbm, ⟨17, _⟩ => ⟨S33792x1024, .f32⟩
  | .hbm, ⟨18, _⟩ => ⟨S1x1024, .f32⟩
  | .hbm, ⟨19, _⟩ => ⟨S33792x512, .bf16⟩
  | .hbm, ⟨20, _⟩ => ⟨S1024x33792, .bf16⟩
  | .hbm, ⟨21, _⟩ => ⟨S33792x512, .f32⟩
  | .hbm, ⟨22, _⟩ => ⟨S16x33792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x1024, .bf16⟩
  | .local _ .vmem, ⟨5, _⟩ => ⟨S1024x512, .bf16⟩
  | .local _ .vmem, ⟨6, _⟩ => ⟨S16x1024, .bf16⟩
  | .local _ .vmem, ⟨7, _⟩ => ⟨S16x1024, .bf16⟩
  | .local _ .vmem, ⟨8, _⟩ => ⟨S512x512, .bf16⟩
  | .local _ .vmem, ⟨9, _⟩ => ⟨S512x512, .bf16⟩
  | .local _ .vmem, ⟨10, _⟩ => ⟨S1024x512, .bf16⟩
  | .local _ .vmem, ⟨11, _⟩ => ⟨S1024x512, .bf16⟩
  | .local _ .vmem, ⟨12, _⟩ => ⟨S512x512, .f32⟩
  | .local _ .vmem, ⟨13, _⟩ => ⟨S512x512, .f32⟩
  | .local _ .vmem, ⟨14, _⟩ => ⟨S16x512, .f32⟩
  | .local _ .vmem, ⟨15, _⟩ => ⟨S16x512, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S4x8448x1024 : Shape := ⟨3, ![4, 8448, 1024]⟩
abbrev S1024 : Shape := ⟨1, ![1024]⟩
abbrev S1024x2056 : Shape := ⟨2, ![1024, 2056]⟩
abbrev S16x1024 : Shape := ⟨2, ![16, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8448x2056 : Shape := ⟨3, ![4, 8448, 2056]⟩
abbrev S4x8448x512 : Shape := ⟨3, ![4, 8448, 512]⟩
abbrev S4x8448x8 : Shape := ⟨3, ![4, 8448, 8]⟩
abbrev S1024x16 : Shape := ⟨2, ![1024, 16]⟩
abbrev S4x8448x16 : Shape := ⟨3, ![4, 8448, 16]⟩
abbrev S33792x512 : Shape := ⟨2, ![33792, 512]⟩
abbrev S33792x1024 : Shape := ⟨2, ![33792, 1024]⟩
abbrev S1024x33792 : Shape := ⟨2, ![1024, 33792]⟩
abbrev S33792x16 : Shape := ⟨2, ![33792, 16]⟩
abbrev S16x33792 : Shape := ⟨2, ![16, 33792]⟩

abbrev nBuf : Space → Nat
  | .hbm => 44
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S1024, .f32⟩
  | .hbm, ⟨2, _⟩ => ⟨S1024x2056, .f32⟩
  | .hbm, ⟨3, _⟩ => ⟨S16x1024, .bf16⟩
  | .hbm, ⟨4, _⟩ => ⟨S16x1024, .bf16⟩
  | .hbm, ⟨5, _⟩ => ⟨S4x8448x1024, .f32⟩
  | .hbm, ⟨6, _⟩ => ⟨S_, .f32⟩
  | .hbm, ⟨7, _⟩ => ⟨S4x8448, .f32⟩
  | .hbm, ⟨8, _⟩ => ⟨S4x8448x1, .f32⟩
  | .hbm, ⟨9, _⟩ => ⟨S_, .f32⟩
  | .hbm, ⟨10, _⟩ => ⟨S4x8448x1, .f32⟩
  | .hbm, ⟨11, _⟩ => ⟨S4x8448x1, .f32⟩
  | .hbm, ⟨12, _⟩ => ⟨S_, .f32⟩
  | .hbm, ⟨13, _⟩ => ⟨S4x8448x1, .f32⟩
  | .hbm, ⟨14, _⟩ => ⟨S4x8448x1, .f32⟩
  | .hbm, ⟨15, _⟩ => ⟨S4x8448x1, .f32⟩
  | .hbm, ⟨16, _⟩ => ⟨S4x8448x1024, .f32⟩
  | .hbm, ⟨17, _⟩ => ⟨S4x8448x1024, .f32⟩
  | .hbm, ⟨18, _⟩ => ⟨S1x1x1024, .f32⟩
  | .hbm, ⟨19, _⟩ => ⟨S4x8448x1024, .f32⟩
  | .hbm, ⟨20, _⟩ => ⟨S4x8448x1024, .f32⟩
  | .hbm, ⟨21, _⟩ => ⟨S4x8448x2056, .f32⟩
  | .hbm, ⟨22, _⟩ => ⟨S4x8448x512, .f32⟩
  | .hbm, ⟨23, _⟩ => ⟨S4x8448x512, .f32⟩
  | .hbm, ⟨24, _⟩ => ⟨S4x8448x512, .f32⟩
  | .hbm, ⟨25, _⟩ => ⟨S4x8448x8, .f32⟩
  | .hbm, ⟨26, _⟩ => ⟨S4x8448x512, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S1024x16, .f32⟩
  | .hbm, ⟨31, _⟩ => ⟨S4x8448x16, .f32⟩
  | .hbm, ⟨32, _⟩ => ⟨S_, .f32⟩
  | .hbm, ⟨33, _⟩ => ⟨S4x8448x512, .f32⟩
  | .hbm, ⟨34, _⟩ => ⟨S4x8448x512, .f32⟩
  | .hbm, ⟨35, _⟩ => ⟨S4x8448x1024, .f32⟩
  | .hbm, ⟨36, _⟩ => ⟨S33792x512, .f32⟩
  | .hbm, ⟨37, _⟩ => ⟨S33792x512, .bf16⟩
  | .hbm, ⟨38, _⟩ => ⟨S33792x1024, .f32⟩
  | .hbm, ⟨39, _⟩ => ⟨S1024x33792, .f32⟩
  | .hbm, ⟨40, _⟩ => ⟨S1024x33792, .bf16⟩
  | .hbm, ⟨41, _⟩ => ⟨S33792x512, .f32⟩
  | .hbm, ⟨42, _⟩ => ⟨S33792x16, .f32⟩
  | .hbm, ⟨43, _⟩ => ⟨S16x33792, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Model.lean ====
/- The states the attention kernel's three scratch buffers pass through, as functions of the staged blocks: the score
   tile of a key tile, the running maximum and the weighted value sum of each of the four heads, one step per key tile. -/
module

public import proofs.«01_k».proof.Proof.Gen.KernelIdeal.Skeleton
public import Idealize.ShloMosaic.Lib.Pipeline.FrameBody
public import Idealize.ShloMosaic.Lib.WritesUnit
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-! ## The staged blocks, cut into tiles -/

/-- 768 rows of the key block, from row `o`. -/
def keyTile (X : Vec F S8448x256 .bf16) (o : ℕ) : Vec F S768x256 .bf16 :=
  fun x => X (fun a => match a with
    | ⟨0, _⟩ => ⟨(o + (x 0).val) % 8448, Nat.mod_lt _ (by decide)⟩
    | ⟨1, _⟩ => x 1)

/-- `n` columns of the transposed value block, from column `o`. -/
def valTile (n : ℕ) (X : Vec F S256x8448 .bf16) (o : ℕ) : Vec F (⟨2, ![256, n]⟩ : Shape) .bf16 :=
  fun x => X (fun a => match a with
    | ⟨0, _⟩ => x 0
    | ⟨1, _⟩ => ⟨(o + (x 1).val) % 8448, Nat.mod_lt _ (by decide)⟩)

/-- The scores of one key tile against the four heads' queries, side by side. -/
def scores (q : FVec F S256x1024 .bf16) (k : Vec F S768x256 .bf16) : FVec F S1x768x1024 .f32 :=
  shapeCast S1x768x1024
    (matmul dot_S768x256_S256x1024_S768x1024_1_0_0_1_n_n none (shapeCast S768x256 k shapeCasts_S768x256_S768x256) q
      (constant S768x1024 .f32 0x00000000#32))
    shapeCasts_S768x1024_S1x768x1024

/-- The first `n` rows of head `h`'s 256 columns of a score tile. -/
def headScores (n : ℕ) (hn : n ≤ 768) (S : FVec F S1x768x1024 .f32) (h : Fin 4) : Vec F (⟨3, ![1, n, 256]⟩ : Shape) .f32 :=
  fun x => S (fun a => match a with
    | ⟨0, _⟩ => x 0
    | ⟨1, _⟩ => ⟨(x 1).val, lt_of_lt_of_le (x 1).isLt hn⟩
    | ⟨2, _⟩ => ⟨256 * h.val + (x 2).val, by have := (x 2).isLt; have := h.isLt; simp at *; omega⟩)

/-! ## One head, one tile -/

/-- The ones row under the values: row 0 of sixteen is one, the others zero. -/
def ones768 : FVec F S16x768 .bf16 :=
  truncf .bf16 (sitofp .f32 (extui 32 (cmpi .eq (iota .tc S16x768 32 [0] iota_S16x768_d0_w32) (broadcast S16x768 0#32)) natLt_1_32)) bitsLt_bf16_f32
def ones512 : FVec F S16x512 .bf16 :=
  truncf .bf16 (sitofp .f32 (extui 32 (cmpi .eq (iota .tc S16x512 32 [0] iota_S16x512_d0_w32) (broadcast S16x512 0#32)) natLt_1_32)) bitsLt_bf16_f32
def ones256 : FVec F S16x256 .bf16 :=
  truncf .bf16 (sitofp .f32 (extui 32 (cmpi .eq (iota .tc S16x256 32 [0] iota_S16x256_d0_w32) (broadcast S16x256 0#32)) natLt_1_32)) bitsLt_bf16_f32

/-- The new running maximum. -/
def max768 (s : FVec F S768x256 .f32) (m : Vec F S1x1x256 .f32) : FVec F S1x256 .f32 :=
  maximumf (shapeCast S1x256 m shapeCasts_S1x1x256_S1x256)
    (shapeCast S1x256 (multiReduction .maximumf [0] S256 s 0xFF800000#32 reduces_S768x256_S256 (.inl rfl) rfl) shapeCasts_S256_S1x256)
def max512 (s : FVec F S512x256 .f32) (m : Vec F S1x1x256 .f32) : FVec F S1x256 .f32 :=
  maximumf (shapeCast S1x256 m shapeCasts_S1x1x256_S1x256)
    (shapeCast S1x256 (multiReduction .maximumf [0] S256 s 0xFF800000#32 reduces_S512x256_S256 (.inl rfl) rfl) shapeCasts_S256_S1x256)
def max256 (s : FVec F S256x256 .f32) (m : Vec F S1x1x256 .f32) : FVec F S1x256 .f32 :=
  maximumf (shapeCast S1x256 m shapeCasts_S1x1x256_S1x256)
    (shapeCast S1x256 (multiReduction .maximumf [0] S256 s 0xFF800000#32 reduces_S256x256_S256 (.inl rfl) rfl) shapeCasts_S256_S1x256)

/-- The new sum: the old one rescaled to the new maximum, and the tile's weights against values and ones. -/
def sum768 (v : FVec F S128x768 .bf16) (s : FVec F S768x256 .f32) (m : Vec F S1x1x256 .f32) (a : Vec F S1x144x256 .f32) : FVec F S1x144x256 .f32 :=
  shapeCast S1x144x256
    (addf
      (mulf (broadcastTo S144x256 (exp (subf (shapeCast S1x256 m shapeCasts_S1x1x256_S1x256) (max768 s m))) broadcasts_S1x256_S144x256)
        (shapeCast S144x256 a shapeCasts_S1x144x256_S144x256))
      (matmul dot_S144x768_S768x256_S144x256_1_0_0_1_n_n none
        (concatenate S144x768 0 [⟨S128x768, v⟩, ⟨S16x768, ones768⟩] concatenates_S128x768_S16x768_S144x768_d0)
        (truncf .bf16 (exp (subf s (broadcastTo S768x256 (max768 s m) broadcasts_S1x256_S768x256))) bitsLt_bf16_f32)
        (constant S144x256 .f32 0x00000000#32)))
    shapeCasts_S144x256_S1x144x256
def sum512 (v : FVec F S128x512 .bf16) (s : FVec F S512x256 .f32) (m : Vec F S1x1x256 .f32) (a : Vec F S1x144x256 .f32) : FVec F S1x144x256 .f32 :=
  shapeCast S1x144x256
    (addf
      (mulf (broadcastTo S144x256 (exp (subf (shapeCast S1x256 m shapeCasts_S1x1x256_S1x256) (max512 s m))) broadcasts_S1x256_S144x256)
        (shapeCast S144x256 a shapeCasts_S1x144x256_S144x256))
      (matmul dot_S144x512_S512x256_S144x256_1_0_0_1_n_n none
        (concatenate S144x512 0 [⟨S128x512, v⟩, ⟨S16x512, ones512⟩] concatenates_S128x512_S16x512_S144x512_d0)
        (truncf .bf16 (exp (subf s (broadcastTo S512x256 (max512 s m) broadcasts_S1x256_S512x256))) bitsLt_bf16_f32)
        (constant S144x256 .f32 0x00000000#32)))
    shapeCasts_S144x256_S1x144x256
def sum256 (v : FVec F S128x256 .bf16) (s : FVec F S256x256 .f32) (m : Vec F S1x1x256 .f32) (a : Vec F S1x144x256 .f32) : FVec F S1x144x256 .f32 :=
  shapeCast S1x144x256
    (addf
      (mulf (broadcastTo S144x256 (exp (subf (shapeCast S1x256 m shapeCasts_S1x1x256_S1x256) (max256 s m))) broadcasts_S1x256_S144x256)
        (shapeCast S144x256 a shapeCasts_S1x144x256_S144x256))
      (matmul dot_S144x256_S256x256_S144x256_1_0_0_1_n_n none
        (concatenate S144x256 0 [⟨S128x256, v⟩, ⟨S16x256, ones256⟩] concatenates_S128x256_S16x256_S144x256_d0)
        (truncf .bf16 (exp (subf s (broadcastTo S256x256 (max256 s m) broadcasts_S1x256_S256x256))) bitsLt_bf16_f32)
        (constant S144x256 .f32 0x00000000#32)))
    shapeCasts_S144x256_S1x144x256

/-- A head's half of a value tile: heads 0 and 1 share rows 0–127, heads 2 and 3 rows 128–255. -/
def vals768 (v : Vec F S256x768 .bf16) (h : Fin 4) : FVec F S128x768 .bf16 :=
  match h with
  | 0 | 1 => extractStridedSlice S128x768 ![0, 0] (shapeCast S256x768 v shapeCasts_S256x768_S256x768) slices_S256x768_o0_0_S128x768
  | 2 | 3 => extractStridedSlice S128x768 ![128, 0] (shapeCast S256x768 v shapeCasts_S256x768_S256x768) slices_S256x768_o128_0_S128x768
def vals512 (v : Vec F S256x512 .bf16) (h : Fin 4) : FVec F S128x512 .bf16 :=
  match h with
  | 0 | 1 => extractStridedSlice S128x512 ![0, 0] (shapeCast S256x512 v shapeCasts_S256x512_S256x512) slices_S256x512_o0_0_S128x512
  | 2 | 3 => extractStridedSlice S128x512 ![128, 0] (shapeCast S256x512 v shapeCasts_S256x512_S256x512) slices_S256x512_o128_0_S128x512
def vals256 (v : Vec F S256x256 .bf16) (h : Fin 4) : FVec F S128x256 .bf16 :=
  match h with
  | 0 | 1 => extractStridedSlice S128x256 ![0, 0] (shapeCast S256x256 v shapeCasts_S256x256_S256x256) slices_S256x256_o0_0_S128x256
  | 2 | 3 => extractStridedSlice S128x256 ![128, 0] (shapeCast S256x256 v shapeCasts_S256x256_S256x256) slices_S256x256_o128_0_S128x256

/-! ## The masks -/

def maskFirst (s : Vec F S1x768x256 .f32) : FVec F S768x256 .f32 :=
  select
    (broadcastTo S768x256
      (shapeCast S768x1 (cmpi .sge (iota .tc S768x1 32 [0] iota_S768x1_d0_w32) (broadcast S768x1 240#32)) shapeCasts_S768x1_S768x1)
      broadcasts_S768x1_S768x256)
    (shapeCast S768x256 s shapeCasts_S1x768x256_S768x256)
    (broadcast S768x256 (Named.named κ "neg" 0xF149F2CA#32))
def maskNone (s : Vec F S1x768x256 .f32) : FVec F S768x256 .f32 := shapeCast S768x256 s shapeCasts_S1x768x256_S768x256
def maskDiag768 (c o : BitVec 32) (s : Vec F S1x768x256 .f32) : FVec F S768x256 .f32 :=
  select
    (andi
      (cmpi .sle (subi (iota .tc S768x256 32 [0] iota_S768x256_d0_w32) (iota .tc S768x256 32 [1] iota_S768x256_d1_w32)) (broadcast S768x256 o))
      (broadcastTo S768x256
        (cmpi .sge (addi (iota .tc S768x1 32 [0] iota_S768x1_d0_w32) (broadcast S768x1 (Scalar.muli c 768#32))) (broadcast S768x1 240#32))
        broadcasts_S768x1_S768x256))
    (shapeCast S768x256 s shapeCasts_S1x768x256_S768x256)
    (broadcast S768x256 (Named.named κ "neg" 0xF149F2CA#32))
def maskDiag512 (c o : BitVec 32) (s : Vec F S1x512x256 .f32) : FVec F S512x256 .f32 :=
  select
    (andi
      (cmpi .sle (subi (iota .tc S512x256 32 [0] iota_S512x256_d0_w32) (iota .tc S512x256 32 [1] iota_S512x256_d1_w32)) (broadcast S512x256 o))
      (broadcastTo S512x256
        (cmpi .sge (addi (iota .tc S512x1 32 [0] iota_S512x1_d0_w32) (broadcast S512x1 (Scalar.muli c 768#32))) (broadcast S512x1 240#32))
        broadcasts_S512x1_S512x256))
    (shapeCast S512x256 s shapeCasts_S1x512x256_S512x256)
    (broadcast S512x256 (Named.named κ "neg" 0xF149F2CA#32))
def maskDiag256 (c o : BitVec 32) (s : Vec F S1x256x256 .f32) : FVec F S256x256 .f32 :=
  select
    (andi
      (cmpi .sle (subi (iota .tc S256x256 32 [0] iota_S256x256_d0_w32) (iota .tc S256x256 32 [1] iota_S256x256_d1_w32)) (broadcast S256x256 o))
      (broadcastTo S256x256
        (cmpi .sge (addi (iota .tc S256x1 32 [0] iota_S256x1_d0_w32) (broadcast S256x1 (Scalar.muli c 768#32))) (broadcast S256x1 240#32))
        broadcasts_S256x1_S256x256))
    (shapeCast S256x256 s shapeCasts_S1x256x256_S256x256)
    (broadcast S256x256 (Named.named κ "neg" 0xF149F2CA#32))

/-! ## The state of the four heads -/

abbrev Sums (F : FTy → Type) [FloatOps F] := Fin 4 → Vec F S1x144x256 .f32
abbrev Maxs (F : FTy → Type) [FloatOps F] := Fin 4 → Vec F S1x1x256 .f32

variable (S : FVec F S1x768x1024 .f32) (c o : BitVec 32)

def stepMax (s : Fin 4 → FVec F S768x256 .f32) (m : Maxs F) : Maxs F :=
  fun h => shapeCast S1x1x256 (max768 (s h) (m h)) shapeCasts_S1x256_S1x1x256
def stepSum (s : Fin 4 → FVec F S768x256 .f32) (v : Vec F S256x768 .bf16) (m : Maxs F) (a : Sums F) : Sums F :=
  fun h => sum768 (vals768 v h) (s h) (m h) (a h)
def stepMax512 (s : Fin 4 → FVec F S512x256 .f32) (m : Maxs F) : Maxs F :=
  fun h => shapeCast S1x1x256 (max512 (s h) (m h)) shapeCasts_S1x256_S1x1x256
def stepSum512 (s : Fin 4 → FVec F S512x256 .f32) (v : Vec F S256x512 .bf16) (m : Maxs F) (a : Sums F) : Sums F :=
  fun h => sum512 (vals512 v h) (s h) (m h) (a h)
def stepMax256 (s : Fin 4 → FVec F S256x256 .f32) (m : Maxs F) : Maxs F :=
  fun h => shapeCast S1x1x256 (max256 (s h) (m h)) shapeCasts_S1x256_S1x1x256
def stepSum256 (s : Fin 4 → FVec F S256x256 .f32) (v : Vec F S256x256 .bf16) (m : Maxs F) (a : Sums F) : Sums F :=
  fun h => sum256 (vals256 v h) (s h) (m h) (a h)

/-- The masked score columns of the four heads. -/
def firstScores : Fin 4 → FVec F S768x256 .f32 := fun h => maskFirst (headScores 768 le_rfl S h)
def midScores : Fin 4 → FVec F S768x256 .f32 := fun h => maskNone (headScores 768 le_rfl S h)
def diagScores768 : Fin 4 → FVec F S768x256 .f32 := fun h => maskDiag768 c o (headScores 768 le_rfl S h)
def diagScores512 : Fin 4 → FVec F S512x256 .f32 := fun h => maskDiag512 c o (headScores 512 (by decide) S h)
def diagScores256 : Fin 4 → FVec F S256x256 .f32 := fun h => maskDiag256 c o (headScores 256 (by decide) S h)

/-- The state before any tile. -/
def noSums : Sums F := fun _ _ => Scalar.ofBits .f32 0x00000000#32
def noMaxs : Maxs F := fun _ _ => Named.named κ "neg" 0xF149F2CA#32

/-- The score tile of key tile `n`. -/
def tileScores (q : FVec F S256x1024 .bf16) (K : Vec F S8448x256 .bf16) (n : ℕ) : FVec F S1x768x1024 .f32 :=
  scores q (keyTile K (768 * n))

/-- The state after the first `n` key tiles, none of them the diagonal one. -/
def before (q : FVec F S256x1024 .bf16) (K : Vec F S8448x256 .bf16) (V : Vec F S256x8448 .bf16) : ℕ → Sums F × Maxs F
  | 0 => (noSums, noMaxs)
  | n + 1 =>
    let s := if n = 0 then firstScores (tileScores q K 0) else midScores (tileScores q K n)
    (stepSum s (valTile 768 V (768 * n)) (before q K V n).2 (before q K V n).1, stepMax s (before q K V n).2)

/-! ## What the scratch buffers hold -/

/-- The sums' buffer holds `A`, head by head. -/
structure HoldsSums (b : Memref sig .tc .vmem S4x144x256 .f32) (f : BufTy.Contents (Elt F) b.view.ty) (A : Sums F) : Prop where
  h0 : b.view.readAt (Elt F) (Rect.unit (s := S4x144x256) ![0, 0, 0] S1x144x256.size inb_S4x144x256_S1x144x256_0_0_0).toLoadRect f = A 0
  h1 : b.view.readAt (Elt F) (Rect.unit (s := S4x144x256) ![1, 0, 0] S1x144x256.size inb_S4x144x256_S1x144x256_1_0_0).toLoadRect f = A 1
  h2 : b.view.readAt (Elt F) (Rect.unit (s := S4x144x256) ![2, 0, 0] S1x144x256.size inb_S4x144x256_S1x144x256_2_0_0).toLoadRect f = A 2
  h3 : b.view.readAt (Elt F) (Rect.unit (s := S4x144x256) ![3, 0, 0] S1x144x256.size inb_S4x144x256_S1x144x256_3_0_0).toLoadRect f = A 3

structure HoldsMaxs (b : Memref sig .tc .vmem S4x1x256 .f32) (f : BufTy.Contents (Elt F) b.view.ty) (A : Maxs F) : Prop where
  h0 : b.view.readAt (Elt F) (Rect.unit (s := S4x1x256) ![0, 0, 0] S1x1x256.size inb_S4x1x256_S1x1x256_0_0_0).toLoadRect f = A 0
  h1 : b.view.readAt (Elt F) (Rect.unit (s := S4x1x256) ![1, 0, 0] S1x1x256.size inb_S4x1x256_S1x1x256_1_0_0).toLoadRect f = A 1
  h2 : b.view.readAt (Elt F) (Rect.unit (s := S4x1x256) ![2, 0, 0] S1x1x256.size inb_S4x1x256_S1x1x256_2_0_0).toLoadRect f = A 2
  h3 : b.view.readAt (Elt F) (Rect.unit (s := S4x1x256) ![3, 0, 0] S1x1x256.size inb_S4x1x256_S1x1x256_3_0_0).toLoadRect f = A 3

/-- Slot `p` of the score buffer holds the tile `S`. -/
def HoldsTile (b : Memref sig .tc .vmem S2x768x1024 .f32) (f : BufTy.Contents (Elt F) b.view.ty) (p : Fin 2) (S : FVec F S1x768x1024 .f32) : Prop :=
  ∀ x : S1x768x1024.Idx, b.view.read (Elt F) f (fun a => match a with | ⟨0, _⟩ => p | ⟨1, _⟩ => x 1 | ⟨2, _⟩ => x 2) = S x

theorem HoldsTile.head {b : Memref sig .tc .vmem S2x768x1024 .f32} {f : BufTy.Contents (Elt F) b.view.ty} {p : Fin 2} {S : FVec F S1x768x1024 .f32}
    (H : HoldsTile b f p S) (n : ℕ) (hn : n ≤ 768) (h : Fin 4) (off : Fin 3 → ℕ) (hoff : off = ![p.val, 0, 256 * h.val])
    (inb : ∀ a, off a + (![1, n, 256] : Fin 3 → ℕ) a ≤ S2x768x1024.size a) :
    b.view.readAt (Elt F) (Rect.unit (s := S2x768x1024) off ![1, n, 256] inb).toLoadRect f = headScores n hn S h := by
  subst hoff
  funext x
  refine Eq.trans ?_ (H _)
  refine congrArg (b.view.read (Elt F) f) (funext fun a => Fin.ext ?_)
  match a with
  | ⟨0, _⟩ => have : (x 0).val = 0 := Nat.lt_one_iff.mp (x 0).isLt; show p.val + 1 * (x 0).val = p.val; omega
  | ⟨1, _⟩ => show 0 + 1 * (x 1).val = (x 1).val; omega
  | ⟨2, _⟩ => show 256 * h.val + 1 * (x 2).val = 256 * h.val + (x 2).val; omega

end Cert.KernelIdeal.Attn

end
-- ==== Proof.Read.lean ====
/- Reading the scratch buffers back after one tile: the four heads' stores, the slot's store, and the windows' loads. -/
module

public import proofs.«01_k».proof.Proof.Model

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- A plane read back off a list whose newest piece is that very plane. -/
theorem plane_same {n d e : ℕ} {el : EltTy} (v : View sig .tc .vmem (⟨3, ![n, d, e]⟩ : Shape) el) (f : v.ty.Contents (Elt F))
    (off : Fin 3 → ℕ) (inb inb' : ∀ a, off a + (![1, d, e] : Fin 3 → ℕ) a ≤ (⟨3, ![n, d, e]⟩ : Shape).size a)
    (w : (Rect.unit (s := (⟨3, ![n, d, e]⟩ : Shape)) off ![1, d, e] inb).shape.Idx → Elt F el) (L : List (View.Piece (Elt F) (⟨3, ![n, d, e]⟩ : Shape) el)) :
    v.readAt (Elt F) (Rect.unit (s := (⟨3, ![n, d, e]⟩ : Shape)) off ![1, d, e] inb').toLoadRect
      (v.writes (Elt F) f (⟨Rect.unit (s := (⟨3, ![n, d, e]⟩ : Shape)) off ![1, d, e] inb, w⟩ :: L)) = w := by
  funext x
  rw [View.readAt_eq_ld]
  exact View.read_writes_cons_unit_of_mem v f inb w L _ x rfl fun a => by
    show off a + 1 * (x a).val = off a + (x a).val; omega

/-- A plane read back past a newest piece that is another plane. -/
theorem plane_other {n d e : ℕ} {el : EltTy} (v : View sig .tc .vmem (⟨3, ![n, d, e]⟩ : Shape) el) (f : v.ty.Contents (Elt F))
    (h h' : ℕ) (hne : h ≠ h') (inb : ∀ a, (![h, 0, 0] : Fin 3 → ℕ) a + (![1, d, e] : Fin 3 → ℕ) a ≤ (⟨3, ![n, d, e]⟩ : Shape).size a)
    (inb' : ∀ a, (![h', 0, 0] : Fin 3 → ℕ) a + (![1, d, e] : Fin 3 → ℕ) a ≤ (⟨3, ![n, d, e]⟩ : Shape).size a)
    (w : (Rect.unit (s := (⟨3, ![n, d, e]⟩ : Shape)) ![h', 0, 0] ![1, d, e] inb').shape.Idx → Elt F el) (L : List (View.Piece (Elt F) (⟨3, ![n, d, e]⟩ : Shape) el)) :
    v.readAt (Elt F) (Rect.unit (s := (⟨3, ![n, d, e]⟩ : Shape)) ![h, 0, 0] ![1, d, e] inb).toLoadRect
        (v.writes (Elt F) f (⟨Rect.unit (s := (⟨3, ![n, d, e]⟩ : Shape)) ![h', 0, 0] ![1, d, e] inb', w⟩ :: L))
      = v.readAt (Elt F) (Rect.unit (s := (⟨3, ![n, d, e]⟩ : Shape)) ![h, 0, 0] ![1, d, e] inb).toLoadRect (v.writes (Elt F) f L) := by
  funext x
  rw [View.readAt_eq_ld, View.readAt_eq_ld]
  refine View.read_writes_cons_unit_of_not_mem v f inb' w L _ rfl (0 : Fin 3) ?_
  have h0 : (x (0 : Fin 3)).val = 0 := Nat.lt_one_iff.mp (x (0 : Fin 3)).isLt
  show h + 1 * (x (0 : Fin 3)).val < h' ∨ h' + 1 ≤ h + 1 * (x (0 : Fin 3)).val
  omega

theorem holdsSums_writes (b : Memref sig .tc .vmem S4x144x256 .f32) (f : BufTy.Contents (Elt F) b.view.ty) {A : Sums F}
    {p0 p1 p2 p3 : Vec F S1x144x256 .f32} (e0 : p0 = A 0) (e1 : p1 = A 1) (e2 : p2 = A 2) (e3 : p3 = A 3) :
    HoldsSums b (b.view.writes (Elt F) f
      [⟨Rect.unit (s := S4x144x256) ![3, 0, 0] S1x144x256.size inb_S4x144x256_S1x144x256_3_0_0, p3⟩,
       ⟨Rect.unit (s := S4x144x256) ![2, 0, 0] S1x144x256.size inb_S4x144x256_S1x144x256_2_0_0, p2⟩,
       ⟨Rect.unit (s := S4x144x256) ![1, 0, 0] S1x144x256.size inb_S4x144x256_S1x144x256_1_0_0, p1⟩,
       ⟨Rect.unit (s := S4x144x256) ![0, 0, 0] S1x144x256.size inb_S4x144x256_S1x144x256_0_0_0, p0⟩]) A := by
  subst e0 e1 e2 e3
  refine ⟨?_, ?_, ?_, ?_⟩
  · rw [plane_other _ _ 0 3 (by decide), plane_other _ _ 0 2 (by decide), plane_other _ _ 0 1 (by decide), plane_same]
  · rw [plane_other _ _ 1 3 (by decide), plane_other _ _ 1 2 (by decide), plane_same]
  · rw [plane_other _ _ 2 3 (by decide), plane_same]
  · rw [plane_same]

/-- Head 0's plane, read back under the other three heads' stores. -/
theorem sums_readCov (b : Memref sig .tc .vmem S4x144x256 .f32) (p0 p1 p2 p3 : Vec F S1x144x256 .f32) :
    b.view.readCov (Val := Elt F)
      [⟨Rect.unit (s := S4x144x256) ![3, 0, 0] S1x144x256.size inb_S4x144x256_S1x144x256_3_0_0, p3⟩,
       ⟨Rect.unit (s := S4x144x256) ![2, 0, 0] S1x144x256.size inb_S4x144x256_S1x144x256_2_0_0, p2⟩,
       ⟨Rect.unit (s := S4x144x256) ![1, 0, 0] S1x144x256.size inb_S4x144x256_S1x144x256_1_0_0, p1⟩,
       ⟨Rect.unit (s := S4x144x256) ![0, 0, 0] S1x144x256.size inb_S4x144x256_S1x144x256_0_0_0, p0⟩]
      (Rect.unit (s := S4x144x256) ![0, 0, 0] S1x144x256.size inb_S4x144x256_S1x144x256_0_0_0).toLoadRect = p0 :=
  (holdsSums_writes b b.view.junk (A := fun h => match h with | 0 => p0 | 1 => p1 | 2 => p2 | 3 => p3) rfl rfl rfl rfl).h0

theorem holdsMaxs_writes (b : Memref sig .tc .vmem S4x1x256 .f32) (f : BufTy.Contents (Elt F) b.view.ty) {A : Maxs F}
    {p0 p1 p2 p3 : Vec F S1x1x256 .f32} (e0 : p0 = A 0) (e1 : p1 = A 1) (e2 : p2 = A 2) (e3 : p3 = A 3) :
    HoldsMaxs b (b.view.writes (Elt F) f
      [⟨Rect.unit (s := S4x1x256) ![3, 0, 0] S1x1x256.size inb_S4x1x256_S1x1x256_3_0_0, p3⟩,
       ⟨Rect.unit (s := S4x1x256) ![2, 0, 0] S1x1x256.size inb_S4x1x256_S1x1x256_2_0_0, p2⟩,
       ⟨Rect.unit (s := S4x1x256) ![1, 0, 0] S1x1x256.size inb_S4x1x256_S1x1x256_1_0_0, p1⟩,
       ⟨Rect.unit (s := S4x1x256) ![0, 0, 0] S1x1x256.size inb_S4x1x256_S1x1x256_0_0_0, p0⟩]) A := by
  subst e0 e1 e2 e3
  refine ⟨?_, ?_, ?_, ?_⟩
  · rw [plane_other _ _ 0 3 (by decide), plane_other _ _ 0 2 (by decide), plane_other _ _ 0 1 (by decide), plane_same]
  · rw [plane_other _ _ 1 3 (by decide), plane_other _ _ 1 2 (by decide), plane_same]
  · rw [plane_other _ _ 2 3 (by decide), plane_same]
  · rw [plane_same]

/-- The state before any tile, as the opening stores leave it. -/
theorem holdsSums_none (b : Memref sig .tc .vmem S4x144x256 .f32) (f : BufTy.Contents (Elt F) b.view.ty) :
    HoldsSums b (b.view.writes (Elt F) f
      [⟨Rect.unit (s := S4x144x256) ![0, 0, 0] S4x144x256.size inb_S4x144x256_S4x144x256_0_0_0, k0_pay261 (F := F)⟩]) noSums := by
  refine ⟨?_, ?_, ?_, ?_⟩ <;>
  · funext x
    rw [View.readAt_eq_ld]
    exact congrFun (View.read_writes_full b.view f inb_S4x144x256_S4x144x256_0_0_0 _ []) _
theorem holdsMaxs_none (b : Memref sig .tc .vmem S4x1x256 .f32) (f : BufTy.Contents (Elt F) b.view.ty) :
    HoldsMaxs b (b.view.writes (Elt F) f
      [⟨Rect.unit (s := S4x1x256) ![0, 0, 0] S4x1x256.size inb_S4x1x256_S4x1x256_0_0_0, k0_pay263 (F := F) k0_pay262⟩]) noMaxs := by
  refine ⟨?_, ?_, ?_, ?_⟩ <;>
  · funext x
    rw [View.readAt_eq_ld]
    exact congrFun (View.read_writes_full b.view f inb_S4x1x256_S4x1x256_0_0_0 _ []) _

theorem holdsTile_of_readAt {b : Memref sig .tc .vmem S2x768x1024 .f32} {f : BufTy.Contents (Elt F) b.view.ty} {p : Fin 2} {S : FVec F S1x768x1024 .f32}
    (inb : ∀ a, (![p.val, 0, 0] : Fin 3 → ℕ) a + S1x768x1024.size a ≤ S2x768x1024.size a)
    (H : b.view.readAt (Elt F) (Rect.unit (s := S2x768x1024) ![p.val, 0, 0] S1x768x1024.size inb).toLoadRect f = S) : HoldsTile b f p S := by
  intro x
  subst H
  refine congrArg (b.view.read (Elt F) f) (funext fun a => Fin.ext ?_)
  match a with
  | ⟨0, _⟩ => have : (x 0).val = 0 := Nat.lt_one_iff.mp (x 0).isLt; show p.val = p.val + 1 * (x 0).val; omega
  | ⟨1, _⟩ => show (x 1).val = 0 + 1 * (x 1).val; omega
  | ⟨2, _⟩ => show (x 2).val = 0 + 1 * (x 2).val; omega

theorem holdsTile_writes (b : Memref sig .tc .vmem S2x768x1024 .f32) (f : BufTy.Contents (Elt F) b.view.ty) (p : Fin 2)
    (inb : ∀ a, (![p.val, 0, 0] : Fin 3 → ℕ) a + S1x768x1024.size a ≤ S2x768x1024.size a) (S : FVec F S1x768x1024 .f32)
    (L : List (View.Piece (Elt F) S2x768x1024 .f32)) :
    HoldsTile b (b.view.writes (Elt F) f (⟨Rect.unit (s := S2x768x1024) ![p.val, 0, 0] S1x768x1024.size inb, S⟩ :: L)) p S :=
  holdsTile_of_readAt inb (plane_same _ _ _ _ _ _ _)

/-- A tile of the key block, loaded. -/
theorem keyTile_of (b : Memref sig .tc .vmem S8448x256 .bf16) (f : BufTy.Contents (Elt F) b.view.ty) (off : Fin 2 → ℕ) (o : ℕ) (hoff : off = ![o, 0])
    (inb : ∀ a, off a + S768x256.size a ≤ S8448x256.size a) :
    b.view.readAt (Elt F) (Rect.unit (s := S8448x256) off S768x256.size inb).toLoadRect f = keyTile (b.view.read (Elt F) f) o := by
  subst hoff
  funext x
  refine congrArg (b.view.read (Elt F) f) (funext fun a => Fin.ext ?_)
  have h0 : o + 768 ≤ 8448 := inb 0
  have h1 : (x 0).val < 768 := (x 0).isLt
  match a with
  | ⟨0, _⟩ => show o + 1 * (x 0).val = (o + (x 0).val) % 8448; rw [Nat.mod_eq_of_lt (by omega)]; omega
  | ⟨1, _⟩ => show 0 + 1 * (x 1).val = (x 1).val; omega

/-- A tile of the value block, loaded. -/
theorem valTile_of (n : ℕ) (b : Memref sig .tc .vmem S256x8448 .bf16) (f : BufTy.Contents (Elt F) b.view.ty) (off : Fin 2 → ℕ) (o : ℕ) (hoff : off = ![0, o])
    (inb : ∀ a, off a + (![256, n] : Fin 2 → ℕ) a ≤ S256x8448.size a) :
    b.view.readAt (Elt F) (Rect.unit (s := S256x8448) off ![256, n] inb).toLoadRect f = valTile n (b.view.read (Elt F) f) o := by
  subst hoff
  funext x
  refine congrArg (b.view.read (Elt F) f) (funext fun a => Fin.ext ?_)
  have h0 : o + n ≤ 8448 := inb 1
  have h1 : (x 1).val < n := (x 1).isLt
  match a with
  | ⟨0, _⟩ => show 0 + 1 * (x 0).val = (x 0).val; omega
  | ⟨1, _⟩ => show o + 1 * (x 1).val = (o + (x 1).val) % 8448; rw [Nat.mod_eq_of_lt (by omega)]; omega

end Cert.KernelIdeal.Attn

end
-- ==== Proof.Trip.lean ====
/- One trip of the loop over the unmasked key tiles. -/
module

public import proofs.«01_k».proof.Proof.Read
public import proofs.«01_k».proof.Proof.Gen.KernelIdeal.Launch
public import Idealize.ShloMosaic.Lib.Exec
public import Idealize.ShloMosaic.Lib.Tactic
public import Idealize.ShloMosaic.Lib.Pipeline.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers a tile's step works on: keys and values read, sums, maxima and score slots rewritten. -/
def Bufs (c : Dev nD) (arg3 : Memref sig .tc .vmem S8448x256 .bf16) (arg5 : Memref sig .tc .vmem S256x8448 .bf16) (arg9 : Memref sig .tc .vmem S4x144x256 .f32) (arg10 : Memref sig .tc .vmem S4x1x256 .f32) (arg11 : Memref sig .tc .vmem S2x768x1024 .f32)
    (X3 : BufTy.Contents (Elt F) arg3.view.ty) (X5 : BufTy.Contents (Elt F) arg5.view.ty)
    (P : BufTy.Contents (Elt F) arg9.view.ty → BufTy.Contents (Elt F) arg10.view.ty → BufTy.Contents (Elt F) arg11.view.ty → Prop) : sProp 𝕄 :=
  iprop((arg3.view.loc (c : Thread nD τ) ↦[arg3.view.set]{fullShare} X3) ∗ (arg5.view.loc (c : Thread nD τ) ↦[arg5.view.set]{fullShare} X5)
    ∗ ∃ f9 f10 f11, (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ ⌜P f9 f10 f11⌝)

/-- The five buffers at contents of which `P` is known. -/
theorem Bufs.of {c : Dev nD} {arg3 : Memref sig .tc .vmem S8448x256 .bf16} {arg5 : Memref sig .tc .vmem S256x8448 .bf16} {arg9 : Memref sig .tc .vmem S4x144x256 .f32} {arg10 : Memref sig .tc .vmem S4x1x256 .f32} {arg11 : Memref sig .tc .vmem S2x768x1024 .f32}
    {X3 : BufTy.Contents (Elt F) arg3.view.ty} {X5 : BufTy.Contents (Elt F) arg5.view.ty}
    {P : BufTy.Contents (Elt F) arg9.view.ty → BufTy.Contents (Elt F) arg10.view.ty → BufTy.Contents (Elt F) arg11.view.ty → Prop}
    {f9 : BufTy.Contents (Elt F) arg9.view.ty} {f10 : BufTy.Contents (Elt F) arg10.view.ty} {f11 : BufTy.Contents (Elt F) arg11.view.ty} (h : P f9 f10 f11) :
    iprop((arg3.view.loc (c : Thread nD τ) ↦[arg3.view.set]{fullShare} X3) ∗ (arg5.view.loc (c : Thread nD τ) ↦[arg5.view.set]{fullShare} X5)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11)) ⊢ Bufs c arg3 arg5 arg9 arg10 arg11 X3 X5 P := by
  unfold Bufs
  iintro ⟨H3, H5, H9, H10, H11⟩
  isplitl [H3]; · iexact H3
  isplitl [H5]; · iexact H5
  iexists f9
  iexists f10
  iexists f11
  isplitl [H9]; · iexact H9
  isplitl [H10]; · iexact H10
  isplitl [H11]; · iexact H11
  ipureintro; exact h

/-- A trip at an even tile: scores of the next tile into slot 1, the tile in slot 0 added. -/
theorem trip_even (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v11 : FVec F S256x1024 .bf16) (v28 : BitVec 32) (v31 : BitVec 32) (v36 : FVec F S4x1x256 .f32)
    (X3 : BufTy.Contents (Elt F) arg3.view.ty) (X5 : BufTy.Contents (Elt F) arg5.view.ty) (k : Fin (k0_t1_loop i).trips)
    (ok ov : ℕ) (k0_h2 :  k0_cond2 i k = 1#1) (k0_h3 : ¬ k0_cond3 i k = 1#1) (o1 : k0_off1 i k = ![ok, 0]) (o2 : k0_off2 i k = ![0, ov])
    (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 0 S)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 v11 v28 v31 v36 k PUnit.unit)
          (fun _ => Bufs c arg3 arg5 arg9 arg10 arg11 X3 X5 (fun f9 f10 f11 =>
            HoldsSums arg9 f9 (stepSum (midScores S) (valTile 768 (arg5.view.read (Elt F) X5) ov) M A) ∧ HoldsMaxs arg10 f10 (stepMax (midScores S) M)
            ∧ HoldsTile arg11 f11 1 (scores v11 (keyTile (arg3.view.read (Elt F) X3) ok)))) := by
  unfold k0_t1_body
  simp only [k0_part4_eq_skeleton, k0_part5_eq_skeleton, k0_part6_eq_skeleton]
  unfold k0_part4_skel k0_part5_skel k0_part6_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 768 le_rfl 0 _ rfl inb_S2x768x1024_S1x768x256_0_0_0
  have s1 := hS.head 768 le_rfl 1 _ rfl inb_S2x768x1024_S1x768x256_0_0_256
  have s2 := hS.head 768 le_rfl 2 _ rfl inb_S2x768x1024_S1x768x256_0_0_512
  have s3 := hS.head 768 le_rfl 3 _ rfl inb_S2x768x1024_S1x768x256_0_0_768
  have hk := fun inb => keyTile_of arg3 X3 _ ok o1 inb
  have hv := fun inb => valTile_of 768 arg5 X5 _ ov o2 inb
  sl_exec
  sl_step
  iapply (Bufs.of ⟨holdsSums_writes _ _ rfl rfl rfl rfl, holdsMaxs_writes _ _ rfl rfl rfl rfl, holdsTile_writes _ _ 1 _ _ []⟩)
  isplitl [H3]; · iexact H3
  isplitl [H5]; · iexact H5
  isplitl [H9]; · iexact H9
  isplitl [H10]; · iexact H10
  iexact H11

/-- A trip at an odd tile: the slots exchanged. -/
theorem trip_odd (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v11 : FVec F S256x1024 .bf16) (v28 : BitVec 32) (v31 : BitVec 32) (v36 : FVec F S4x1x256 .f32)
    (X3 : BufTy.Contents (Elt F) arg3.view.ty) (X5 : BufTy.Contents (Elt F) arg5.view.ty) (k : Fin (k0_t1_loop i).trips)
    (ok ov : ℕ) (k0_h2 : ¬ k0_cond2 i k = 1#1) (k0_h3 :  k0_cond3 i k = 1#1) (o1 : k0_off3 i k = ![ok, 0]) (o2 : k0_off4 i k = ![0, ov])
    (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 1 S)
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 v11 v28 v31 v36 k PUnit.unit)
          (fun _ => Bufs c arg3 arg5 arg9 arg10 arg11 X3 X5 (fun f9 f10 f11 =>
            HoldsSums arg9 f9 (stepSum (midScores S) (valTile 768 (arg5.view.read (Elt F) X5) ov) M A) ∧ HoldsMaxs arg10 f10 (stepMax (midScores S) M)
            ∧ HoldsTile arg11 f11 0 (scores v11 (keyTile (arg3.view.read (Elt F) X3) ok)))) := by
  unfold k0_t1_body
  simp only [k0_part7_eq_skeleton, k0_part8_eq_skeleton, k0_part9_eq_skeleton]
  unfold k0_part7_skel k0_part8_skel k0_part9_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 768 le_rfl 0 _ rfl inb_S2x768x1024_S1x768x256_1_0_0
  have s1 := hS.head 768 le_rfl 1 _ rfl inb_S2x768x1024_S1x768x256_1_0_256
  have s2 := hS.head 768 le_rfl 2 _ rfl inb_S2x768x1024_S1x768x256_1_0_512
  have s3 := hS.head 768 le_rfl 3 _ rfl inb_S2x768x1024_S1x768x256_1_0_768
  have hk := fun inb => keyTile_of arg3 X3 _ ok o1 inb
  have hv := fun inb => valTile_of 768 arg5 X5 _ ov o2 inb
  sl_exec
  sl_step
  iapply (Bufs.of ⟨holdsSums_writes _ _ rfl rfl rfl rfl, holdsMaxs_writes _ _ rfl rfl rfl rfl, holdsTile_writes _ _ 0 _ _ []⟩)
  isplitl [H3]; · iexact H3
  isplitl [H5]; · iexact H5
  isplitl [H9]; · iexact H9
  isplitl [H10]; · iexact H10
  iexact H11

end Cert.KernelIdeal.Attn

end
-- ==== Proof.Forms.lean ====
/- Which tile a grid step works on: the conditions, trip counts and offsets of the body in closed form. -/
module

public import proofs.«01_k».proof.Proof.Gen.KernelIdeal.Points
public import proofs.«01_k».proof.Proof.Gen.KernelIdeal.Skeleton

@[expose] public section

set_option maxRecDepth 16384

namespace Cert.KernelIdeal.Attn

open Cert.KernelIdeal Cert.KernelIdeal.Gen
open Idealize.ShloMosaic

/-- The key tile the diagonal of grid step `t` lies in. -/
def diagTile (t : Fin grid0.N) : ℕ := t.val % 33 / 3

/-- Which third of that key tile the query tile's columns meet on the diagonal. -/
def diagThird (t : Fin grid0.N) : ℕ := t.val % 33 % 3

theorem diagTile_lt (t : Fin grid0.N) : diagTile t < 11 := by unfold diagTile; omega

theorem trips_eq : ∀ t : Fin grid0.N, (k0_t1_loop (grid0.coords t)).trips = diagTile t - 1 := by decide +kernel

theorem cond1_eq : ∀ t : Fin grid0.N, k0_cond1 (grid0.coords t) = if 0 < diagTile t then 1#1 else 0#1 := by decide +kernel

theorem trip_forms : ∀ t : Fin grid0.N, ∀ k : Fin (k0_t1_loop (grid0.coords t)).trips,
    if (k.val + 1) % 2 = 0 then
      k0_cond2 (grid0.coords t) k = 1#1 ∧ ¬ k0_cond3 (grid0.coords t) k = 1#1
        ∧ k0_off1 (grid0.coords t) k = ![768 * (k.val + 2), 0] ∧ k0_off2 (grid0.coords t) k = ![0, 768 * (k.val + 1)]
    else
      ¬ k0_cond2 (grid0.coords t) k = 1#1 ∧ k0_cond3 (grid0.coords t) k = 1#1
        ∧ k0_off3 (grid0.coords t) k = ![768 * (k.val + 2), 0] ∧ k0_off4 (grid0.coords t) k = ![0, 768 * (k.val + 1)] := by
  decide +kernel

theorem diag_conds : ∀ t : Fin grid0.N,
    k0_cond6 (grid0.coords t) = (if diagTile t % 2 = 0 ∧ diagThird t = 0 then 1#1 else 0#1)
      ∧ k0_cond7 (grid0.coords t) = (if diagTile t % 2 = 0 ∧ diagThird t = 1 then 1#1 else 0#1)
      ∧ k0_cond8 (grid0.coords t) = (if diagTile t % 2 = 0 ∧ diagThird t = 2 then 1#1 else 0#1)
      ∧ k0_cond9 (grid0.coords t) = (if diagTile t % 2 = 1 ∧ diagThird t = 0 then 1#1 else 0#1)
      ∧ k0_cond10 (grid0.coords t) = (if diagTile t % 2 = 1 ∧ diagThird t = 1 then 1#1 else 0#1)
      ∧ k0_cond11 (grid0.coords t) = (if diagTile t % 2 = 1 ∧ diagThird t = 2 then 1#1 else 0#1) := by
  decide +kernel

theorem diag_offs : ∀ t : Fin grid0.N,
    k0_off9 (grid0.coords t) = ![0, 768 * diagTile t] ∧ k0_off10 (grid0.coords t) = ![0, 768 * diagTile t]
      ∧ k0_off11 (grid0.coords t) = ![0, 768 * diagTile t] ∧ k0_off12 (grid0.coords t) = ![0, 768 * diagTile t]
      ∧ k0_off13 (grid0.coords t) = ![0, 768 * diagTile t] ∧ k0_off14 (grid0.coords t) = ![0, 768 * diagTile t] := by
  decide +kernel

/-- The word of the diagonal's key tile, as the body computes it from the third grid coordinate. -/
def tileWord (t : Fin grid0.N) : BitVec 32 :=
  let x : BitVec 32 := BitVec.ofNat 32 (grid0.coords t 2).val
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 3#32 0#32)) (Scalar.extui (Scalar.cmpi .slt 3#32 0#32))))
      (Scalar.cmpi .ne (Scalar.remsi x 3#32) 0#32))
    (Scalar.subi (Scalar.divsi x 3#32) 1#32) (Scalar.divsi x 3#32)

/-- The word of the query tile's first column, counted from the key tile's first row. -/
def thirdWord (t : Fin grid0.N) : BitVec 32 :=
  Scalar.muli (Scalar.subi (BitVec.ofNat 32 (grid0.coords t 2).val) (Scalar.muli (tileWord t) 3#32)) 256#32

theorem tileWord_eq : ∀ t : Fin grid0.N, tileWord t = BitVec.ofNat 32 (diagTile t) := by decide +kernel
theorem thirdWord_eq : ∀ t : Fin grid0.N, thirdWord t = BitVec.ofNat 32 (256 * diagThird t) := by decide +kernel

end Cert.KernelIdeal.Attn

end
-- ==== Proof.Walk.lean ====
/- Every key tile up to the diagonal one: the opening stores, the first tile, and the loop over the tiles between. -/
module

public import proofs.«01_k».proof.Proof.Trip
public import proofs.«01_k».proof.Proof.Forms
public import proofs.«01_k».proof.Proof.Gen.KernelIdeal.Launch
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem Bufs.out {c : Dev nD} {arg3 : Memref sig .tc .vmem S8448x256 .bf16} {arg5 : Memref sig .tc .vmem S256x8448 .bf16} {arg9 : Memref sig .tc .vmem S4x144x256 .f32} {arg10 : Memref sig .tc .vmem S4x1x256 .f32} {arg11 : Memref sig .tc .vmem S2x768x1024 .f32}
    {X3 : BufTy.Contents (Elt F) arg3.view.ty} {X5 : BufTy.Contents (Elt F) arg5.view.ty}
    {P : BufTy.Contents (Elt F) arg9.view.ty → BufTy.Contents (Elt F) arg10.view.ty → BufTy.Contents (Elt F) arg11.view.ty → Prop} :
    Bufs c arg3 arg5 arg9 arg10 arg11 X3 X5 P
      ⊢ iprop((arg3.view.loc (c : Thread nD τ) ↦[arg3.view.set]{fullShare} X3) ∗ (arg5.view.loc (c : Thread nD τ) ↦[arg5.view.set]{fullShare} X5)
    ∗ ∃ f9 f10 f11, (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ ⌜P f9 f10 f11⌝) := by
  unfold Bufs; exact Entails.rfl

/-- Before the diagonal tile `n`: the state after the tiles before it, and its scores in their slot. -/
def Reached (c : Dev nD) (arg3 : Memref sig .tc .vmem S8448x256 .bf16) (arg5 : Memref sig .tc .vmem S256x8448 .bf16) (arg9 : Memref sig .tc .vmem S4x144x256 .f32) (arg10 : Memref sig .tc .vmem S4x1x256 .f32) (arg11 : Memref sig .tc .vmem S2x768x1024 .f32)
    (X3 : BufTy.Contents (Elt F) arg3.view.ty) (X5 : BufTy.Contents (Elt F) arg5.view.ty) (q : FVec F S256x1024 .bf16) (n : ℕ) : sProp 𝕄 :=
  Bufs c arg3 arg5 arg9 arg10 arg11 X3 X5 (fun f9 f10 f11 =>
    HoldsSums arg9 f9 (before q (arg3.view.read (Elt F) X3) (arg5.view.read (Elt F) X5) n).1
    ∧ HoldsMaxs arg10 f10 (before q (arg3.view.read (Elt F) X3) (arg5.view.read (Elt F) X5) n).2
    ∧ HoldsTile arg11 f11 (if n % 2 = 0 then 0 else 1) (tileScores q (arg3.view.read (Elt F) X3) n))

/-- A trip of the loop goes from tile `k + 1` to tile `k + 2`. -/
theorem trip (c : Dev nD) (E : Set ℕ) (t : Fin grid0.N) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v11 : FVec F S256x1024 .bf16) (v28 : BitVec 32) (v31 : BitVec 32) (v36 : FVec F S4x1x256 .f32)
    (X3 : BufTy.Contents (Elt F) arg3.view.ty) (X5 : BufTy.Contents (Elt F) arg5.view.ty) (k : Fin (k0_t1_loop (grid0.coords t)).trips) :
    Reached c arg3 arg5 arg9 arg10 arg11 X3 X5 v11 (k.val + 1)
      ⊢ wp frame (wpE (defs₀ (F := F)) Variants.none (c : Thread nD τ) none) E (k0_t1_body (F := F) (grid0.coords t) arg3 harg3 arg4 harg4 arg5 harg5 arg6 harg6 arg7 harg7 arg8 harg8 arg9 harg9 arg10 harg10 arg11 harg11 v11 v28 v31 v36 k PUnit.unit)
          (fun _ => Reached c arg3 arg5 arg9 arg10 arg11 X3 X5 v11 (k.val + 1 + 1)) := by
  have hf := trip_forms t k
  unfold Reached
  by_cases hp : (k.val + 1) % 2 = 0
  · rw [if_pos hp] at hf
    have h2 : ¬ (k.val + 1 + 1) % 2 = 0 := by omega
    rw [if_pos hp, if_neg h2]
    obtain ⟨h2, h3, o1, o2⟩ := hf
    exact trip_even c E _ arg3 harg3 arg4 harg4 arg5 harg5 arg6 harg6 arg7 harg7 arg8 harg8 arg9 harg9 arg10 harg10 arg11 harg11 v11 v28 v31 v36 X3 X5 k _ _ h2 h3 o1 o2 _ _ _
  · rw [if_neg hp] at hf
    have h2 : (k.val + 1 + 1) % 2 = 0 := by omega
    rw [if_neg hp, if_pos h2]
    obtain ⟨h2, h3, o1, o2⟩ := hf
    exact trip_odd c E _ arg3 harg3 arg4 harg4 arg5 harg5 arg6 harg6 arg7 harg7 arg8 harg8 arg9 harg9 arg10 harg10 arg11 harg11 v11 v28 v31 v36 X3 X5 k _ _ h2 h3 o1 o2 _ _ _

/-- The part before the diagonal: from cleared sums to the state the diagonal tile is added to. -/
theorem part35_run (c : Dev nD) (E : Set ℕ) (t : Fin grid0.N) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v11 : FVec F S256x1024 .bf16) (v28 : BitVec 32) (v31 : BitVec 32)
    (X3 : BufTy.Contents (Elt F) arg3.view.ty) (X5 : BufTy.Contents (Elt F) arg5.view.ty) :
    Bufs c arg3 arg5 arg9 arg10 arg11 X3 X5 (fun f9 _ _ => HoldsSums arg9 f9 noSums)
      ⊢ wp frame (wpE (defs₀ (F := F)) Variants.none (c : Thread nD τ) none) E (k0_part35 (F := F) (grid0.coords t) arg3 harg3 arg4 harg4 arg5 harg5 arg6 harg6 arg7 harg7 arg8 harg8 arg9 harg9 arg10 harg10 arg11 harg11 v11 v28 v31 k0_pay262)
          (fun _ => Reached c arg3 arg5 arg9 arg10 arg11 X3 X5 v11 (diagTile t)) := by
  have hc := cond1_eq t
  rw [k0_part35_eq_skeleton]; unfold k0_part35_skel
  simp only [k0_part1_eq_skeleton, k0_part2_eq_skeleton, k0_part3_eq_skeleton]
  unfold k0_part1_skel k0_part2_skel k0_part3_skel
  conv => lhs; unfold Bufs
  iintro ⟨H3, H5, %f9, %f10, %f11, H9, H10, H11, %hP⟩
  simp only [Prog.lift, Prog.bind_op, Prog.bind_ret, Prog.pure_eq_ret, Prog.bind_assoc]
  sl_step
  sl_step
  sl_step
  sl_step
  sl_step
  ihave HB := (Bufs.of (P := fun g9 g10 g11 => HoldsSums arg9 g9 noSums ∧ HoldsMaxs arg10 g10 noMaxs
      ∧ HoldsTile arg11 g11 0 (tileScores v11 (arg3.view.read (Elt F) X3) 0))
    ⟨hP, holdsMaxs_none arg10 f10, holdsTile_of_readAt inb_S2x768x1024_S1x768x1024_0_0_0
      ((plane_same _ f11 _ _ _ _ []).trans (congrArg (scores v11) (keyTile_of arg3 X3 _ 0 rfl _)))⟩) $$ [H3 H5 H9 H10 H11]
  · isplitl [H3]; · iexact H3
    isplitl [H5]; · iexact H5
    isplitl [H9]; · iexact H9
    isplitl [H10]; · iexact H10
    iexact H11
  by_cases h0 : 0 < diagTile t
  · rw [if_pos h0] at hc
    ihave HB := Bufs.out $$ HB
    icases HB with ⟨H3, H5, %g9, %g10, %g11, H9, H10, H11, %hQ⟩
    obtain ⟨⟨a0, a1, a2, a3⟩, ⟨m0, m1, m2, m3⟩, hS⟩ := hQ
    have s0 := hS.head 768 le_rfl 0 _ rfl inb_S2x768x1024_S1x768x256_0_0_0
    have s1 := hS.head 768 le_rfl 1 _ rfl inb_S2x768x1024_S1x768x256_0_0_256
    have s2 := hS.head 768 le_rfl 2 _ rfl inb_S2x768x1024_S1x768x256_0_0_512
    have s3 := hS.head 768 le_rfl 3 _ rfl inb_S2x768x1024_S1x768x256_0_0_768
    have hk := keyTile_of arg3 X3 _ 768 rfl inb_S8448x256_S768x256_768_0
    have hv := valTile_of 768 arg5 X5 _ 0 rfl inb_S256x8448_S256x768_0_0
    sl_exec
    have hR : ∀ {g9' g10' g11'}, HoldsSums arg9 g9' (stepSum (firstScores (tileScores v11 (arg3.view.read (Elt F) X3) 0)) (valTile 768 (arg5.view.read (Elt F) X5) 0) noMaxs noSums)
      → HoldsMaxs arg10 g10' (stepMax (firstScores (tileScores v11 (arg3.view.read (Elt F) X3) 0)) noMaxs)
      → HoldsTile arg11 g11' 1 (scores v11 (keyTile (arg3.view.read (Elt F) X3) 768)) → iprop((arg3.view.loc (c : Thread nD τ) ↦[arg3.view.set]{fullShare} X3) ∗ (arg5.view.loc (c : Thread nD τ) ↦[arg5.view.set]{fullShare} X5)
      ∗ (arg9.view.loc (c : Thread nD τ) ↦[arg9.view.set]{fullShare} g9') ∗ (arg10.view.loc (c : Thread nD τ) ↦[arg10.view.set]{fullShare} g10')
      ∗ (arg11.view.loc (c : Thread nD τ) ↦[arg11.view.set]{fullShare} g11')) ⊢ Reached c arg3 arg5 arg9 arg10 arg11 X3 X5 v11 1 :=
      fun h1 h2 h3 => Bufs.of ⟨h1, h2, h3⟩
    ihave HB := (hR (holdsSums_writes _ _ rfl rfl rfl rfl) (holdsMaxs_writes _ _ rfl rfl rfl rfl) (holdsTile_writes _ _ 1 _ _ [])) $$ [H3 H5 H9 H10 H11]
    · isplitl [H3]; · iexact H3
      isplitl [H5]; · iexact H5
      isplitl [H9]; · iexact H9
      isplitl [H10]; · iexact H10
      iexact H11
    sl_for (fun k _ => Reached c arg3 arg5 arg9 arg10 arg11 X3 X5 v11 (k + 1)) $$ [HB]
    · intro k acc
      exact trip c E t arg3 harg3 arg4 harg4 arg5 harg5 arg6 harg6 arg7 harg7 arg8 harg8 arg9 harg9 arg10 harg10 arg11 harg11 v11 v28 v31 k0_pay262 X3 X5 k
    · iexact HB
    have hn : (k0_t1_loop (grid0.coords t)).trips + 1 = diagTile t := by rw [trips_eq]; omega
    have hR' := Entails.of_eq (congrArg (Reached c arg3 arg5 arg9 arg10 arg11 X3 X5 v11) hn)
    iintro %acc HB
    ihave HB := hR' $$ HB
    sl_exec
    sl_step
    iexact HB
  · rw [if_neg h0] at hc
    have hn : ¬ k0_cond1 (grid0.coords t) = 1#1 := by rw [hc]; decide
    have htr : (k0_t1_loop (grid0.coords t)).trips = 0 := by rw [trips_eq]; omega
    have hz : diagTile t = 0 := by omega
    rw [hz]
    sl_exec
    sl_step
    unfold Reached
    iexact HB

end Cert.KernelIdeal.Attn

end
-- ==== Proof.Diag.lean ====
/- The diagonal tile: six cases, by the slot its scores lie in and by how many rows of it the query tile reaches. -/
module

public import proofs.«01_k».proof.Proof.Trip
public import proofs.«01_k».proof.Proof.Gen.KernelIdeal.Launch
public import Idealize.ShloMosaic.Lib.Exec
public import Idealize.ShloMosaic.Lib.Tactic
public import Idealize.ShloMosaic.Lib.Pipeline.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Slot 0, 256 rows. -/
theorem diag_0_256 (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v28 : BitVec 32) (v31 : BitVec 32) (v66 : BitVec 1) (v69 : BitVec 32)
    (X3 : BufTy.Contents (Elt F) arg3.view.ty) (X5 : BufTy.Contents (Elt F) arg5.view.ty) (ov : ℕ)
    (k0_h6 :  k0_cond6 i = 1#1)
    (k0_h7 : ¬ k0_cond7 i = 1#1)
    (k0_h8 : ¬ k0_cond8 i = 1#1)
    (k0_h9 : ¬ k0_cond9 i = 1#1)
    (k0_h10 : ¬ k0_cond10 i = 1#1)
    (k0_h11 : ¬ k0_cond11 i = 1#1)
    (o1 : k0_off9 i = ![0, ov]) (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 0 S)
      ⊢ wp frame (wpE (defs₀ (F := F)) Variants.none (c : Thread nD τ) none) E (k0_part36 (F := F) i arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 f10 f11 =>
            HoldsSums arg9 f9 (stepSum256 (diagScores256 S v28 v31) (valTile 256 (arg5.view.read (Elt F) X5) ov) M A)
            ∧ HoldsMaxs arg10 f10 (stepMax256 (diagScores256 S v28 v31) M)
            ∧ v = stepSum256 (diagScores256 S v28 v31) (valTile 256 (arg5.view.read (Elt F) X5) ov) M A 0)) := by
  rw [k0_part36_eq_skeleton]; unfold k0_part36_skel
  simp only [k0_part16_eq_skeleton, k0_part17_eq_skeleton, k0_part18_eq_skeleton]
  unfold k0_part16_skel k0_part17_skel k0_part18_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 256 (by decide) 0 _ rfl inb_S2x768x1024_S1x256x256_0_0_0
  have s1 := hS.head 256 (by decide) 1 _ rfl inb_S2x768x1024_S1x256x256_0_0_256
  have s2 := hS.head 256 (by decide) 2 _ rfl inb_S2x768x1024_S1x256x256_0_0_512
  have s3 := hS.head 256 (by decide) 3 _ rfl inb_S2x768x1024_S1x256x256_0_0_768
  have hv := fun inb => valTile_of 256 arg5 X5 _ ov o1 inb
  sl_exec
  sl_step
  iapply (Bufs.of (f11 := f11) ⟨holdsSums_writes _ f9 rfl rfl rfl rfl, holdsMaxs_writes _ f10 rfl rfl rfl rfl, by
    unfold diag_0_256.sl.v diag_0_256.sl.H9_4; exact (sums_readCov arg9 _ _ _ _).trans rfl⟩)
  isplitl [H3]; · iexact H3
  isplitl [H5]; · iexact H5
  isplitl [H9]; · iexact H9
  isplitl [H10]; · iexact H10
  iexact H11

/-- Slot 0, 512 rows. -/
theorem diag_0_512 (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v28 : BitVec 32) (v31 : BitVec 32) (v66 : BitVec 1) (v69 : BitVec 32)
    (X3 : BufTy.Contents (Elt F) arg3.view.ty) (X5 : BufTy.Contents (Elt F) arg5.view.ty) (ov : ℕ)
    (k0_h6 : ¬ k0_cond6 i = 1#1)
    (k0_h7 :  k0_cond7 i = 1#1)
    (k0_h8 : ¬ k0_cond8 i = 1#1)
    (k0_h9 : ¬ k0_cond9 i = 1#1)
    (k0_h10 : ¬ k0_cond10 i = 1#1)
    (k0_h11 : ¬ k0_cond11 i = 1#1)
    (o1 : k0_off10 i = ![0, ov]) (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 0 S)
      ⊢ wp frame (wpE (defs₀ (F := F)) Variants.none (c : Thread nD τ) none) E (k0_part36 (F := F) i arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 f10 f11 =>
            HoldsSums arg9 f9 (stepSum512 (diagScores512 S v28 v31) (valTile 512 (arg5.view.read (Elt F) X5) ov) M A)
            ∧ HoldsMaxs arg10 f10 (stepMax512 (diagScores512 S v28 v31) M)
            ∧ v = stepSum512 (diagScores512 S v28 v31) (valTile 512 (arg5.view.read (Elt F) X5) ov) M A 0)) := by
  rw [k0_part36_eq_skeleton]; unfold k0_part36_skel
  simp only [k0_part19_eq_skeleton, k0_part20_eq_skeleton, k0_part21_eq_skeleton]
  unfold k0_part19_skel k0_part20_skel k0_part21_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 512 (by decide) 0 _ rfl inb_S2x768x1024_S1x512x256_0_0_0
  have s1 := hS.head 512 (by decide) 1 _ rfl inb_S2x768x1024_S1x512x256_0_0_256
  have s2 := hS.head 512 (by decide) 2 _ rfl inb_S2x768x1024_S1x512x256_0_0_512
  have s3 := hS.head 512 (by decide) 3 _ rfl inb_S2x768x1024_S1x512x256_0_0_768
  have hv := fun inb => valTile_of 512 arg5 X5 _ ov o1 inb
  sl_exec
  sl_step
  iapply (Bufs.of (f11 := f11) ⟨holdsSums_writes _ f9 rfl rfl rfl rfl, holdsMaxs_writes _ f10 rfl rfl rfl rfl, by
    unfold diag_0_512.sl.v diag_0_512.sl.H9_4; exact (sums_readCov arg9 _ _ _ _).trans rfl⟩)
  isplitl [H3]; · iexact H3
  isplitl [H5]; · iexact H5
  isplitl [H9]; · iexact H9
  isplitl [H10]; · iexact H10
  iexact H11

/-- Slot 0, 768 rows. -/
theorem diag_0_768 (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v28 : BitVec 32) (v31 : BitVec 32) (v66 : BitVec 1) (v69 : BitVec 32)
    (X3 : BufTy.Contents (Elt F) arg3.view.ty) (X5 : BufTy.Contents (Elt F) arg5.view.ty) (ov : ℕ)
    (k0_h6 : ¬ k0_cond6 i = 1#1)
    (k0_h7 : ¬ k0_cond7 i = 1#1)
    (k0_h8 :  k0_cond8 i = 1#1)
    (k0_h9 : ¬ k0_cond9 i = 1#1)
    (k0_h10 : ¬ k0_cond10 i = 1#1)
    (k0_h11 : ¬ k0_cond11 i = 1#1)
    (o1 : k0_off11 i = ![0, ov]) (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 0 S)
      ⊢ wp frame (wpE (defs₀ (F := F)) Variants.none (c : Thread nD τ) none) E (k0_part36 (F := F) i arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 f10 f11 =>
            HoldsSums arg9 f9 (stepSum (diagScores768 S v28 v31) (valTile 768 (arg5.view.read (Elt F) X5) ov) M A)
            ∧ HoldsMaxs arg10 f10 (stepMax (diagScores768 S v28 v31) M)
            ∧ v = stepSum (diagScores768 S v28 v31) (valTile 768 (arg5.view.read (Elt F) X5) ov) M A 0)) := by
  rw [k0_part36_eq_skeleton]; unfold k0_part36_skel
  simp only [k0_part22_eq_skeleton, k0_part23_eq_skeleton, k0_part24_eq_skeleton]
  unfold k0_part22_skel k0_part23_skel k0_part24_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 768 (by decide) 0 _ rfl inb_S2x768x1024_S1x768x256_0_0_0
  have s1 := hS.head 768 (by decide) 1 _ rfl inb_S2x768x1024_S1x768x256_0_0_256
  have s2 := hS.head 768 (by decide) 2 _ rfl inb_S2x768x1024_S1x768x256_0_0_512
  have s3 := hS.head 768 (by decide) 3 _ rfl inb_S2x768x1024_S1x768x256_0_0_768
  have hv := fun inb => valTile_of 768 arg5 X5 _ ov o1 inb
  sl_exec
  sl_step
  iapply (Bufs.of (f11 := f11) ⟨holdsSums_writes _ f9 rfl rfl rfl rfl, holdsMaxs_writes _ f10 rfl rfl rfl rfl, by
    unfold diag_0_768.sl.v diag_0_768.sl.H9_4; exact (sums_readCov arg9 _ _ _ _).trans rfl⟩)
  isplitl [H3]; · iexact H3
  isplitl [H5]; · iexact H5
  isplitl [H9]; · iexact H9
  isplitl [H10]; · iexact H10
  iexact H11

/-- Slot 1, 256 rows. -/
theorem diag_1_256 (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v28 : BitVec 32) (v31 : BitVec 32) (v66 : BitVec 1) (v69 : BitVec 32)
    (X3 : BufTy.Contents (Elt F) arg3.view.ty) (X5 : BufTy.Contents (Elt F) arg5.view.ty) (ov : ℕ)
    (k0_h6 : ¬ k0_cond6 i = 1#1)
    (k0_h7 : ¬ k0_cond7 i = 1#1)
    (k0_h8 : ¬ k0_cond8 i = 1#1)
    (k0_h9 :  k0_cond9 i = 1#1)
    (k0_h10 : ¬ k0_cond10 i = 1#1)
    (k0_h11 : ¬ k0_cond11 i = 1#1)
    (o1 : k0_off12 i = ![0, ov]) (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 1 S)
      ⊢ wp frame (wpE (defs₀ (F := F)) Variants.none (c : Thread nD τ) none) E (k0_part36 (F := F) i arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 f10 f11 =>
            HoldsSums arg9 f9 (stepSum256 (diagScores256 S v28 v31) (valTile 256 (arg5.view.read (Elt F) X5) ov) M A)
            ∧ HoldsMaxs arg10 f10 (stepMax256 (diagScores256 S v28 v31) M)
            ∧ v = stepSum256 (diagScores256 S v28 v31) (valTile 256 (arg5.view.read (Elt F) X5) ov) M A 0)) := by
  rw [k0_part36_eq_skeleton]; unfold k0_part36_skel
  simp only [k0_part25_eq_skeleton, k0_part26_eq_skeleton, k0_part27_eq_skeleton]
  unfold k0_part25_skel k0_part26_skel k0_part27_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 256 (by decide) 0 _ rfl inb_S2x768x1024_S1x256x256_1_0_0
  have s1 := hS.head 256 (by decide) 1 _ rfl inb_S2x768x1024_S1x256x256_1_0_256
  have s2 := hS.head 256 (by decide) 2 _ rfl inb_S2x768x1024_S1x256x256_1_0_512
  have s3 := hS.head 256 (by decide) 3 _ rfl inb_S2x768x1024_S1x256x256_1_0_768
  have hv := fun inb => valTile_of 256 arg5 X5 _ ov o1 inb
  sl_exec
  sl_step
  iapply (Bufs.of (f11 := f11) ⟨holdsSums_writes _ f9 rfl rfl rfl rfl, holdsMaxs_writes _ f10 rfl rfl rfl rfl, by
    unfold diag_1_256.sl.v diag_1_256.sl.H9_4; exact (sums_readCov arg9 _ _ _ _).trans rfl⟩)
  isplitl [H3]; · iexact H3
  isplitl [H5]; · iexact H5
  isplitl [H9]; · iexact H9
  isplitl [H10]; · iexact H10
  iexact H11

/-- Slot 1, 512 rows. -/
theorem diag_1_512 (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v28 : BitVec 32) (v31 : BitVec 32) (v66 : BitVec 1) (v69 : BitVec 32)
    (X3 : BufTy.Contents (Elt F) arg3.view.ty) (X5 : BufTy.Contents (Elt F) arg5.view.ty) (ov : ℕ)
    (k0_h6 : ¬ k0_cond6 i = 1#1)
    (k0_h7 : ¬ k0_cond7 i = 1#1)
    (k0_h8 : ¬ k0_cond8 i = 1#1)
    (k0_h9 : ¬ k0_cond9 i = 1#1)
    (k0_h10 :  k0_cond10 i = 1#1)
    (k0_h11 : ¬ k0_cond11 i = 1#1)
    (o1 : k0_off13 i = ![0, ov]) (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 1 S)
      ⊢ wp frame (wpE (defs₀ (F := F)) Variants.none (c : Thread nD τ) none) E (k0_part36 (F := F) i arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 f10 f11 =>
            HoldsSums arg9 f9 (stepSum512 (diagScores512 S v28 v31) (valTile 512 (arg5.view.read (Elt F) X5) ov) M A)
            ∧ HoldsMaxs arg10 f10 (stepMax512 (diagScores512 S v28 v31) M)
            ∧ v = stepSum512 (diagScores512 S v28 v31) (valTile 512 (arg5.view.read (Elt F) X5) ov) M A 0)) := by
  rw [k0_part36_eq_skeleton]; unfold k0_part36_skel
  simp only [k0_part28_eq_skeleton, k0_part29_eq_skeleton, k0_part30_eq_skeleton]
  unfold k0_part28_skel k0_part29_skel k0_part30_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 512 (by decide) 0 _ rfl inb_S2x768x1024_S1x512x256_1_0_0
  have s1 := hS.head 512 (by decide) 1 _ rfl inb_S2x768x1024_S1x512x256_1_0_256
  have s2 := hS.head 512 (by decide) 2 _ rfl inb_S2x768x1024_S1x512x256_1_0_512
  have s3 := hS.head 512 (by decide) 3 _ rfl inb_S2x768x1024_S1x512x256_1_0_768
  have hv := fun inb => valTile_of 512 arg5 X5 _ ov o1 inb
  sl_exec
  sl_step
  iapply (Bufs.of (f11 := f11) ⟨holdsSums_writes _ f9 rfl rfl rfl rfl, holdsMaxs_writes _ f10 rfl rfl rfl rfl, by
    unfold diag_1_512.sl.v diag_1_512.sl.H9_4; exact (sums_readCov arg9 _ _ _ _).trans rfl⟩)
  isplitl [H3]; · iexact H3
  isplitl [H5]; · iexact H5
  isplitl [H9]; · iexact H9
  isplitl [H10]; · iexact H10
  iexact H11

/-- Slot 1, 768 rows. -/
theorem diag_1_768 (c : Dev nD) (E : Set ℕ) (i : grid0.Coords) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v28 : BitVec 32) (v31 : BitVec 32) (v66 : BitVec 1) (v69 : BitVec 32)
    (X3 : BufTy.Contents (Elt F) arg3.view.ty) (X5 : BufTy.Contents (Elt F) arg5.view.ty) (ov : ℕ)
    (k0_h6 : ¬ k0_cond6 i = 1#1)
    (k0_h7 : ¬ k0_cond7 i = 1#1)
    (k0_h8 : ¬ k0_cond8 i = 1#1)
    (k0_h9 : ¬ k0_cond9 i = 1#1)
    (k0_h10 : ¬ k0_cond10 i = 1#1)
    (k0_h11 :  k0_cond11 i = 1#1)
    (o1 : k0_off14 i = ![0, ov]) (A : Sums F) (M : Maxs F) (S : FVec F S1x768x1024 .f32) :
    Bufs c arg3 arg5 arg9 arg10 arg11 X3 X5 (fun f9 f10 f11 => HoldsSums arg9 f9 A ∧ HoldsMaxs arg10 f10 M ∧ HoldsTile arg11 f11 1 S)
      ⊢ wp frame (wpE (defs₀ (F := F)) Variants.none (c : Thread nD τ) none) E (k0_part36 (F := F) i arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 f10 f11 =>
            HoldsSums arg9 f9 (stepSum (diagScores768 S v28 v31) (valTile 768 (arg5.view.read (Elt F) X5) ov) M A)
            ∧ HoldsMaxs arg10 f10 (stepMax (diagScores768 S v28 v31) M)
            ∧ v = stepSum (diagScores768 S v28 v31) (valTile 768 (arg5.view.read (Elt F) X5) ov) M A 0)) := by
  rw [k0_part36_eq_skeleton]; unfold k0_part36_skel
  simp only [k0_part31_eq_skeleton, k0_part32_eq_skeleton, k0_part33_eq_skeleton]
  unfold k0_part31_skel k0_part32_skel k0_part33_skel
  conv => lhs; unfold Bufs
  iintro ⟨H3, H5, %f9, %f10, %f11, H9, H10, H11, %hP⟩
  obtain ⟨⟨a0, a1, a2, a3⟩, ⟨m0, m1, m2, m3⟩, hS⟩ := hP
  have s0 := hS.head 768 (by decide) 0 _ rfl inb_S2x768x1024_S1x768x256_1_0_0
  have s1 := hS.head 768 (by decide) 1 _ rfl inb_S2x768x1024_S1x768x256_1_0_256
  have s2 := hS.head 768 (by decide) 2 _ rfl inb_S2x768x1024_S1x768x256_1_0_512
  have s3 := hS.head 768 (by decide) 3 _ rfl inb_S2x768x1024_S1x768x256_1_0_768
  have hv := fun inb => valTile_of 768 arg5 X5 _ ov o1 inb
  sl_exec
  sl_step
  iapply (Bufs.of (f11 := f11) ⟨holdsSums_writes _ f9 rfl rfl rfl rfl, holdsMaxs_writes _ f10 rfl rfl rfl rfl, by
    unfold diag_1_768.sl.v diag_1_768.sl.H9_4; exact (sums_readCov arg9 _ _ _ _).trans rfl⟩)
  isplitl [H3]; · iexact H3
  isplitl [H5]; · iexact H5
  isplitl [H9]; · iexact H9
  isplitl [H10]; · iexact H10
  iexact H11

end Cert.KernelIdeal.Attn

end
-- ==== Proof.Body.lean ====
/- The whole body at one grid step: the block it writes, as a function of the staged blocks. -/
module

public import proofs.«01_k».proof.Proof.Walk
public import proofs.«01_k».proof.Proof.Diag
public import proofs.«01_k».proof.Proof.Gen.KernelIdeal.Launch
public import Idealize.ShloMosaic.Lib.Exec
public import Idealize.ShloMosaic.Lib.Tactic
public import Idealize.ShloMosaic.Lib.Pipeline.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The four heads' sums after the diagonal tile. -/
def finalSums (t : Fin grid0.N) (c o : BitVec 32) (q : FVec F S256x1024 .bf16) (K : Vec F S8448x256 .bf16) (V : Vec F S256x8448 .bf16) : Sums F :=
  let B := before q K V (diagTile t)
  let S := tileScores q K (diagTile t)
  if diagThird t = 0 then stepSum256 (diagScores256 S c o) (valTile 256 V (768 * diagTile t)) B.2 B.1
  else if diagThird t = 1 then stepSum512 (diagScores512 S c o) (valTile 512 V (768 * diagTile t)) B.2 B.1
  else stepSum (diagScores768 S c o) (valTile 768 V (768 * diagTile t)) B.2 B.1

/-- The block the body writes, of the final sums, the head weight and the norm's gains. -/
def outBlock (A : Sums F) (lam : F .f32) (g : Vec F S128x256 .f32) : FVec F S256x256 .bf16 :=
  k0_pay1 (k0_pay313 (A 2)) (k0_pay314 (A 3)) (k0_pay315 (A 0) (A 1) lam) (k0_pay316 (A 0) (A 1) lam) g lam g

/-- The part on the diagonal: the six cases are the three widths in either slot. -/
theorem part36_run (c : Dev nD) (E : Set ℕ) (t : Fin grid0.N) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole) (v11 : FVec F S256x1024 .bf16) (v28 : BitVec 32) (v31 : BitVec 32) (v66 : BitVec 1) (v69 : BitVec 32)
    (X3 : BufTy.Contents (Elt F) arg3.view.ty) (X5 : BufTy.Contents (Elt F) arg5.view.ty) :
    Reached c arg3 arg5 arg9 arg10 arg11 X3 X5 v11 (diagTile t)
      ⊢ wp frame (wpE (defs₀ (F := F)) Variants.none (c : Thread nD τ) none) E (k0_part36 (F := F) (grid0.coords t) arg3 harg3 arg4 harg4 arg5 harg5 arg6 harg6 arg7 harg7 arg8 harg8 arg9 harg9 arg10 harg10 arg11 harg11 v28 v31 v66 v69)
          (fun v => Bufs c arg3 arg5 arg9 arg10 arg11 X3 X5 (fun f9 _ _ =>
            HoldsSums arg9 f9 (finalSums t v28 v31 v11 (arg3.view.read (Elt F) X3) (arg5.view.read (Elt F) X5))
            ∧ v = finalSums t v28 v31 v11 (arg3.view.read (Elt F) X3) (arg5.view.read (Elt F) X5) 0)) := by
  obtain ⟨c6, c7, c8, c9, c10, c11⟩ := diag_conds t
  obtain ⟨o9, o10, o11, o12, o13, o14⟩ := diag_offs t
  have hlt : diagThird t = 0 ∨ diagThird t = 1 ∨ diagThird t = 2 := by unfold diagThird; omega
  have hw : ∀ (A : Sums F) (M : Maxs F) (v : Vec F S1x144x256 .f32),
      Bufs c arg3 arg5 arg9 arg10 arg11 X3 X5 (fun f9 f10 f11 => HoldsSums arg9 f9 A ∧ HoldsMaxs arg10 f10 M ∧ v = A 0)
        ⊢ Bufs c arg3 arg5 arg9 arg10 arg11 X3 X5 (fun f9 f10 f11 => HoldsSums arg9 f9 A ∧ v = A 0) := by
    intro A M v
    refine Bufs.out.trans ?_
    iintro ⟨H3, H5, %g9, %g10, %g11, H9, H10, H11, %hQ⟩
    iapply (Bufs.of (P := fun f9 f10 f11 => HoldsSums arg9 f9 A ∧ v = A 0) ⟨hQ.1, hQ.2.2⟩)
    isplitl [H3]; · iexact H3
    isplitl [H5]; · iexact H5
    isplitl [H9]; · iexact H9
    isplitl [H10]; · iexact H10
    iexact H11
  have no : ∀ {x : BitVec 1}, x = 0#1 → ¬ x = 1#1 := by rintro _ rfl; decide
  unfold Reached finalSums
  rcases Nat.mod_two_eq_zero_or_one (diagTile t) with hp | hp <;> rcases hlt with h3 | h3 | h3 <;>
    (simp only [hp, h3] at c6 c7 c8 c9 c10 c11; simp at c6 c7 c8 c9 c10 c11; simp only [hp, h3])
  · exact (diag_0_256 c E _ arg3 harg3 arg4 harg4 arg5 harg5 arg6 harg6 arg7 harg7 arg8 harg8 arg9 harg9 arg10 harg10 arg11 harg11 v28 v31 v66 v69 X3 X5 _ c6 (no c7) (no c8) (no c9) (no c10) (no c11) o9 _ _ _).trans (wp_mono _ _ _ fun v => hw _ _ v)
  · exact (diag_0_512 c E _ arg3 harg3 arg4 harg4 arg5 harg5 arg6 harg6 arg7 harg7 arg8 harg8 arg9 harg9 arg10 harg10 arg11 harg11 v28 v31 v66 v69 X3 X5 _ (no c6) c7 (no c8) (no c9) (no c10) (no c11) o10 _ _ _).trans (wp_mono _ _ _ fun v => hw _ _ v)
  · exact (diag_0_768 c E _ arg3 harg3 arg4 harg4 arg5 harg5 arg6 harg6 arg7 harg7 arg8 harg8 arg9 harg9 arg10 harg10 arg11 harg11 v28 v31 v66 v69 X3 X5 _ (no c6) (no c7) c8 (no c9) (no c10) (no c11) o11 _ _ _).trans (wp_mono _ _ _ fun v => hw _ _ v)
  · exact (diag_1_256 c E _ arg3 harg3 arg4 harg4 arg5 harg5 arg6 harg6 arg7 harg7 arg8 harg8 arg9 harg9 arg10 harg10 arg11 harg11 v28 v31 v66 v69 X3 X5 _ (no c6) (no c7) (no c8) c9 (no c10) (no c11) o12 _ _ _).trans (wp_mono _ _ _ fun v => hw _ _ v)
  · exact (diag_1_512 c E _ arg3 harg3 arg4 harg4 arg5 harg5 arg6 harg6 arg7 harg7 arg8 harg8 arg9 harg9 arg10 harg10 arg11 harg11 v28 v31 v66 v69 X3 X5 _ (no c6) (no c7) (no c8) (no c9) c10 (no c11) o13 _ _ _).trans (wp_mono _ _ _ fun v => hw _ _ v)
  · exact (diag_1_768 c E _ arg3 harg3 arg4 harg4 arg5 harg5 arg6 harg6 arg7 harg7 arg8 harg8 arg9 harg9 arg10 harg10 arg11 harg11 v28 v31 v66 v69 X3 X5 _ (no c6) (no c7) (no c8) (no c9) (no c10) c11 o14 _ _ _).trans (wp_mono _ _ _ fun v => hw _ _ v)

/-- The whole body, its blocks and scratch as points-to. -/
theorem body_run (c : Dev nD) (E : Set ℕ) (t : Fin grid0.N) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole) (arg9 : Memref sig .tc .vmem S4x144x256 .f32) (harg9 : arg9.IsWhole) (arg10 : Memref sig .tc .vmem S4x1x256 .f32) (harg10 : arg10.IsWhole) (arg11 : Memref sig .tc .vmem S2x768x1024 .f32) (harg11 : arg11.IsWhole)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) :
    (iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11)) : sProp 𝕄)
      ⊢ wp frame (wpE (defs₀ (F := F)) Variants.none (c : Thread nD τ) none) E (cc0_diff_attention (F := F) (grid0.coords t) arg3 harg3 arg4 harg4 arg5 harg5 arg6 harg6 arg7 harg7 arg8 harg8 arg9 harg9 arg10 harg10 arg11 harg11)
          (fun _ => iprop((arg3.view.loc (c : Thread nD τ) ↦[arg3.view.set]{fullShare} X3) ∗ (arg4.view.loc (c : Thread nD τ) ↦[arg4.view.set]{fullShare} X4)
      ∗ (arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7)
      ∗ (∃ f, (arg8.view.loc (c : Thread nD τ) ↦[arg8.view.set]{fullShare} f)
        ∗ ⌜arg8.view.read (Elt F) f = outBlock (finalSums t (tileWord t) (thirdWord t) (k0_pay260 (arg4.view.read (Elt F) X4)) (arg3.view.read (Elt F) X3) (arg5.view.read (Elt F) X5))
            (arg6.view.read (Elt F) X6 (Shape.Idx.first (s := S1x1) (by decide))) (arg7.view.read (Elt F) X7)⌝)
      ∗ (∃ f, (arg9.view.loc (c : Thread nD τ) ↦[arg9.view.set]{fullShare} f)) ∗ (∃ f, (arg10.view.loc (c : Thread nD τ) ↦[arg10.view.set]{fullShare} f))
      ∗ (∃ f, (arg11.view.loc (c : Thread nD τ) ↦[arg11.view.set]{fullShare} f)))) := by
  have h35 := fun v11 v28 v31 => part35_run (F := F) (c : Dev nD) E t arg3 harg3 arg4 harg4 arg5 harg5 arg6 harg6 arg7 harg7 arg8 harg8 arg9 harg9 arg10 harg10 arg11 harg11 v11 v28 v31 X3 X5
  have h36 := fun v11 v28 v31 v66 v69 => part36_run (F := F) c E t arg3 harg3 arg4 harg4 arg5 harg5 arg6 harg6 arg7 harg7 arg8 harg8 arg9 harg9 arg10 harg10 arg11 harg11 v11 v28 v31 v66 v69 X3 X5
  rw [cc0_diff_attention_eq_skeleton]; unfold cc0_diff_attention_skel
  simp only [k0_part34_eq_skeleton, k0_part37_eq_skeleton]
  unfold k0_part34_skel k0_part37_skel
  iintro ⟨H3, H4, H5, H6, H7, H8, H9, H10, H11⟩
  simp only [Prog.lift, Prog.bind_op, Prog.bind_ret, Prog.pure_eq_ret, Prog.bind_assoc]
  sl_step
  sl_step
  sl_step
  ihave HB := (Bufs.of (c := c) (X3 := X3) (X5 := X5) (P := fun g9 g10 g11 => HoldsSums arg9 g9 noSums) (holdsSums_none arg9 f9)) $$ [H3 H5 H9 H10 H11]
  · isplitl [H3]; · iexact H3
    isplitl [H5]; · iexact H5
    isplitl [H9]; · iexact H9
    isplitl [H10]; · iexact H10
    iexact H11
  have h36' := h36 (k0_pay260 (arg4.view.readAt (Elt F) (Rect.unit (s := S256x256) ![0, 0] S256x256.size inb_S256x256_S256x256_0_0).toLoadRect X4))
  clear h36
  sl_exec
  have hA : HoldsSums arg9 f9k0_part36_0 (finalSums t (tileWord t) (thirdWord t) (k0_pay260 (arg4.view.readAt (Elt F) (Rect.unit (s := S256x256) ![0, 0] S256x256.size inb_S256x256_S256x256_0_0).toLoadRect X4)) (arg3.view.read (Elt F) X3) (arg5.view.read (Elt F) X5))
      ∧ k0_part36_r = finalSums t (tileWord t) (thirdWord t) (k0_pay260 (arg4.view.readAt (Elt F) (Rect.unit (s := S256x256) ![0, 0] S256x256.size inb_S256x256_S256x256_0_0).toLoadRect X4)) (arg3.view.read (Elt F) X3) (arg5.view.read (Elt F) X5) 0 := hk0_part36_5
  rw [View.readAt_full] at hA
  obtain ⟨⟨a0, a1, a2, a3⟩, hr⟩ := hA
  sl_step
  isplitl [Hk0_part36_0]; · iexact Hk0_part36_0
  isplitl [H4]; · iexact H4
  isplitl [Hk0_part36_1]; · iexact Hk0_part36_1
  isplitl [H6]; · iexact H6
  isplitl [H7]; · iexact H7
  isplitl [H8]
  · iexists _
    isplitl [H8]; · iexact H8
    ipureintro
    rw [View.read_writes_full, a1, a2, a3, hr, View.readAt_full]
    refine congrArg (fun l => outBlock _ l _) ?_
    unfold body_run.sl.r
    exact congrFun (View.readAt_full arg6.view X6 inb_S1x1_S1x1_0_0) _
  isplitl [Hk0_part36_2]; · iexists _; iexact Hk0_part36_2
  isplitl [Hk0_part36_3]; · iexists _; iexact Hk0_part36_3
  iexists _; iexact Hk0_part36_4

end Cert.KernelIdeal.Attn

end
-- ==== Proof.Frame.lean ====
/- The run of the whole program: it ends, its arguments and every counter end as they started, and the result's
   array holds the blocks the body writes. -/
module

public import proofs.«01_k».proof.Proof.Body
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block the body writes at a point, from the blocks it was handed. -/
def blockAt (t : Fin grid0.N) (k : Vec F S8448x256 .bf16) (q : Vec F S256x256 .bf16) (v : Vec F S256x8448 .bf16)
    (lam : Vec F S1x1 .f32) (g : Vec F S128x256 .f32) : Vec F S256x256 .bf16 :=
  outBlock (finalSums t (tileWord t) (thirdWord t) (k0_pay260 q) k v) (lam (Shape.Idx.first (s := S1x1) (by decide))) g

/-- The body on owned windows and scratch. -/
theorem sound_kernel (c : Dev nD) (E : Set ℕ) (t : Fin grid0.N) (arg3 : Memref sig .tc .vmem S8448x256 .bf16) (harg3 : arg3.IsWhole) (arg4 : Memref sig .tc .vmem S256x256 .bf16) (harg4 : arg4.IsWhole) (arg5 : Memref sig .tc .vmem S256x8448 .bf16) (harg5 : arg5.IsWhole) (arg6 : Memref sig .tc .smem S1x1 .f32) (harg6 : arg6.IsWhole) (arg7 : Memref sig .tc .vmem S128x256 .f32) (harg7 : arg7.IsWhole) (arg8 : Memref sig .tc .vmem S256x256 .bf16) (harg8 : arg8.IsWhole)
    (x3 : Vec F S8448x256 .bf16) (x4 : Vec F S256x256 .bf16) (x5 : Vec F S256x8448 .bf16) (x6 : Vec F S1x1 .f32) (x7 : Vec F S128x256 .f32) (K : PUnit → sProp 𝕄) :
    iprop(Pipeline.ΦA spec0 c ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (iprop(Pipeline.ΦA spec0 c ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockAt t x3 x4 x5 x6 x7)) -∗ K ⟨⟩))
      ⊢ wp frame (wpE (defs₀ (F := F)) Variants.none (c : Thread nD τ) none) E
          (cc0_diff_attention (F := F) (grid0.coords t) arg3 harg3 arg4 harg4 arg5 harg5 arg6 harg6 arg7 harg7 arg8 harg8
            (Memref.whole cc0_scratch0) (Memref.isWhole_whole _) (Memref.whole cc0_scratch1) (Memref.isWhole_whole _) (Memref.whole cc0_scratch2) (Memref.isWhole_whole _)) K := by
  unfold owns Pipeline.ΦA
  rw [scopedRest0_eq]
  iintro ⟨⟨⟨⟨%f9, H9⟩, ⟨%f10, H10⟩, ⟨%f11, H11⟩⟩, Hr⟩, ⟨%f3, %h3, H3⟩, ⟨%f4, %h4, H4⟩, ⟨%f5, %h5, H5⟩, ⟨%f6, %h6, H6⟩, ⟨%f7, %h7, H7⟩, ⟨%d8, %f8, -, H8⟩, Hk⟩
  subst h3 h4 h5 h6 h7
  iapply (wp_wand_r frame (wpE (defs₀ (F := F)) Variants.none (c : Thread nD τ) none) E)
  isplitr [Hk Hr]
  · iapply (body_run c E t arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _)
      f3 f4 f5 f6 f7 f8 f9 f10 f11)
    isplitl [H3]; · iexact H3
    isplitl [H4]; · iexact H4
    isplitl [H5]; · iexact H5
    isplitl [H6]; · iexact H6
    isplitl [H7]; · iexact H7
    isplitl [H8]; · iexact H8
    isplitl [H9]; · rw [show (Memref.whole cc0_scratch0).view.set = Finset.univ from View.set_whole _]; iexact H9
    isplitl [H10]; · rw [show (Memref.whole cc0_scratch1).view.set = Finset.univ from View.set_whole _]; iexact H10
    rw [show (Memref.whole cc0_scratch2).view.set = Finset.univ from View.set_whole _]; iexact H11
  iintro %u ⟨H3, H4, H5, H6, H7, ⟨%g8, H8, %h8⟩, ⟨%g9, H9⟩, ⟨%g10, H10⟩, ⟨%g11, H11⟩⟩
  iapply Hk
  isplitl [Hr H9 H10 H11]
  · isplitl [H9 H10 H11]
    · isplitl [H9]; · iexists g9; rw [show (Memref.whole cc0_scratch0).view.set = Finset.univ from View.set_whole _]; iexact H9
      isplitl [H10]; · iexists g10; rw [show (Memref.whole cc0_scratch1).view.set = Finset.univ from View.set_whole _]; iexact H10
      iexists g11; rw [show (Memref.whole cc0_scratch2).view.set = Finset.univ from View.set_whole _]; iexact H11
    iexact Hr
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists g8
  isplitr; · ipureintro; exact h8
  iexact H8

/-- Every window's contents over the run: an input keeps its block, the output ends at the body's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockAt t (iblk m c 0 t) (iblk m c 1 t) (iblk m c 2 t) (iblk m c 3 t) (iblk m c 4 t)
  Φ _ := Pipeline.ΦA spec0 c
  q := Pipeline.shareOf spec0
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = blockAt t (iblk m c 0 t) (iblk m c 1 t) (iblk m c 2 t) (iblk m c 3 t) (iblk m c 4 t) := by dsimp only [dats]

/-- What the body is entered with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ t _ _ _ _ _ _ _ _ _ _ _ _ (iblk m c 0 t) (iblk m c 1 t) (iblk m c 2 t) (iblk m c 3 t) (iblk m c 4 t) _)
  isplitl [HΦ]; · iexact HΦ
  isplitl [H0]; · iexact H0
  isplitl [H1]; · iexact H1
  isplitl [H2]; · iexact H2
  isplitl [H3]; · iexact H3
  isplitl [H4]; · iexact H4
  isplitl [H5]; · iexists _; iexact H5
  iintro ⟨HΦ, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: the arrays end as the blocks say, every other buffer as it was, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl) (howed := fun _ _ => rfl) (V := V m)
    (hmain := hmain m Variants.none) (hA := fun _ _ => rfl) (hΦ := fun _ _ => rfl) (Q' := _) (hQ' := fun _ h => h)

/-- The run's result and its arguments. -/
theorem run_result : θ_run defs (onTc (τ := τ) (main (F := F))) ⟨m, fun _ => 0, ρ⟩ (fun r => (∀ c : Dev nD,
      r.2.mem ((c.tc : Thread nD τ).loc main_v18) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 5,
      ((h.1 c).2 main_arg0 (Pipeline.mem_restRefs_of main_arg0 (by decide) (by decide))).trans (V_main_arg0 m c),
      ((h.1 c).1 3).trans (((dats m 0 c).arrAt_in 3 rfl _).trans (V_main_arg1 m c)),
      ((h.1 c).2 main_arg2 (Pipeline.mem_restRefs_of main_arg2 (by decide) (by decide))).trans (V_main_arg2 m c)⟩, h.2⟩) (run_main m ρ)

end Cert.KernelIdeal.Attn

end
-- ==== Proof.Plain.lean ====
/- The kernel as printed is the idealized program with the literal's own word for the named constant: the two
   programs agree by computation at the bit instance, and with them the frame. -/
module

public import proofs.«01_k».proof.Defs
public import proofs.«01_k».proof.Proof.Frame
public import proofs.«01_k».proof.Proof.Gen.Kernel

@[expose] public section
set_option maxRecDepth 16384
noncomputable section
namespace Cert.KernelIdeal.Attn
open Idealize.ShloMosaic Idealize.ShloMosaic.TcCoe Idealize.SL.Sem

/-- A named constant read as its own word. -/
local instance plainNamed : Named Bits where
  named _ _ _ w := Scalar.ofBits _ w

theorem main_eq : (Cert.Kernel.main (F := Bits)) = (Cert.KernelIdeal.main (F := Bits)) := by
  with_unfolding_all rfl

theorem defs₀_eq : (Cert.Kernel.defs₀ (F := Bits)) = (Cert.KernelIdeal.defs₀ (F := Bits)) := by
  unfold Cert.Kernel.defs₀ Cert.KernelIdeal.defs₀
  refine congrArg (Defs.onTc (nD := nD) (τ := τ) (sig := sig) (Val := Elt Bits) (Λ := Λ₀)) (funext fun l => funext fun a => ?_)
  match l, a with
  | ⟨0, _⟩, (t, s) => with_unfolding_all rfl
  | ⟨_ + 1, h⟩, _ => exact absurd h (Nat.not_lt.2 (Nat.le_add_left _ _))

theorem defs_eq : (Cert.Kernel.defs (F := Bits)) = (Cert.KernelIdeal.defs (F := Bits)) := by
  unfold Cert.Kernel.defs Cert.KernelIdeal.defs
  rw [defs₀_eq]
  with_unfolding_all rfl

/-- The printed kernel's frame, from the one run. -/
theorem frame_plain : Cert.quiescent_Kernel := by
  intro m g _
  rw [defs_eq, main_eq]
  have h := (θ_run (Cert.KernelIdeal.defs (F := Bits)) _ _).mono (fun r (h : _ ∧ _) => (⟨fun c => (h.1 c).2, h.2⟩ : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)) (run_result (F := Bits) m g)
  exact h
end Cert.KernelIdeal.Attn
end
-- ==== Proof.RefFrame.lean ====
module

public import proofs.«01_k».proof.Proof.Gen.ReferenceIdeal
public import proofs.«01_k».proof.Proof.Gen.ReferenceIdeal.Run
public import proofs.«01_k».proof.Defs
public import proofs.«01_k».proof.Proof.Gen.KernelIdeal
public import proofs.«01_k».proof.Proof.Gen.Kernel
public import proofs.«01_k».proof.Proof.Gen.Pre_finite
public import proofs.«01_k».proof.Proof.Frame
public import Idealize.ShloMosaic.Lib.Claim

@[expose] public section

set_option maxRecDepth 16384

noncomputable section

/-! The runs that need no precondition: the idealized kernel's, the reference's, and the one constant that the
idealized kernel writes differently. -/

namespace Cert.Proof

open Idealize.ShloMosaic Idealize.ShloMosaic.TcCoe Idealize.SL.Sem

/-- The idealized kernel ends, with its arguments as they were and every counter at zero. -/
theorem kernel_ends (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run _ _ _).mono (fun r h => ⟨fun c => (h.1 c).2, h.2⟩) (Cert.KernelIdeal.Attn.run_result (F := Ideal) m g)

theorem frame_kernel : Cert.quiescent_KernelIdeal := fun m g _ => kernel_ends m g

theorem frame_kernel_finite : Cert.quiescent_KernelIdeal_pre_finite := fun m g _ => kernel_ends m g

/-- So does the reference. -/
theorem reference_ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩)
    (Cert.ReferenceIdeal.Value.run (F := Ideal) m g)

theorem frame_reference : Cert.quiescent_ReferenceIdeal := fun m g _ => reference_ends m g

theorem frame_reference_finite : Cert.quiescent_ReferenceIdeal_pre_finite := fun m g _ => reference_ends m g

/-- The kernel's lowest score is read as minus infinity. -/
theorem preserves : Cert.preserves_Kernel_KernelIdeal :=
  IdealRules.named_const.statement Cert.KernelIdeal.κ "neg" .f32 0xF149F2CA#32 (⊥ : EReal) rfl

end Cert.Proof

end
-- ==== Proof.Weights.lean ====
/- A softmax taken tile by tile: the running maximum and the running weighted sum of a row of scores, over the
   reals extended by the two infinities. A masked score is ⊥ and weighs nothing. -/
module

public import Idealize.ShloMosaic.Lib.Pointwise

@[expose] public section

noncomputable section

namespace Cert.KernelIdeal.Attn

open Idealize.ShloMosaic

/-- The weight of score `x` under the maximum `m`. -/
def wt (x m : EReal) : ℝ := if x = ⊥ then 0 else Real.exp (x.toReal - m.toReal)

theorem wt_nonneg (x m : EReal) : 0 ≤ wt x m := by
  unfold wt; split
  · exact le_rfl
  · exact (Real.exp_pos _).le

theorem exp_sub_eq (x m : EReal) (h : x ≤ m) (hm : m ≠ ⊤) : Ideal.exp (x - m) = (wt x m : EReal) := by
  unfold wt
  induction x with
  | bot => rw [EReal.bot_sub, if_pos rfl]; rfl
  | top => exact absurd (top_le_iff.mp h) hm
  | coe r =>
    induction m with
    | bot => exact absurd (le_bot_iff.mp h) (EReal.coe_ne_bot r)
    | top => exact absurd rfl hm
    | coe s => rw [if_neg (EReal.coe_ne_bot r), ← EReal.coe_sub]; rfl

theorem wt_trans (x m m' : EReal) (h : x ≤ m) (h' : m ≤ m') (hm : m' ≠ ⊤) : wt m m' * wt x m = wt x m' := by
  unfold wt
  by_cases hx : x = ⊥
  · rw [if_pos hx, if_pos hx, mul_zero]
  · have hmb : m ≠ ⊥ := fun e => hx (le_bot_iff.mp (e ▸ h))
    rw [if_neg hx, if_neg hx, if_neg hmb, ← Real.exp_add]
    congr 1; ring

/-- The maximum of the first `n` scores. -/
def mx (s : ℕ → EReal) (n : ℕ) : EReal := (Finset.range n).sup s

/-- The sum of the first `n` values, weighed under the maximum of their scores. -/
def tot (s : ℕ → EReal) (v : ℕ → ℝ) (n : ℕ) : ℝ := ∑ j ∈ Finset.range n, wt (s j) (mx s n) * v j

variable {s : ℕ → EReal}

theorem mx_ne_top (hs : ∀ j, s j ≠ ⊤) (n : ℕ) : mx s n ≠ ⊤ :=
  ((Finset.sup_lt_iff (by exact bot_lt_top)).mpr fun j _ => lt_top_iff_ne_top.mpr (hs j)).ne

theorem le_mx {n j : ℕ} (h : j < n) : s j ≤ mx s n := Finset.le_sup (Finset.mem_range.mpr h)

theorem mx_mono {n n' : ℕ} (h : n ≤ n') : mx s n ≤ mx s n' :=
  Finset.sup_mono (Finset.range_mono h)

theorem mx_add (n T : ℕ) : max (mx s n) ((Finset.univ : Finset (Fin T)).fold max ⊥ fun k => s (n + k.val)) = mx s (n + T) := by
  show mx s n ⊔ (Finset.univ : Finset (Fin T)).sup (fun k => s (n + k.val)) = _
  refine le_antisymm (sup_le (mx_mono (by omega)) (Finset.sup_le fun k _ => le_mx (by have := k.isLt; omega))) ?_
  refine Finset.sup_le fun j hj => ?_
  have hj := Finset.mem_range.mp hj
  by_cases h : j < n
  · exact (le_mx h).trans le_sup_left
  · refine le_trans ?_ le_sup_right
    have := Finset.le_sup (f := fun k : Fin T => s (n + k.val)) (Finset.mem_univ ⟨j - n, by omega⟩)
    simpa [show n + (j - n) = j by omega] using this

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- One tile of `T` more scores. -/
theorem tot_add (hs : ∀ j, s j ≠ ⊤) (v : ℕ → ℝ) (n T : ℕ) :
    Ideal.exp (mx s n - mx s (n + T)) * (tot s v n : EReal)
      + ∑ k : Fin T, (v (n + k.val) : EReal) * Ideal.exp (s (n + k.val) - mx s (n + T)) = (tot s v (n + T) : EReal) := by
  rw [exp_sub_eq _ _ (mx_mono (by omega)) (mx_ne_top hs _)]
  rw [Finset.sum_congr rfl fun (k : Fin T) _ => show (v (n + k.val) : EReal) * Ideal.exp (s (n + k.val) - mx s (n + T))
      = ((wt (s (n + k.val)) (mx s (n + T)) * v (n + k.val) : ℝ) : EReal) by
    rw [exp_sub_eq _ _ (le_mx (by have := k.isLt; omega)) (mx_ne_top hs _), mul_comm, EReal.coe_mul]]
  rw [← coe_sum, ← EReal.coe_mul, ← EReal.coe_add]
  congr 1
  unfold tot
  rw [Finset.sum_range_add, Finset.mul_sum, Finset.sum_range (n := T)]
  congr 1
  refine Finset.sum_congr rfl fun j hj => ?_
  rw [← mul_assoc, wt_trans _ _ _ (le_mx (Finset.mem_range.mp hj)) (mx_mono (by omega)) (mx_ne_top hs _)]

theorem mx_zero : mx s 0 = ⊥ := rfl
theorem tot_zero (v : ℕ → ℝ) : tot s v 0 = 0 := rfl

/-- Scores masked past `N` add nothing. -/
theorem mx_masked {N N' : ℕ} (h : N ≤ N') (hm : ∀ j, N ≤ j → s j = ⊥) : mx s N' = mx s N :=
  le_antisymm (Finset.sup_le fun j _ => if hj : j < N then le_mx hj else by rw [hm j (by omega)]; exact bot_le) (mx_mono h)

theorem tot_masked {N N' : ℕ} (h : N ≤ N') (hm : ∀ j, N ≤ j → s j = ⊥) (v : ℕ → ℝ) : tot s v N' = tot s v N := by
  unfold tot
  rw [mx_masked h hm]
  refine (Finset.sum_subset (Finset.range_mono h) fun j _ hj => ?_).symm
  rw [hm j (by simpa using hj)]; simp [wt]

/-- The weights' own sum being zero, every weighted sum is. -/
theorem tot_eq_zero {n : ℕ} (h : tot s (fun _ => 1) n = 0) (v : ℕ → ℝ) : tot s v n = 0 := by
  unfold tot at h ⊢
  have h' := (Finset.sum_eq_zero_iff_of_nonneg (fun j _ => mul_nonneg (wt_nonneg _ _) zero_le_one)).mp h
  exact Finset.sum_eq_zero fun j hj => by have := h' j hj; rw [mul_one] at this; rw [this, zero_mul]

/-- The weighted mean. -/
def avg (s : ℕ → EReal) (v : ℕ → ℝ) (n : ℕ) : ℝ := tot s v n / tot s (fun _ => 1) n

theorem tot_one_nonneg (n : ℕ) : 0 ≤ tot s (fun _ => 1) n :=
  Finset.sum_nonneg fun j _ => mul_nonneg (wt_nonneg _ _) zero_le_one

/-- A weighted sum times the reciprocal of the weights' sum is the mean, an empty row's being zero. -/
theorem mul_recip (v : ℕ → ℝ) (n : ℕ) :
    (tot s v n : EReal) * Ideal.div 1 (tot s (fun _ => 1) n : EReal) = (avg s v n : EReal) := by
  unfold avg
  by_cases h : tot s (fun _ => 1) n = 0
  · rw [tot_eq_zero h v, h]; simp
  · rw [Ideal.div, if_neg (by exact_mod_cast h), one_mul, ← EReal.coe_inv, ← EReal.coe_mul, div_eq_mul_inv]

/-- A row with an unmasked score has a positive sum of weights. -/
theorem tot_one_pos {n j : ℕ} (hj : j < n) (h : s j ≠ ⊥) : 0 < tot s (fun _ => 1) n := by
  refine lt_of_lt_of_le ?_ (Finset.single_le_sum (f := fun j => wt (s j) (mx s n) * 1)
    (fun j _ => mul_nonneg (wt_nonneg _ _) zero_le_one) (Finset.mem_range.mpr hj))
  simp only [wt, if_neg h, mul_one]; exact Real.exp_pos _

/-- Normalized weight first, mean afterwards. -/
theorem sum_div (hs : ∀ j, s j ≠ ⊤) (v : ℕ → ℝ) (n j : ℕ) (hj : j < n) (h : s j ≠ ⊥) :
    (∑ k : Fin n, (v k.val : EReal) * Ideal.div (Ideal.exp (s k.val - mx s n)) (tot s (fun _ => 1) n : EReal)) = (avg s v n : EReal) := by
  have hp := tot_one_pos hj h
  have hne : ((tot s (fun _ => 1) n : ℝ) : EReal) ≠ 0 := by exact_mod_cast hp.ne'
  rw [Finset.sum_congr rfl fun (k : Fin n) _ => show (v k.val : EReal) * Ideal.div (Ideal.exp (s k.val - mx s n)) (tot s (fun _ => 1) n : EReal)
      = ((wt (s k.val) (mx s n) * v k.val / tot s (fun _ => 1) n : ℝ) : EReal) by
    rw [exp_sub_eq _ _ (le_mx k.isLt) (mx_ne_top hs _), Ideal.div, if_neg hne, ← EReal.coe_inv, ← EReal.coe_mul, ← EReal.coe_mul]
    congr 1; field_simp]
  rw [← coe_sum, ← Finset.sum_div]
  unfold avg
  rw [show tot s v n = ∑ k : Fin n, wt (s k.val) (mx s n) * v k.val from Finset.sum_range _]

end Cert.KernelIdeal.Attn

end
-- ==== Proof.Tile.lean ====
/- One key tile of the attention kernel over the extended reals, read at a query column: its scores, its masks, and
   the step of the running maximum and of the running sums. -/
module

public import proofs.«01_k».proof.Proof.Model
public import proofs.«01_k».proof.Proof.Weights
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

/-! ## Words and literals -/

theorem neg_inf : Ideal.ofBits FTy.f32 0xFF800000#32 = ⊥ := by
  simp [Ideal.ofBits, Ideal.ieee]

theorem select_iff {α : Type} {c : BitVec 1} {P : Prop} [Decidable P] (h : c = 1#1 ↔ P) (a b : α) :
    Scalar.select c a b = if P then a else b := if_congr h rfl rfl

theorem and_bit (a b : BitVec 1) : IntOp.andi a b = 1#1 ↔ a = 1#1 ∧ b = 1#1 := by
  revert a b; decide

theorem ofBool_one (b : Bool) : BitVec.ofBool b = 1#1 ↔ b = true := by cases b <;> decide

theorem sge_nat {x y : ℕ} (hx : x < 2 ^ 31) (hy : y < 2 ^ 31) :
    IntOp.cmpi .sge (BitVec.ofNat 32 x) (BitVec.ofNat 32 y) = 1#1 ↔ y ≤ x := by
  show BitVec.ofBool (BitVec.sle _ _) = 1#1 ↔ _
  rw [ofBool_one, BitVec.sle_iff_toInt_le]
  simp only [BitVec.toInt_ofNat', Int.bmod_def]
  omega

theorem diag_nat {x c o : ℕ} (hx : x < 768) (hc : c < 256) (ho : o < 768) :
    IntOp.cmpi .sle (IntOp.subi (BitVec.ofNat 32 x) (BitVec.ofNat 32 c)) (BitVec.ofNat 32 o) = 1#1 ↔ x ≤ c + o := by
  show BitVec.ofBool (BitVec.sle (BitVec.ofNat 32 x - BitVec.ofNat 32 c) _) = 1#1 ↔ _
  rw [ofBool_one, BitVec.sle_iff_toInt_le]
  simp only [BitVec.toInt_sub, BitVec.toInt_ofNat', Int.bmod_def]
  omega

theorem start_word (x n : ℕ) : IntOp.addi (BitVec.ofNat 32 x) (Scalar.muli (BitVec.ofNat 32 n) 768#32) = BitVec.ofNat 32 (x + 768 * n) := by
  show BitVec.ofNat 32 x + BitVec.ofNat 32 n * BitVec.ofNat 32 768 = _
  rw [← BitVec.ofNat_mul, ← BitVec.ofNat_add, Nat.mul_comm]

theorem one_row {e : ℕ} (he : e < 16) : FloatOps.sitofp (F := Ideal) FTy.f32
      (BitVec.setWidth 32 (IntOp.cmpi .eq (BitVec.ofNat 32 e) 0#32)) = ((if e = 0 then 1 else 0 : ℝ) : EReal) := by
  interval_cases e <;> simp [FloatOps.sitofp, IntOp.cmpi]

theorem named_neg : Named.named (F := Ideal) κ "neg" (φ := .f32) 0xF149F2CA#32 = (⊥ : EReal) := rfl

/-! ## Masks -/

/-- Key `j` is seen by query `q`: it lies past the padding and not after the query. -/
def seen (q j : ℕ) : Prop := 240 ≤ j ∧ j ≤ q
instance (q j : ℕ) : Decidable (seen q j) := inferInstanceAs (Decidable (_ ∧ _))

theorem maskFirst_at (s : Vec Ideal S1x768x256 .f32) (x : Fin 768) (c : Fin 256) :
    maskFirst s (ix2 x c) = if 240 ≤ x.val then s (ix3 0 x c) else ⊥ := by
  pointwise [maskFirst]
  rw [select_iff (sge_nat (by have := x.isLt; omega) (by decide))]
  rfl

theorem maskNone_at (s : Vec Ideal S1x768x256 .f32) (x : Fin 768) (c : Fin 256) : maskNone s (ix2 x c) = s (ix3 0 x c) := by
  pointwise [maskNone]

theorem diag_seen {x c n d : ℕ} (hx : x < 768) (hc : c < 256) (hn : n < 11) (hd : d < 3) :
    IntOp.andi (IntOp.cmpi .sle (IntOp.subi (BitVec.ofNat 32 x) (BitVec.ofNat 32 c)) (BitVec.ofNat 32 (256 * d)))
      (IntOp.cmpi .sge (IntOp.addi (BitVec.ofNat 32 x) (Scalar.muli (BitVec.ofNat 32 n) 768#32)) 240#32) = 1#1
    ↔ seen (256 * (3 * n + d) + c) (768 * n + x) := by
  rw [and_bit, diag_nat hx hc (by omega), start_word, sge_nat (by omega) (by decide)]
  unfold seen; omega

theorem maskDiag768_at {n d : ℕ} (hn : n < 11) (hd : d < 3) (s : Vec Ideal S1x768x256 .f32) (x : Fin 768) (c : Fin 256) :
    maskDiag768 (BitVec.ofNat 32 n) (BitVec.ofNat 32 (256 * d)) s (ix2 x c)
      = if seen (256 * (3 * n + d) + c.val) (768 * n + x.val) then s (ix3 0 x c) else ⊥ := by
  pointwise [maskDiag768]
  rw [select_iff (diag_seen (by have := x.isLt; omega) c.isLt hn hd)]
  rfl

theorem maskDiag512_at {n d : ℕ} (hn : n < 11) (hd : d < 3) (s : Vec Ideal S1x512x256 .f32) (x : Fin 512) (c : Fin 256) :
    maskDiag512 (BitVec.ofNat 32 n) (BitVec.ofNat 32 (256 * d)) s (ix2 x c)
      = if seen (256 * (3 * n + d) + c.val) (768 * n + x.val) then s (ix3 0 x c) else ⊥ := by
  pointwise [maskDiag512]
  rw [select_iff (diag_seen (by have := x.isLt; omega) c.isLt hn hd)]
  rfl

theorem maskDiag256_at {n d : ℕ} (hn : n < 11) (hd : d < 3) (s : Vec Ideal S1x256x256 .f32) (x : Fin 256) (c : Fin 256) :
    maskDiag256 (BitVec.ofNat 32 n) (BitVec.ofNat 32 (256 * d)) s (ix2 x c)
      = if seen (256 * (3 * n + d) + c.val) (768 * n + x.val) then s (ix3 0 x c) else ⊥ := by
  pointwise [maskDiag256]
  rw [select_iff (diag_seen (by have := x.isLt; omega) c.isLt hn hd)]
  rfl

/-! ## The step of one head -/

/-- Row `e` of the values with the ones row under them. -/
def aug (v : ℕ → ℕ → ℝ) (e j : ℕ) : ℝ := if e < 128 then v e j else if e - 128 = 0 then 1 else 0

theorem max768_at (s : FVec Ideal S768x256 .f32) (m : Vec Ideal S1x1x256 .f32) (c : Fin 256) :
    max768 s m (ix2 0 c) = max (m (ix3 0 0 c)) ((Finset.univ : Finset (Fin 768)).fold max ⊥ fun x => s (ix2 x c)) := by
  pointwise [max768]
  rw [neg_inf]
theorem max512_at (s : FVec Ideal S512x256 .f32) (m : Vec Ideal S1x1x256 .f32) (c : Fin 256) :
    max512 s m (ix2 0 c) = max (m (ix3 0 0 c)) ((Finset.univ : Finset (Fin 512)).fold max ⊥ fun x => s (ix2 x c)) := by
  pointwise [max512]
  rw [neg_inf]
theorem max256_at (s : FVec Ideal S256x256 .f32) (m : Vec Ideal S1x1x256 .f32) (c : Fin 256) :
    max256 s m (ix2 0 c) = max (m (ix3 0 0 c)) ((Finset.univ : Finset (Fin 256)).fold max ⊥ fun x => s (ix2 x c)) := by
  pointwise [max256]
  rw [neg_inf]

/-- After `N` keys: the maximum and the sums of query column `c`. -/
structure Row (M : Vec Ideal S1x1x256 .f32) (A : Vec Ideal S1x144x256 .f32) (c : Fin 256) (s : ℕ → EReal) (v : ℕ → ℕ → ℝ) (N : ℕ) : Prop where
  m : M (ix3 0 0 c) = mx s N
  a : ∀ e : Fin 144, A (ix3 0 e c) = (tot s (aug v e) N : EReal)

/-- The tile's sums, its maximum given, over `T` more keys. -/
theorem step_sum {T N : ℕ} {s : ℕ → EReal} (hs : ∀ j, s j ≠ ⊤) {v : ℕ → ℕ → ℝ} {e : Fin 144} {m m' a : EReal} {S : Fin T → EReal}
    {V : Fin T → e.val < 128 → EReal}
    (hm : m = mx s N) (hm' : m' = mx s (N + T)) (ha : a = (tot s (aug v e) N : EReal))
    (hS : ∀ x, S x = s (N + x.val)) (hV : ∀ x h, V x h = (v e (N + x.val) : EReal)) :
    Ideal.exp (m - m') * a + ∑ x : Fin T, (if h : e.val < 128 then V x h else
      FloatOps.sitofp (F := Ideal) FTy.f32 (BitVec.setWidth 32 (IntOp.cmpi .eq (BitVec.ofNat 32 (e.val - 128)) 0#32))) * Ideal.exp (S x - m')
    = (tot s (aug v e) (N + T) : EReal) := by
  rw [← tot_add hs, hm, hm', ha]
  congr 1
  refine Finset.sum_congr rfl fun x _ => ?_
  rw [hS]
  congr 1
  unfold aug
  split
  · exact hV x _
  · rw [one_row (by have := e.isLt; omega)]

theorem Row.step768 {M A c s v N} (H : Row M A c s v N) (hs : ∀ j, s j ≠ ⊤) (S : FVec Ideal S768x256 .f32) (V : FVec Ideal S128x768 .bf16)
    (hS : ∀ x : Fin 768, S (ix2 x c) = s (N + x.val)) (hV : ∀ (e : Fin 128) (x : Fin 768), V (ix2 e x) = (v e (N + x.val) : EReal)) :
    Row (shapeCast S1x1x256 (max768 S M) shapeCasts_S1x256_S1x1x256) (sum768 V S M A) c s v (N + 768) := by
  have h : max768 S M (ix2 0 c) = mx s (N + 768) := by
    rw [max768_at, H.m, ← mx_add N 768]; simp only [hS]
  refine ⟨?_, fun e => ?_⟩
  · pointwise; exact h
  · pointwise [sum768, ones768]
    exact step_sum hs H.m h (H.a e) hS fun x h => hV ⟨e.val, h⟩ x

theorem Row.step512 {M A c s v N} (H : Row M A c s v N) (hs : ∀ j, s j ≠ ⊤) (S : FVec Ideal S512x256 .f32) (V : FVec Ideal S128x512 .bf16)
    (hS : ∀ x : Fin 512, S (ix2 x c) = s (N + x.val)) (hV : ∀ (e : Fin 128) (x : Fin 512), V (ix2 e x) = (v e (N + x.val) : EReal)) :
    Row (shapeCast S1x1x256 (max512 S M) shapeCasts_S1x256_S1x1x256) (sum512 V S M A) c s v (N + 512) := by
  have h : max512 S M (ix2 0 c) = mx s (N + 512) := by
    rw [max512_at, H.m, ← mx_add N 512]; simp only [hS]
  refine ⟨?_, fun e => ?_⟩
  · pointwise; exact h
  · pointwise [sum512, ones512]
    exact step_sum hs H.m h (H.a e) hS fun x h => hV ⟨e.val, h⟩ x

theorem Row.step256 {M A c s v N} (H : Row M A c s v N) (hs : ∀ j, s j ≠ ⊤) (S : FVec Ideal S256x256 .f32) (V : FVec Ideal S128x256 .bf16)
    (hS : ∀ x : Fin 256, S (ix2 x c) = s (N + x.val)) (hV : ∀ (e : Fin 128) (x : Fin 256), V (ix2 e x) = (v e (N + x.val) : EReal)) :
    Row (shapeCast S1x1x256 (max256 S M) shapeCasts_S1x256_S1x1x256) (sum256 V S M A) c s v (N + 256) := by
  have h : max256 S M (ix2 0 c) = mx s (N + 256) := by
    rw [max256_at, H.m, ← mx_add N 256]; simp only [hS]
  refine ⟨?_, fun e => ?_⟩
  · pointwise; exact h
  · pointwise [sum256, ones256]
    exact step_sum hs H.m h (H.a e) hS fun x h => hV ⟨e.val, h⟩ x

/-! ## Values and scores -/

theorem vals768_at (v : Vec Ideal S256x768 .bf16) (h : Fin 4) (e : Fin 128) (x : Fin 768) :
    vals768 v h (ix2 e x) = v (ix2 ⟨128 * (h.val / 2) + e.val, by omega⟩ x) := by
  match h with
  | 0 => pointwise [vals768]
  | 1 => pointwise [vals768]
  | 2 => pointwise [vals768]
  | 3 => pointwise [vals768]
theorem vals512_at (v : Vec Ideal S256x512 .bf16) (h : Fin 4) (e : Fin 128) (x : Fin 512) :
    vals512 v h (ix2 e x) = v (ix2 ⟨128 * (h.val / 2) + e.val, by omega⟩ x) := by
  match h with
  | 0 => pointwise [vals512]
  | 1 => pointwise [vals512]
  | 2 => pointwise [vals512]
  | 3 => pointwise [vals512]
theorem vals256_at (v : Vec Ideal S256x256 .bf16) (h : Fin 4) (e : Fin 128) (x : Fin 256) :
    vals256 v h (ix2 e x) = v (ix2 ⟨128 * (h.val / 2) + e.val, by omega⟩ x) := by
  match h with
  | 0 => pointwise [vals256]
  | 1 => pointwise [vals256]
  | 2 => pointwise [vals256]
  | 3 => pointwise [vals256]

set_option maxHeartbeats 2000000 in
theorem queries_at (q : Vec Ideal S256x256 .bf16) (h : Fin 4) (y : Fin 256) (c : Fin 256) :
    k0_pay260 q (ix2 y ⟨256 * h.val + c.val, by omega⟩) = if 64 * h.val ≤ y.val ∧ y.val < 64 * h.val + 64 then q (ix2 y c) else (0 : EReal) := by
  have hh := h.isLt
  have hc := c.isLt
  have hy := y.isLt
  have key : ∀ a b : Fin 256, a.val = y.val → b.val = c.val → q (ix2 a b) = q (ix2 y c) := fun a b h1 h2 => by rw [Fin.ext h1, Fin.ext h2]
  pointwise [k0_pay260]
  by_cases hin : 64 * h.val ≤ y.val ∧ y.val < 64 * h.val + 64
  · rw [if_pos hin]
    split_ifs <;> first
      | (exfalso; omega)
      | (refine key _ _ ?_ ?_ <;> dsimp only <;> omega)
  · rw [if_neg hin]
    split_ifs <;> first | rfl | (exfalso; omega)

theorem scores_at (q : FVec Ideal S256x1024 .bf16) (k : Vec Ideal S768x256 .bf16) (x : Fin 768) (c : Fin 1024) :
    scores q k (ix3 0 x c) = ∑ y : Fin 256, k (ix2 x y) * q (ix2 y c) := by
  pointwise [scores]

end Cert.KernelIdeal.Attn

end
-- ==== Proof.State.lean ====
/- The four heads' sums at the end of the key tiles, over the extended reals: each is the sum of the values weighed by
   the exponentials of the query's scores, over all the keys it sees. -/
module

public import proofs.«01_k».proof.Proof.Tile
public import proofs.«01_k».proof.Proof.Body

@[expose] public section

set_option maxRecDepth 16384

noncomputable section

namespace Cert.KernelIdeal.Attn

open Cert.KernelIdeal Cert.KernelIdeal.Gen
open Idealize.ShloMosaic Idealize.ShloMosaic.TcCoe

/-- The masked scores of query `q`. -/
def masked (q : ℕ) (r : ℕ → ℝ) (j : ℕ) : EReal := if seen q j then (r j : EReal) else ⊥

theorem masked_ne_top (q : ℕ) (r : ℕ → ℝ) (j : ℕ) : masked q r j ≠ ⊤ := by
  unfold masked; split
  · exact EReal.coe_ne_top _
  · exact bot_ne_top

theorem keyTile_at (X : Vec Ideal S8448x256 .bf16) (o : ℕ) (x : Fin 768) (y : Fin 256) (h : o + x.val < 8448) :
    keyTile X o (ix2 x y) = X (ix2 ⟨o + x.val, h⟩ y) :=
  congrArg X (funext fun a => match a with
    | ⟨0, _⟩ => Fin.ext (Nat.mod_eq_of_lt h)
    | ⟨1, _⟩ => rfl)

theorem valTile_at (n : ℕ) (X : Vec Ideal S256x8448 .bf16) (o : ℕ) (y : Fin 256) (x : Fin n) (h : o + x.val < 8448) :
    valTile n X o (ix2 y x) = X (ix2 y ⟨o + x.val, h⟩) :=
  congrArg X (funext fun a => match a with
    | ⟨0, _⟩ => rfl
    | ⟨1, _⟩ => Fin.ext (Nat.mod_eq_of_lt h))

theorem headScores_at (n : ℕ) (hn : n ≤ 768) (S : FVec Ideal S1x768x1024 .f32) (h : Fin 4) (x : Fin n) (c : Fin 256) :
    headScores n hn S h (ix3 0 x c) = S (ix3 0 ⟨x.val, lt_of_lt_of_le x.isLt hn⟩ ⟨256 * h.val + c.val, by omega⟩) :=
  congrArg S (funext fun a => match a with
    | ⟨0, _⟩ => rfl
    | ⟨1, _⟩ => rfl
    | ⟨2, _⟩ => rfl)

variable {Q : FVec Ideal S256x1024 .bf16} {K : Vec Ideal S8448x256 .bf16} {V : Vec Ideal S256x8448 .bf16}
  {h : Fin 4} {c : Fin 256} {r : ℕ → ℝ} {v : ℕ → ℕ → ℝ}

theorem tileScores_at (hR : ∀ j : Fin 8448, ∑ y : Fin 256, K (ix2 j y) * Q (ix2 y ⟨256 * h.val + c.val, by omega⟩) = (r j.val : EReal))
    {n : ℕ} (hn : n < 11) (x : Fin 768) :
    tileScores Q K n (ix3 0 x ⟨256 * h.val + c.val, by omega⟩) = (r (768 * n + x.val) : EReal) := by
  have hx := x.isLt
  rw [tileScores, scores_at, ← hR ⟨768 * n + x.val, by omega⟩]
  simp only [keyTile_at K _ x _ (show 768 * n + x.val < 8448 by omega)]

/-- After `n` whole tiles before the query. -/
theorem before_row (hR : ∀ j : Fin 8448, ∑ y : Fin 256, K (ix2 j y) * Q (ix2 y ⟨256 * h.val + c.val, by omega⟩) = (r j.val : EReal))
    (hV : ∀ (e : Fin 128) (j : Fin 8448), V (ix2 ⟨128 * (h.val / 2) + e.val, by omega⟩ j) = (v e.val j.val : EReal))
    (q : ℕ) : ∀ n : ℕ, n < 11 → 768 * n ≤ q → Row ((before Q K V n).2 h) ((before Q K V n).1 h) c (masked q r) v (768 * n)
  | 0, _, _ => ⟨named_neg, fun e => Ideal.ofBits_zero_f32⟩
  | n + 1, hn, hq => by
    have H := before_row hR hV q n (by omega) (by omega)
    have hvals : ∀ (e : Fin 128) (x : Fin 768), vals768 (valTile 768 V (768 * n)) h (ix2 e x) = (v e.val (768 * n + x.val) : EReal) := fun e x => by
      have hx := x.isLt
      rw [vals768_at, valTile_at _ _ _ _ _ (by omega), hV]
    rw [show 768 * (n + 1) = 768 * n + 768 by ring]
    refine H.step768 (masked_ne_top q r) _ _ (fun x => ?_) hvals
    have hx := x.isLt
    by_cases h0 : n = 0
    · subst h0
      show (if (0 : ℕ) = 0 then firstScores (tileScores Q K 0) else midScores (tileScores Q K 0)) h (ix2 x c) = _
      rw [if_pos rfl, firstScores, maskFirst_at, headScores_at, tileScores_at hR (by decide)]
      unfold masked
      exact if_congr (by unfold seen; omega) rfl rfl
    · show (if n = 0 then firstScores (tileScores Q K 0) else midScores (tileScores Q K n)) h (ix2 x c) = _
      rw [if_neg h0, midScores, maskNone_at, headScores_at, tileScores_at hR (by omega), masked, if_pos (by unfold seen; omega)]

theorem final_row (hR : ∀ j : Fin 8448, ∑ y : Fin 256, K (ix2 j y) * Q (ix2 y ⟨256 * h.val + c.val, by omega⟩) = (r j.val : EReal))
    (hV : ∀ (e : Fin 128) (j : Fin 8448), V (ix2 ⟨128 * (h.val / 2) + e.val, by omega⟩ j) = (v e.val j.val : EReal))
    (t : Fin grid0.N) (e : Fin 144) :
    finalSums t (tileWord t) (thirdWord t) Q K V h (ix3 0 e c) = (tot (masked (256 * (t.val % 33) + c.val) r) (aug v e.val) 8448 : EReal) := by
  have hc := c.isLt
  have hn := diagTile_lt t
  have hd : diagThird t < 3 := by unfold diagThird; omega
  have hq : 256 * (t.val % 33) + c.val = 256 * (3 * diagTile t + diagThird t) + c.val := by unfold diagTile diagThird; omega
  rw [tileWord_eq, thirdWord_eq, hq]
  generalize hq' : 256 * (3 * diagTile t + diagThird t) + c.val = q
  have H := before_row hR hV q (diagTile t) hn (by omega)
  have hm := masked_ne_top q r
  have fin : ∀ N, q < N → N ≤ 8448 → tot (masked q r) (aug v e.val) N = tot (masked q r) (aug v e.val) 8448 := fun N h1 h2 =>
    (tot_masked h2 (fun j hj => if_neg (by unfold seen; omega)) _).symm
  unfold finalSums
  split_ifs with h0 h1
  · rw [← fin (768 * diagTile t + 256) (by omega) (by omega)]
    refine (H.step256 hm _ _ (fun x => ?_) fun e x => ?_).a e
    · rw [diagScores256, maskDiag256_at hn hd, headScores_at, tileScores_at hR hn, hq']; rfl
    · have hx := x.isLt; rw [vals256_at, valTile_at _ _ _ _ _ (by omega), hV]
  · rw [← fin (768 * diagTile t + 512) (by omega) (by omega)]
    refine (H.step512 hm _ _ (fun x => ?_) fun e x => ?_).a e
    · rw [diagScores512, maskDiag512_at hn hd, headScores_at, tileScores_at hR hn, hq']; rfl
    · have hx := x.isLt; rw [vals512_at, valTile_at _ _ _ _ _ (by omega), hV]
  · rw [← fin (768 * diagTile t + 768) (by omega) (by omega)]
    refine (H.step768 hm _ _ (fun x => ?_) fun e x => ?_).a e
    · rw [diagScores768, maskDiag768_at hn hd, headScores_at, tileScores_at hR hn, hq']; rfl
    · have hx := x.isLt; rw [vals768_at, valTile_at _ _ _ _ _ (by omega), hV]

end Cert.KernelIdeal.Attn

end
-- ==== Proof.Out.lean ====
module

public import proofs.«01_k».proof.Proof.State

@[expose] public section

set_option maxRecDepth 16384

noncomputable section

namespace Cert.KernelIdeal.Attn

open Cert.KernelIdeal Cert.KernelIdeal.Gen
open Idealize.ShloMosaic Idealize.ShloMosaic.TcCoe

/-- One head's attention before the difference: its weighted values over its weights. -/
def headOut (A : Sums Ideal) (h : Fin 4) (c : Fin 256) (e : Fin 128) : EReal :=
  A h (ix3 0 ⟨e.val, by omega⟩ c) * Ideal.div 1 (A h (ix3 0 128 c))

/-- The normalized difference: `D` over the root of its mean square, times the gain and the layer's constant. -/
def normed (D : Fin 128 → EReal) (g : EReal) (e : Fin 128) : EReal :=
  D e * Ideal.rsqrt (Ideal.div (∑ x, D x * D x) (Ideal.ofBits .f32 0x43000000#32) + Ideal.ofBits .f32 0x358637BD#32)
    * g * Ideal.ofBits .f32 0x3F4CCCCD#32

theorem outBlock_left (A : Sums Ideal) (lam : EReal) (g : Vec Ideal S128x256 .f32) (c : Fin 256) (e : Fin 128) :
    outBlock A lam g (ix2 c ⟨e.val, by omega⟩)
      = normed (fun x => headOut A 0 c x - lam * headOut A 1 c x) (g (ix2 e c)) e := by
  unfold outBlock normed headOut
  pointwise [k0_pay1, k0_pay313, k0_pay314, k0_pay315, k0_pay316]

theorem outBlock_right (A : Sums Ideal) (lam : EReal) (g : Vec Ideal S128x256 .f32) (c : Fin 256) (e : Fin 128) :
    outBlock A lam g (ix2 c ⟨128 + e.val, by omega⟩)
      = normed (fun x => headOut A 2 c x - lam * headOut A 3 c x) (g (ix2 e c)) e := by
  unfold outBlock normed headOut
  pointwise [k0_pay1, k0_pay313, k0_pay314, k0_pay315, k0_pay316]

variable {K : Vec Ideal S8448x256 .bf16} {Q : FVec Ideal S256x1024 .bf16} {V : Vec Ideal S256x8448 .bf16}
variable {r : ℕ → ℝ} {v : ℕ → ℕ → ℝ} {h : Fin 4} {c : Fin 256}

/-- A head's attention at a query is the average of the values, weighed by the exponentials of its scores. -/
theorem headOut_eq (hR : ∀ j : Fin 8448, ∑ y : Fin 256, K (ix2 j y) * Q (ix2 y ⟨256 * h.val + c.val, by omega⟩) = (r j.val : EReal))
    (hV : ∀ (e : Fin 128) (j : Fin 8448), V (ix2 ⟨128 * (h.val / 2) + e.val, by omega⟩ j) = (v e.val j.val : EReal))
    (t : Fin grid0.N) (e : Fin 128) :
    headOut (finalSums t (tileWord t) (thirdWord t) Q K V) h c e
      = (avg (masked (256 * (t.val % 33) + c.val) r) (v e.val) 8448 : EReal) := by
  unfold headOut
  have h1 := final_row hR hV t ⟨e.val, by omega⟩
  have h2 := final_row hR hV t 128
  have a1 : aug v (⟨e.val, by omega⟩ : Fin 144).val = v e.val := by funext j; unfold aug; rw [if_pos e.isLt]
  have a2 : aug v (128 : Fin 144).val = fun _ => 1 := by
    funext j; unfold aug
    rw [if_neg (by decide), if_pos (by decide)]
  rw [a1] at h1; rw [a2] at h2
  rw [h1, h2, mul_recip]

end Cert.KernelIdeal.Attn

end
-- ==== Proof.Spec.lean ====
/- What both programs compute, as real numbers: the scores, the averages they weigh, and the normalized difference. -/
module

public import proofs.«01_k».proof.Proof.Out

@[expose] public section

set_option maxRecDepth 16384

noncomputable section

namespace Cert.KernelIdeal.Attn

open Cert.KernelIdeal Cert.KernelIdeal.Gen
open Idealize.ShloMosaic Idealize.ShloMosaic.TcCoe

/-- One over the root of a head's size. -/
def scale : ℝ := (Ideal.ofBits .f32 0x3E000000#32).toReal

theorem scale_eq : Ideal.ofBits .f32 0x3E000000#32 = (scale : EReal) := by
  unfold scale
  rw [EReal.coe_toReal] <;> simp [Ideal.ofBits, Ideal.ieee]
  · exact ne_of_eq_of_ne (EReal.coe_mul 8388608 (2 ^ 26)⁻¹).symm (EReal.coe_ne_top _)
  · exact ne_of_eq_of_ne (EReal.coe_mul 8388608 (2 ^ 26)⁻¹).symm (EReal.coe_ne_bot _)

/-- The projections as a function of the batch, the row and the column. -/
abbrev Proj := Fin 4 → Fin 8448 → Fin 3072 → EReal

/-- The columns the attention reads are finite. -/
def Finite (P : Proj) : Prop := ∀ b l y, 1536 ≤ y.val → P b l y ≠ ⊤ ∧ P b l y ≠ ⊥

def realAt (P : Proj) (b : Fin 4) (l y : ℕ) : ℝ := if h : l < 8448 ∧ y < 3072 then (P b ⟨l, h.1⟩ ⟨y, h.2⟩).toReal else 0

theorem Finite.eq {P : Proj} (h : Finite P) (b : Fin 4) (l : Fin 8448) (y : Fin 3072) (hy : 1536 ≤ y.val) :
    P b l y = (realAt P b l.val y.val : EReal) := by
  unfold realAt
  rw [dif_pos ⟨l.isLt, y.isLt⟩, EReal.coe_toReal (h b l y hy).1 (h b l y hy).2]

/-- A query's score of a key, in one of the eight maps. -/
def score (P : Proj) (b : Fin 4) (hd q j : ℕ) : ℝ :=
  (∑ d : Fin 64, realAt P b q (1536 + 64 * hd + d.val) * realAt P b j (2048 + 64 * hd + d.val)) * scale

/-- A value, in one of the four heads. -/
def value (P : Proj) (b : Fin 4) (H e j : ℕ) : ℝ := realAt P b j (2560 + 128 * H + e)

/-- The difference of the two maps' averages. -/
def diff (P : Proj) (lam : EReal) (b : Fin 4) (H q : ℕ) (e : Fin 128) : EReal :=
  (avg (masked q (score P b (2 * H) q)) (value P b H e.val) 8448 : EReal)
    - lam * (avg (masked q (score P b (2 * H + 1) q)) (value P b H e.val) 8448 : EReal)

/-- The result at a row and a column. -/
def resultAt (P : Proj) (lam : EReal) (g : Fin 128 → EReal) (i : Fin 33792) (j : Fin 512) : EReal :=
  normed (diff P lam ⟨i.val / 8448, by omega⟩ (j.val / 128) (i.val % 8448)) (g ⟨j.val % 128, by omega⟩) ⟨j.val % 128, by omega⟩

/-- A sum over four heads' rows of which only one head's are not zero. -/
theorem sum_head (f : ℕ → ℝ) (h : Fin 4) :
    ∑ y : Fin 256, (if 64 * h.val ≤ y.val ∧ y.val < 64 * h.val + 64 then f y.val else 0) = ∑ d : Fin 64, f (64 * h.val + d.val) := by
  have hh := h.isLt
  rw [Fin.sum_univ_eq_sum_range (fun y => if 64 * h.val ≤ y ∧ y < 64 * h.val + 64 then f y else 0) 256,
    Fin.sum_univ_eq_sum_range (fun d => f (64 * h.val + d)) 64, ← Finset.sum_filter]
  have : (Finset.range 256).filter (fun y => 64 * h.val ≤ y ∧ y < 64 * h.val + 64) = Finset.Ico (64 * h.val) (64 * h.val + 64) := by
    ext y; simp only [Finset.mem_filter, Finset.mem_range, Finset.mem_Ico]; omega
  rw [this, Finset.sum_Ico_eq_sum_range, Nat.add_sub_cancel_left]

end Cert.KernelIdeal.Attn

end
-- ==== Proof.Inputs.lean ====
/- The blocks the body is handed, read off the program's arguments. -/
module

public import proofs.«01_k».proof.Proof.Frame
public import Idealize.ShloMosaic.Lib.Claim
public import Idealize.ShloMosaic.Lib.StableHlo.RunRead
public import Idealize.ShloMosaic.Lib.Pointwise
public import Idealize.ShloMosaic.Lib.Pipeline.ValueKit.Point

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ) (c : Dev nD)

/-- The projections, the weight of the second map, and the gain. -/
abbrev projOf : (⟨S4x8448x3072, .f32⟩ : BufTy).Contents (Elt Ideal) := m ((c.tc : Thread nD τ).loc main_arg0)
abbrev lamOf : (⟨S1x1, .f32⟩ : BufTy).Contents (Elt Ideal) := m ((c.tc : Thread nD τ).loc main_arg1)
abbrev gainOf : (⟨S128, .f32⟩ : BufTy).Contents (Elt Ideal) := m ((c.tc : Thread nD τ).loc main_arg2)

/-- A row of all the batches' rows, as its batch and its row there. -/
theorem proj_split (b : Fin 4) (l : Fin 8448) (y : Fin 3072) (h1 : (8448 * b.val + l.val) / 8448 < 4) (h2 : (8448 * b.val + l.val) % 8448 < 8448) :
    m (c, Proc.tc.devRef main_arg0) (ix3 ⟨(8448 * b.val + l.val) / 8448, h1⟩ ⟨(8448 * b.val + l.val) % 8448, h2⟩ y)
      = projOf m c (ix3 b l y) := by
  have e1 : (8448 * b.val + l.val) / 8448 = b.val := by omega
  have e2 : (8448 * b.val + l.val) % 8448 = l.val := by omega
  exact congrArg (m (c, Proc.tc.devRef main_arg0)) (by congr 1 <;> exact Fin.ext (by assumption))

theorem tok_at (b : Fin 4) (l : Fin 8448) (y : Fin 512) :
    (V m c main_v4 : (⟨S33792x1024, .bf16⟩ : BufTy).Contents (Elt Ideal)) (ix2 ⟨8448 * b.val + l.val, by omega⟩ ⟨512 + y.val, by omega⟩)
      = projOf m c (ix3 b l ⟨2048 + y.val, by omega⟩) := by
  entry_read
  pointwise
  exact proj_split m c b l _ _ _

/-- The four groups of 512 columns, side by side and turned: the array the queries and the values are read from. -/
def turned (a b d e : FVec Ideal S33792x512 .f32) : FVec Ideal S2048x33792 .bf16 :=
  truncf .bf16 (transpose S2048x33792 [1, 0] (concatenate S33792x2048 1 [⟨S33792x512, a⟩, ⟨S33792x512, b⟩, ⟨S33792x512, d⟩, ⟨S33792x512, e⟩]
    concatenates_S33792x512_S33792x512_S33792x512_S33792x512_S33792x2048_d1) transposes_S33792x2048_S2048x33792_1_0) bitsLt_bf16_f32

theorem turned_third (a b d e : FVec Ideal S33792x512 .f32) (y : Fin 512) (j : Fin 33792) :
    turned a b d e (ix2 ⟨1024 + y.val, by omega⟩ j) = d (ix2 j y) := by
  have hy := y.isLt
  pointwise [turned]
  split_ifs
  all_goals first | omega | skip
  exact congrArg _ (by congr 1; exact Fin.ext (by simp only []; omega))

theorem turned_fourth (a b d e : FVec Ideal S33792x512 .f32) (y : Fin 512) (j : Fin 33792) :
    turned a b d e (ix2 ⟨1536 + y.val, by omega⟩ j) = e (ix2 j y) := by
  have hy := y.isLt
  pointwise [turned]
  split_ifs
  all_goals first | omega | skip
  exact congrArg _ (by congr 1; exact Fin.ext (by simp only []; omega))

/-- A group of 512 columns of all the rows. -/
def colsAt (P : (⟨S4x8448x3072, .f32⟩ : BufTy).Contents (Elt Ideal)) (o : Fin 2 → ℕ) (h : S33792x3072.Slices o S33792x512) :
    FVec Ideal S33792x512 .f32 :=
  extractStridedSlice S33792x512 o (shapeCast S33792x3072 P shapeCasts_S4x8448x3072_S33792x3072) h

def scaled (x : FVec Ideal S33792x512 .f32) : FVec Ideal S33792x512 .f32 :=
  mulf x (broadcastInDim S33792x512 ![] bcast_S_S33792x512 (constant S_ .f32 0x3E000000#32))

theorem turned_entry : (V m c main_v15 : (⟨S2048x33792, .bf16⟩ : BufTy).Contents (Elt Ideal))
    = turned (scaled (colsAt (projOf m c) ![0, 0] slices_S33792x3072_S33792x512_0_0)) (colsAt (projOf m c) ![0, 1024] slices_S33792x3072_S33792x512_0_1024)
      (scaled (colsAt (projOf m c) ![0, 1536] slices_S33792x3072_S33792x512_0_1536)) (colsAt (projOf m c) ![0, 2560] slices_S33792x3072_S33792x512_0_2560) := by
  unfold V
  after_reads_simp
  rfl

theorem query_at (b : Fin 4) (l : Fin 8448) (y : Fin 512) :
    (V m c main_v15 : (⟨S2048x33792, .bf16⟩ : BufTy).Contents (Elt Ideal)) (ix2 ⟨1024 + y.val, by omega⟩ ⟨8448 * b.val + l.val, by omega⟩)
      = projOf m c (ix3 b l ⟨1536 + y.val, by omega⟩) * Ideal.ofBits .f32 0x3E000000#32 := by
  rw [turned_entry, turned_third]
  pointwise [scaled, colsAt]

theorem value_at (b : Fin 4) (l : Fin 8448) (y : Fin 512) :
    (V m c main_v15 : (⟨S2048x33792, .bf16⟩ : BufTy).Contents (Elt Ideal)) (ix2 ⟨1536 + y.val, by omega⟩ ⟨8448 * b.val + l.val, by omega⟩)
      = projOf m c (ix3 b l ⟨2560 + y.val, by omega⟩) := by
  rw [turned_entry, turned_fourth]
  pointwise [colsAt]

theorem gain_at (e : Fin 128) (x : Fin 256) :
    (V m c main_v17 : (⟨S128x256, .f32⟩ : BufTy).Contents (Elt Ideal)) (ix2 e x) = gainOf m c (ix1 e) := by
  entry_read
  pointwise

theorem index_0 : ∀ t : Fin cfg0.N, win0_0.index t = ![t.val / 66, 2 + t.val / 33 % 2] :=
  (by decide +kernel : ∀ t : Fin grid0.N, _)
theorem index_1 : ∀ t : Fin cfg0.N, win0_1.index t = ![4 + t.val / 33 % 2, t.val / 66 * 33 + t.val % 33] :=
  (by decide +kernel : ∀ t : Fin grid0.N, _)
theorem index_2 : ∀ t : Fin cfg0.N, win0_2.index t = ![6 + t.val / 33 % 2, t.val / 66] :=
  (by decide +kernel : ∀ t : Fin grid0.N, _)
theorem index_5 : ∀ t : Fin cfg0.N, win0_5.index t = ![t.val / 66 * 33 + t.val % 33, t.val / 33 % 2] :=
  (by decide +kernel : ∀ t : Fin grid0.N, _)

/-- The batch, the pair of heads and the query block of a grid point. -/
def batch (t : Fin cfg0.N) : Fin 4 := ⟨t.val / 66, by have h : t.val < 264 := t.isLt; omega⟩
def part (t : Fin cfg0.N) : Fin 2 := ⟨t.val / 33 % 2, by omega⟩
def qblk (t : Fin cfg0.N) : Fin 33 := ⟨t.val % 33, by omega⟩

variable (t : Fin cfg0.N)

theorem keyBlock_at (l : Fin 8448) (y : Fin 256) :
    (iblk m c 0 t : Vec Ideal S8448x256 .bf16) (ix2 l y)
      = projOf m c (ix3 (batch t) l ⟨2048 + 256 * (part t).val + y.val, by have := (part t).isLt; omega⟩) := by
  have h := tok_at m c (batch t) l ⟨256 * (part t).val + y.val, by have := (part t).isLt; omega⟩
  refine Eq.trans ?_ (h.trans ?_)
  · blk_simp [iblk]
    refine congrArg (V m c main_v4) ?_
    blk_ext [index_0 t, batch, part]
  · exact congrArg (projOf m c) (by congr 1; exact Fin.ext (by simp only []; omega))

theorem queryBlock_at (y : Fin 256) (x : Fin 256) :
    (iblk m c 1 t : Vec Ideal S256x256 .bf16) (ix2 y x)
      = projOf m c (ix3 (batch t) ⟨256 * (qblk t).val + x.val, by have := (qblk t).isLt; omega⟩ ⟨1536 + 256 * (part t).val + y.val, by have := (part t).isLt; omega⟩)
        * Ideal.ofBits .f32 0x3E000000#32 := by
  have h := query_at m c (batch t) ⟨256 * (qblk t).val + x.val, by have := (qblk t).isLt; omega⟩ ⟨256 * (part t).val + y.val, by have := (part t).isLt; omega⟩
  refine Eq.trans ?_ (h.trans ?_)
  · blk_simp [iblk]
    refine congrArg (V m c main_v15) ?_
    blk_ext [index_1 t, batch, part, qblk]
  · exact congrArg (fun i => projOf m c i * Ideal.ofBits .f32 0x3E000000#32) (by congr 1; exact Fin.ext (by simp only []; omega))

theorem valueBlock_at (y : Fin 256) (l : Fin 8448) :
    (iblk m c 2 t : Vec Ideal S256x8448 .bf16) (ix2 y l)
      = projOf m c (ix3 (batch t) l ⟨2560 + 256 * (part t).val + y.val, by have := (part t).isLt; omega⟩) := by
  have h := value_at m c (batch t) l ⟨256 * (part t).val + y.val, by have := (part t).isLt; omega⟩
  refine Eq.trans ?_ (h.trans ?_)
  · blk_simp [iblk]
    refine congrArg (V m c main_v15) ?_
    blk_ext [index_2 t, batch, part]
  · exact congrArg (projOf m c) (by congr 1; exact Fin.ext (by simp only []; omega))

theorem lamBlock_at (i : S1x1.Idx) : (iblk m c 3 t : Vec Ideal S1x1 .f32) i = lamOf m c (ix2 0 0) := by
  refine Eq.trans (b := (V m c main_arg1 : (⟨S1x1, .f32⟩ : BufTy).Contents (Elt Ideal)) (ix2 0 0)) ?_ (congrFun (V_main_arg1 m c) _)
  blk_simp [iblk]
  exact congrArg (V m c main_arg1) (funext fun a => match a with | ⟨0, _⟩ => Subsingleton.elim (α := Fin 1) _ _ | ⟨1, _⟩ => Subsingleton.elim (α := Fin 1) _ _)

theorem gainBlock_at (e : Fin 128) (x : Fin 256) :
    (iblk m c 4 t : Vec Ideal S128x256 .f32) (ix2 e x) = gainOf m c (ix1 e) := by
  refine Eq.trans ?_ (gain_at m c e x)
  blk_simp [iblk]
  refine congrArg (V m c main_v17) ?_
  blk_ext [show win0_4.index t = ![0, 0] from rfl]

end Cert.KernelIdeal.Attn

end
-- ==== Proof.Value.lean ====
/- The kernel's result: every block the body writes is the one function's values there. -/
module

public import proofs.«01_k».proof.Proof.Spec
public import proofs.«01_k».proof.Proof.Inputs

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ) (c : Dev nD)

def projAt : Proj := fun b l y => projOf m c (ix3 b l y)

variable {m c}

/-- The block's scores are the maps' scores. -/
theorem block_scores (hP : Finite (projAt m c)) (t : Fin cfg0.N) {k : Vec Ideal S8448x256 .bf16} {q : Vec Ideal S256x256 .bf16}
    (hk : k = iblk m c 0 t) (hq : q = iblk m c 1 t) (h : Fin 4) (x : Fin 256) (j : Fin 8448) :
    ∑ y : Fin 256, k (ix2 j y) * k0_pay260 (F := Ideal) q (ix2 y ⟨256 * h.val + x.val, by omega⟩)
      = (score (projAt m c) (batch t) (4 * (part t).val + h.val) (256 * (qblk t).val + x.val) j.val : EReal) := by
  have hp := (part t).isLt
  have hqb := (qblk t).isLt
  have hh := h.isLt
  have hx := x.isLt
  have term : ∀ y : Fin 256, k (ix2 j y) * k0_pay260 (F := Ideal) q (ix2 y ⟨256 * h.val + x.val, by omega⟩)
      = ((if 64 * h.val ≤ y.val ∧ y.val < 64 * h.val + 64 then
          realAt (projAt m c) (batch t) (256 * (qblk t).val + x.val) (1536 + 256 * (part t).val + y.val)
            * realAt (projAt m c) (batch t) j.val (2048 + 256 * (part t).val + y.val) * scale else 0 : ℝ) : EReal) := fun y => by
    rw [queries_at, hk, keyBlock_at]
    split
    · rw [hq, queryBlock_at, scale_eq]
      have e1 := hP.eq (batch t) j ⟨2048 + 256 * (part t).val + y.val, by omega⟩ (by simp only []; omega)
      have e2 := hP.eq (batch t) ⟨256 * (qblk t).val + x.val, by omega⟩ ⟨1536 + 256 * (part t).val + y.val, by omega⟩ (by simp only []; omega)
      unfold projAt at e1 e2
      rw [e1, e2, ← EReal.coe_mul, ← EReal.coe_mul]
      exact congrArg _ (by unfold projAt; ring)
    · rw [mul_zero, EReal.coe_zero]
  rw [Finset.sum_congr rfl fun y _ => term y, ← coe_sum]
  refine congrArg _ ?_
  rw [sum_head (fun y => realAt (projAt m c) (batch t) (256 * (qblk t).val + x.val) (1536 + 256 * (part t).val + y)
            * realAt (projAt m c) (batch t) j.val (2048 + 256 * (part t).val + y) * scale) h]
  unfold score
  rw [Finset.sum_mul]
  refine Finset.sum_congr rfl fun d _ => ?_
  rw [show 1536 + 256 * (part t).val + (64 * h.val + d.val) = 1536 + 64 * (4 * (part t).val + h.val) + d.val by omega,
    show 2048 + 256 * (part t).val + (64 * h.val + d.val) = 2048 + 64 * (4 * (part t).val + h.val) + d.val by omega]

/-- The block's values are the heads' values. -/
theorem block_values (hP : Finite (projAt m c)) (t : Fin cfg0.N) (h : Fin 4) (e : Fin 128) (j : Fin 8448) :
    (iblk m c 2 t : Vec Ideal S256x8448 .bf16) (ix2 ⟨128 * (h.val / 2) + e.val, by omega⟩ j)
      = (value (projAt m c) (batch t) (2 * (part t).val + h.val / 2) e.val j.val : EReal) := by
  have hp := (part t).isLt
  have hh := h.isLt
  rw [valueBlock_at]
  refine (hP.eq (batch t) j ⟨2560 + 256 * (part t).val + (128 * (h.val / 2) + e.val), by omega⟩ (by simp only []; omega)).trans ?_
  unfold value
  exact congrArg (fun y => (realAt (projAt m c) (batch t) j.val y : EReal)) (by simp only []; omega)

/-- The block the body writes, at a row and a column. -/
theorem block_eq (hP : Finite (projAt m c)) (t : Fin cfg0.N) (x : Fin 256) (y : Fin 256) :
    blockAt (F := Ideal) t (iblk m c 0 t) (iblk m c 1 t) (iblk m c 2 t) (iblk m c 3 t) (iblk m c 4 t) (ix2 x y)
      = normed (diff (projAt m c) (lamOf m c (ix2 0 0)) (batch t) (2 * (part t).val + y.val / 128) (256 * (qblk t).val + x.val))
          (gainOf m c (ix1 ⟨y.val % 128, by omega⟩)) ⟨y.val % 128, by omega⟩ := by
  have key := fun (h : Fin 4) e => headOut_eq (h := h) (c := x) (fun j => block_scores hP t rfl rfl h x j) (fun e j => block_values hP t h e j) t e
  have hy := y.isLt
  unfold blockAt
  rw [lamBlock_at]
  generalize lamOf m c (ix2 0 0) = lam
  by_cases h : y.val < 128
  · have e0 : y = ⟨(⟨y.val % 128, by omega⟩ : Fin 128).val, by omega⟩ := Fin.ext (by simp only []; omega)
    have e1 : y.val / 128 = 0 := by omega
    conv_lhs => rw [e0]
    rw [outBlock_left, gainBlock_at, e1]
    refine congrArg (fun D => normed D _ _) (funext fun e => ?_)
    unfold diff
    rw [key 0 e, key 1 e, show 4 * (part t).val + (0 : Fin 4).val = 2 * (2 * (part t).val + 0) from by simp only [Fin.val_zero]; omega,
      show 4 * (part t).val + (1 : Fin 4).val = 2 * (2 * (part t).val + 0) + 1 from by simp only [Fin.val_one]; omega]
    rfl
  · have e0 : y = ⟨128 + (⟨y.val % 128, by omega⟩ : Fin 128).val, by omega⟩ := Fin.ext (by simp only []; omega)
    have e1 : y.val / 128 = 1 := by omega
    conv_lhs => rw [e0]
    rw [outBlock_right, gainBlock_at, e1]
    refine congrArg (fun D => normed D _ _) (funext fun e => ?_)
    unfold diff
    rw [key 2 e, key 3 e, show 4 * (part t).val + (2 : Fin 4).val = 2 * (2 * (part t).val + 1) from by rw [show (2 : Fin 4).val = 2 from rfl]; omega,
      show 4 * (part t).val + (3 : Fin 4).val = 2 * (2 * (part t).val + 1) + 1 from by rw [show (3 : Fin 4).val = 3 from rfl]; omega]
    rfl

/-- The whole result. -/
def resultArr (m : (ℓ : Loc nD τ sig) → Buf (Elt Ideal) ℓ) (c : Dev nD) : (⟨S33792x512, .bf16⟩ : BufTy).Contents (Elt Ideal) :=
  fun i => resultAt (projAt m c) (lamOf m c (ix2 0 0)) (fun e => gainOf m c (ix1 e)) (i 0) (i 1)

theorem resultArr_at (t : Fin cfg0.N) (x z : Fin 256) (i : S33792x512.Idx) (h0 : (i 0).val = 256 * (t.val / 66 * 33 + t.val % 33) + x.val)
    (h1 : (i 1).val = 256 * (t.val / 33 % 2) + z.val) :
    normed (diff (projAt m c) (lamOf m c (ix2 0 0)) (batch t) (2 * (part t).val + z.val / 128) (256 * (qblk t).val + x.val))
      (gainOf m c (ix1 ⟨z.val % 128, by omega⟩)) ⟨z.val % 128, by omega⟩ = resultArr m c i := by
  have ht : t.val < 264 := t.isLt
  have hx := x.isLt
  have hz := z.isLt
  generalize hi0 : i 0 = i0 at h0
  generalize hi1 : i 1 = i1 at h1
  unfold resultArr resultAt
  rw [hi0, hi1]
  change i0.val = _ at h0
  change i1.val = _ at h1
  have e0 : (⟨i0.val / 8448, by omega⟩ : Fin 4) = batch t := Fin.ext (by simp only [batch]; omega)
  have e1 : i0.val % 8448 = 256 * (qblk t).val + x.val := by simp only [qblk]; omega
  have e2 : i1.val / 128 = 2 * (part t).val + z.val / 128 := by simp only [part]; omega
  have e3 : (⟨i1.val % 128, by omega⟩ : Fin 128) = ⟨z.val % 128, by omega⟩ := Fin.ext (by simp only []; omega)
  rw [e0, e1, e2, e3]

theorem result_eq (hP : Finite (projAt m c)) : (dats (F := Ideal) m 0 c).arrAt 5 cfg0.N = resultArr m c := by
  refine (dats m 0 c).arrAt_eq_of_covers 5 _ (by decide +kernel) fun t _ y => ?_
  blk_simp
  rw [after_5]
  obtain ⟨x, z, rfl⟩ : ∃ (x : Fin 256) (z : Fin 256), y = ix2 x z := ⟨y 0, y 1, by ext a; match a with | ⟨0, _⟩ => rfl | ⟨1, _⟩ => rfl⟩
  have ht : t.val < 264 := t.isLt
  have he : (win0_5.blk t).view.emb (ix2 x z) = ix2 ⟨256 * (t.val / 66 * 33 + t.val % 33) + x.val, by omega⟩ ⟨256 * (t.val / 33 % 2) + z.val, by omega⟩ := by
    blk_ext [index_5 t]
  refine (block_eq hP t x z).trans ?_
  exact resultArr_at t x z _ (congrArg (fun i => (i 0).val) he) (congrArg (fun i => (i 1).val) he)

end Cert.KernelIdeal.Attn

end
-- ==== Proof.Ref.lean ====
/- The reference, read at an index: its scores, its weights, its averages, and its normalized difference. -/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Spec
public import Idealize.ShloMosaic.Lib.KernelVsHost
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Cert.KernelIdeal.Attn (Proj Finite realAt score value diff normed resultAt scale scale_eq masked masked_ne_top seen mx tot avg wt
  coe_sum exp_sub_eq le_mx mx_ne_top mx_add mx_zero sum_div tot_one_pos neg_inf select_iff and_bit ofBool_one sge_nat)
open Idealize.ShloMosaic Idealize.ShloMosaic.TcCoe

/-! ## Averages -/

/-- A key's weight. -/
def weight (s : ℕ → EReal) (n k : ℕ) : EReal := Ideal.div (Ideal.exp (s k - mx s n)) (tot s (fun _ => 1) n : EReal)

theorem weight_real {s : ℕ → EReal} (hs : ∀ j, s j ≠ ⊤) {n j : ℕ} (hj : j < n) (h : s j ≠ ⊥) (k : Fin n) :
    weight s n k.val = ((wt (s k.val) (mx s n) / tot s (fun _ => 1) n : ℝ) : EReal) := by
  have hne : ((tot s (fun _ => 1) n : ℝ) : EReal) ≠ 0 := by exact_mod_cast (tot_one_pos hj h).ne'
  unfold weight
  rw [exp_sub_eq _ _ (le_mx k.isLt) (mx_ne_top hs _), Ideal.div, if_neg hne, ← EReal.coe_inv, ← EReal.coe_mul, div_eq_mul_inv]

/-- The values under the difference of two weights sum to the difference of the two averages. -/
theorem sum_weights {s s' : ℕ → EReal} (hs : ∀ j, s j ≠ ⊤) (hs' : ∀ j, s' j ≠ ⊤) (v : ℕ → ℝ) (l : ℝ) {n j : ℕ} (hj : j < n)
    (h : s j ≠ ⊥) (h' : s' j ≠ ⊥) :
    ∑ k : Fin n, (v k.val : EReal) * (weight s n k.val - (l : EReal) * weight s' n k.val)
      = (avg s v n : EReal) - (l : EReal) * (avg s' v n : EReal) := by
  have e1 : ∑ k : Fin n, (v k.val : EReal) * weight s n k.val = _ := sum_div hs v n j hj h
  have e2 : ∑ k : Fin n, (v k.val : EReal) * weight s' n k.val = _ := sum_div hs' v n j hj h'
  simp only [weight_real hs hj h, weight_real hs' hj h'] at e1 e2 ⊢
  simp only [← EReal.coe_mul, ← EReal.coe_sub, ← coe_sum] at e1 e2 ⊢
  rw [← EReal.coe_injective e1, ← EReal.coe_injective e2, Finset.mul_sum, ← Finset.sum_sub_distrib]
  exact congrArg _ (Finset.sum_congr rfl fun k _ => by ring)

theorem sle_nat {x y : ℕ} (hx : x < 2 ^ 31) (hy : y < 2 ^ 31) :
    IntOp.cmpi .sle (BitVec.ofNat 32 x) (BitVec.ofNat 32 y) = 1#1 ↔ x ≤ y := by
  show BitVec.ofBool (BitVec.sle _ _) = 1#1 ↔ _
  rw [ofBool_one, BitVec.sle_iff_toInt_le]
  simp only [BitVec.toInt_ofNat', Int.bmod_def]
  omega

/-! ## The operations -/

variable (x0 : (⟨S4x8448x3072, .f32⟩ : BufTy).Contents (Elt Ideal)) (x1 : (⟨S1x1, .f32⟩ : BufTy).Contents (Elt Ideal))
  (x2 : (⟨S128, .f32⟩ : BufTy).Contents (Elt Ideal))

def projIn : Proj := fun b l y => x0 (ix3 b l y)

variable {x0}

theorem query_eq (hP : Finite (projIn x0)) (j : S4x8448x4x2x64.Idx) :
    val_main_v6 (F := Ideal) x0 j
      = (realAt (projIn x0) (j 0) (j 1).val (1536 + 64 * (2 * (j 2).val + (j 3).val) + (j 4).val) : EReal) := by
  have h0 : (j 0).val < 4 := (j 0).isLt
  have h1 : (j 1).val < 8448 := (j 1).isLt
  have h2 : (j 2).val < 4 := (j 2).isLt
  have h3 : (j 3).val < 2 := (j 3).isLt
  have h4 : (j 4).val < 64 := (j 4).isLt
  rw [val_main_v6_apply, val_main_v3_apply]
  refine Eq.trans (congrArg x0 ?_) (hP.eq (j 0) (j 1) ⟨1536 + 64 * (2 * (j 2).val + (j 3).val) + (j 4).val, by omega⟩ (by simp only []; omega))
  funext a
  match a with
  | ⟨0, _⟩ => exact Fin.ext (by show (((((j 0).val * 8448 + (j 1).val) * 4 + (j 2).val) * 2 + (j 3).val) * 64 + (j 4).val) / 4325376 = (j 0).val; omega)
  | ⟨1, _⟩ => exact Fin.ext (by show (((((j 0).val * 8448 + (j 1).val) * 4 + (j 2).val) * 2 + (j 3).val) * 64 + (j 4).val) / 512 % 8448 = (j 1).val; omega)
  | ⟨2, _⟩ => exact Fin.ext (by show 1536 + (((((j 0).val * 8448 + (j 1).val) * 4 + (j 2).val) * 2 + (j 3).val) * 64 + (j 4).val) % 512 = 1536 + 64 * (2 * (j 2).val + (j 3).val) + (j 4).val; omega)

theorem key_eq (hP : Finite (projIn x0)) (j : S4x8448x4x2x64.Idx) :
    val_main_v7 (F := Ideal) x0 j
      = (realAt (projIn x0) (j 0) (j 1).val (2048 + 64 * (2 * (j 2).val + (j 3).val) + (j 4).val) : EReal) := by
  have h0 : (j 0).val < 4 := (j 0).isLt
  have h1 : (j 1).val < 8448 := (j 1).isLt
  have h2 : (j 2).val < 4 := (j 2).isLt
  have h3 : (j 3).val < 2 := (j 3).isLt
  have h4 : (j 4).val < 64 := (j 4).isLt
  rw [val_main_v7_apply, val_main_v4_apply]
  refine Eq.trans (congrArg x0 ?_) (hP.eq (j 0) (j 1) ⟨2048 + 64 * (2 * (j 2).val + (j 3).val) + (j 4).val, by omega⟩ (by simp only []; omega))
  funext a
  match a with
  | ⟨0, _⟩ => exact Fin.ext (by show (((((j 0).val * 8448 + (j 1).val) * 4 + (j 2).val) * 2 + (j 3).val) * 64 + (j 4).val) / 4325376 = (j 0).val; omega)
  | ⟨1, _⟩ => exact Fin.ext (by show (((((j 0).val * 8448 + (j 1).val) * 4 + (j 2).val) * 2 + (j 3).val) * 64 + (j 4).val) / 512 % 8448 = (j 1).val; omega)
  | ⟨2, _⟩ => exact Fin.ext (by show 2048 + (((((j 0).val * 8448 + (j 1).val) * 4 + (j 2).val) * 2 + (j 3).val) * 64 + (j 4).val) % 512 = 2048 + 64 * (2 * (j 2).val + (j 3).val) + (j 4).val; omega)

theorem value_eq (hP : Finite (projIn x0)) (j : S4x8448x4x128.Idx) :
    val_main_v8 (F := Ideal) x0 j = (value (projIn x0) (j 0) (j 2).val (j 3).val (j 1).val : EReal) := by
  have h0 : (j 0).val < 4 := (j 0).isLt
  have h1 : (j 1).val < 8448 := (j 1).isLt
  have h2 : (j 2).val < 4 := (j 2).isLt
  have h3 : (j 3).val < 128 := (j 3).isLt
  rw [val_main_v8_apply, val_main_v5_apply]
  refine Eq.trans (congrArg x0 ?_) (hP.eq (j 0) (j 1) ⟨2560 + 128 * (j 2).val + (j 3).val, by omega⟩ (by simp only []; omega))
  funext a
  match a with
  | ⟨0, _⟩ => exact Fin.ext (by show ((((j 0).val * 8448 + (j 1).val) * 4 + (j 2).val) * 128 + (j 3).val) / 4325376 = (j 0).val; omega)
  | ⟨1, _⟩ => exact Fin.ext (by show ((((j 0).val * 8448 + (j 1).val) * 4 + (j 2).val) * 128 + (j 3).val) / 512 % 8448 = (j 1).val; omega)
  | ⟨2, _⟩ => exact Fin.ext (by show 2560 + ((((j 0).val * 8448 + (j 1).val) * 4 + (j 2).val) * 128 + (j 3).val) % 512 = 2560 + 128 * (j 2).val + (j 3).val; omega)

/-- The map, out of eight, and the query of an index. -/
abbrev scoresAt (b : Fin 4) (h c q : ℕ) : ℕ → EReal := masked q (score (projIn x0) b (2 * h + c) q)

theorem score_eq (hP : Finite (projIn x0)) (i : S4x4x2x8448x8448.Idx) :
    val_main_v14 (F := Ideal) x0 i = (score (projIn x0) (i 0) (2 * (i 1).val + (i 2).val) (i 3).val (i 4).val : EReal) := by
  rw [val_main_v14_apply, val_main_v13_apply, val_main_v12_apply]
  simp only [query_eq hP, key_eq hP]
  rw [Ideal.mulf_def, show val_main_cst (F := Ideal) (idx_main_v13 i) = (scale : EReal) from scale_eq]
  simp only [← EReal.coe_mul, ← coe_sum]
  rfl

theorem seen_eq (i : S8448x8448.Idx) : val_main_v22 (F := Ideal) i = 1#1 ↔ seen (i 0).val (i 1).val := by
  have h0 : (i 0).val < 8448 := (i 0).isLt
  have h1 : (i 1).val < 8448 := (i 1).isLt
  rw [val_main_v22_apply, and_bit, val_main_v19_apply, val_main_v17_apply, val_main_v15_apply, val_main_v18_apply, val_main_v16_apply,
    val_main_v21_apply, val_main_v20_apply, val_main_v11_apply, val_main_v10_apply, val_main_v9_apply, val_main_v9_apply, val_main_c_apply]
  refine (and_congr (sle_nat (x := (i 1).val) (y := (i 0).val) (by omega) (by omega)) (sge_nat (x := (i 1).val) (y := 240) (by omega) (by omega))).trans ?_
  unfold seen
  exact and_comm

theorem masked_eq (hP : Finite (projIn x0)) (i : S4x4x2x8448x8448.Idx) :
    val_main_v23 (F := Ideal) x0 i = scoresAt (x0 := x0) (i 0) (i 1).val (i 2).val (i 3).val (i 4).val := by
  rw [val_main_v23_apply, val_main_call0_v1_apply, val_main_call0_v2_apply, val_main_call0_v0_apply, val_main_cst_0_apply, score_eq hP]
  rw [select_iff (seen_eq _)]
  unfold scoresAt masked
  exact if_congr Iff.rfl rfl neg_inf

/-- A row's maximum, from minus infinity. -/
theorem rowMax (y : FVec Ideal S4x4x2x8448x8448 .f32) (i : S4x4x2x8448.Idx) :
    Host.reduce FloatOps.maximumf y (constant S_ .f32 0xFF800000#32) reducesTo_S4x4x2x8448x8448_S4x4x2x8448_d4 h_S_ i
      = (Finset.univ : Finset (Fin 8448)).fold max ⊥ fun k => y (idx_main_v31 i k) := by
  have h : S4x4x2x8448x8448.Reduces [4] S4x4x2x8448 := by decide
  rw [hostReduce_maximumf_eq_multiReduction (φ := .f32) y 0xFF800000#32 reducesTo_S4x4x2x8448x8448_S4x4x2x8448_d4 h_S_ h (.inl rfl) rfl]
  refine (Ideal.multiReduction_maximumf_single y _ h _ _ i).trans ?_
  rw [← neg_inf]
  refine Finset.fold_congr fun k _ => congrArg y (funext fun a => Fin.ext (by
    match a with
    | ⟨0, _⟩ => rfl
    | ⟨1, _⟩ => rfl
    | ⟨2, _⟩ => rfl
    | ⟨3, _⟩ => rfl
    | ⟨4, _⟩ => rfl))

theorem max_eq (hP : Finite (projIn x0)) (i : S4x4x2x8448.Idx) :
    val_main_v26 (F := Ideal) x0 i = mx (scoresAt (x0 := x0) (i 0) (i 1).val (i 2).val (i 3).val) 8448 := by
  rw [val_main_v26_apply, val_main_v25_apply, val_main_cst_2_apply]
  unfold val_main_v24 val_main_cst_1
  have hr := rowMax (val_main_v23 (F := Ideal) x0) i
  refine (congrArg (max (Ideal.ofBits .f32 0xFF800000#32)) hr).trans ?_
  have hm := mx_add (s := scoresAt (x0 := x0) (i 0) (i 1).val (i 2).val (i 3).val) 0 8448
  rw [mx_zero, Nat.zero_add] at hm
  rw [← hm]
  rw [neg_inf]
  refine congrArg (max ⊥) (Finset.fold_congr fun k _ => ?_)
  rw [masked_eq hP, Nat.zero_add]
  rfl

theorem exp_eq (hP : Finite (projIn x0)) (i : S4x4x2x8448x8448.Idx) :
    val_main_v30 (F := Ideal) x0 i = Ideal.exp (scoresAt (x0 := x0) (i 0) (i 1).val (i 2).val (i 3).val (i 4).val
      - mx (scoresAt (x0 := x0) (i 0) (i 1).val (i 2).val (i 3).val) 8448) := by
  rw [val_main_v30_apply, val_main_v29_apply, val_main_v28_apply, val_main_v27_apply, max_eq hP, masked_eq hP]
  rfl

theorem total_eq (hP : Finite (projIn x0)) (i : S4x4x2x8448.Idx) :
    val_main_v31 (F := Ideal) x0 i = (tot (scoresAt (x0 := x0) (i 0) (i 1).val (i 2).val (i 3).val) (fun _ => 1) 8448 : EReal) := by
  rw [val_main_v31_apply, show val_main_cst_3 (F := Ideal) (Shape.Idx.first h_S_) = (0 : EReal) from Ideal.ofBits_zero_f32, zero_add]
  unfold tot
  rw [Finset.sum_range, coe_sum]
  refine Finset.sum_congr rfl fun k _ => ?_
  rw [exp_eq hP, mul_one]
  exact exp_sub_eq _ _ (le_mx (s := scoresAt (x0 := x0) (i 0) (i 1).val (i 2).val (i 3).val) k.isLt) (mx_ne_top (masked_ne_top _ _) _)

theorem weight_eq (hP : Finite (projIn x0)) (i : S4x4x2x8448x8448.Idx) :
    val_main_v34 (F := Ideal) x0 i = weight (scoresAt (x0 := x0) (i 0) (i 1).val (i 2).val (i 3).val) 8448 (i 4).val := by
  rw [val_main_v34_apply, exp_eq hP, val_main_v33_apply, val_main_v32_apply, total_eq hP]
  rfl

theorem left_eq (hP : Finite (projIn x0)) (i : S4x4x8448x8448.Idx) :
    val_main_v36 (F := Ideal) x0 i = weight (scoresAt (x0 := x0) (i 0) (i 1).val 0 (i 2).val) 8448 (i 3).val := by
  have h0 : (i 0).val < 4 := (i 0).isLt
  have h1 : (i 1).val < 4 := (i 1).isLt
  have h2 : (i 2).val < 8448 := (i 2).isLt
  have h3 : (i 3).val < 8448 := (i 3).isLt
  rw [val_main_v36_apply, val_main_v35_apply, weight_eq hP]
  have e0 : (idx_main_v35 (idx_main_v36 i) 0 : Fin 4) = i 0 := Fin.ext (by
    show ((((i 0).val * 4 + (i 1).val) * 8448 + (i 2).val) * 8448 + (i 3).val) / 285474816 = (i 0).val; omega)
  have e1 : (idx_main_v35 (idx_main_v36 i) 1).val = (i 1).val := by
    show ((((i 0).val * 4 + (i 1).val) * 8448 + (i 2).val) * 8448 + (i 3).val) / 71368704 % 4 = (i 1).val; omega
  have e3 : (idx_main_v35 (idx_main_v36 i) 3).val = (i 2).val := by
    show ((((i 0).val * 4 + (i 1).val) * 8448 + (i 2).val) * 8448 + (i 3).val) / 8448 % 8448 = (i 2).val; omega
  have e4 : (idx_main_v35 (idx_main_v36 i) 4).val = (i 3).val := by
    show ((((i 0).val * 4 + (i 1).val) * 8448 + (i 2).val) * 8448 + (i 3).val) % 8448 = (i 3).val; omega
  rw [e1, e3, e4]
  exact congrArg (fun b => weight (scoresAt (x0 := x0) b (i 1).val 0 (i 2).val) 8448 (i 3).val) e0

theorem right_eq (hP : Finite (projIn x0)) (i : S4x4x8448x8448.Idx) :
    val_main_v38 (F := Ideal) x0 i = weight (scoresAt (x0 := x0) (i 0) (i 1).val 1 (i 2).val) 8448 (i 3).val := by
  have h0 : (i 0).val < 4 := (i 0).isLt
  have h1 : (i 1).val < 4 := (i 1).isLt
  have h2 : (i 2).val < 8448 := (i 2).isLt
  have h3 : (i 3).val < 8448 := (i 3).isLt
  rw [val_main_v38_apply, val_main_v37_apply, weight_eq hP]
  have e0 : (idx_main_v37 (idx_main_v38 i) 0 : Fin 4) = i 0 := Fin.ext (by
    show ((((i 0).val * 4 + (i 1).val) * 8448 + (i 2).val) * 8448 + (i 3).val) / 285474816 = (i 0).val; omega)
  have e1 : (idx_main_v37 (idx_main_v38 i) 1).val = (i 1).val := by
    show ((((i 0).val * 4 + (i 1).val) * 8448 + (i 2).val) * 8448 + (i 3).val) / 71368704 % 4 = (i 1).val; omega
  have e3 : (idx_main_v37 (idx_main_v38 i) 3).val = (i 2).val := by
    show ((((i 0).val * 4 + (i 1).val) * 8448 + (i 2).val) * 8448 + (i 3).val) / 8448 % 8448 = (i 2).val; omega
  have e4 : (idx_main_v37 (idx_main_v38 i) 4).val = (i 3).val := by
    show ((((i 0).val * 4 + (i 1).val) * 8448 + (i 2).val) * 8448 + (i 3).val) % 8448 = (i 3).val; omega
  rw [e1, e3, e4]
  exact congrArg (fun b => weight (scoresAt (x0 := x0) b (i 1).val 1 (i 2).val) 8448 (i 3).val) e0

theorem lam_eq (i : S4x4x8448x8448.Idx) : val_main_v40 (F := Ideal) x1 i = x1 (ix2 0 0) := by
  rw [val_main_v40_apply, val_main_v39_apply]
  refine congrArg x1 (funext fun a => ?_)
  match a with
  | ⟨0, _⟩ => rfl
  | ⟨1, _⟩ => rfl

variable {x1}

/-- A query past the padding: the difference of the two averages. -/
theorem attn_eq (hP : Finite (projIn x0)) {l : ℝ} (hl : x1 (ix2 0 0) = (l : EReal)) (i : S4x4x128x8448.Idx) (hq : 240 ≤ (i 3).val) :
    val_main_v43 (F := Ideal) x0 x1 i = diff (projIn x0) (l : EReal) (i 0) (i 1).val (i 3).val (i 2) := by
  have h3 : (i 3).val < 8448 := (i 3).isLt
  rw [val_main_v43_apply]
  refine Eq.trans (Finset.sum_congr rfl fun k _ => ?_) (sum_weights (n := 8448) (j := (i 3).val)
    (masked_ne_top (i 3).val (score (projIn x0) (i 0) (2 * (i 1).val) (i 3).val))
    (masked_ne_top (i 3).val (score (projIn x0) (i 0) (2 * (i 1).val + 1) (i 3).val))
    (value (projIn x0) (i 0) (i 1).val (i 2).val) l h3 ?_ ?_)
  · rw [value_eq hP, val_main_v42_apply, val_main_v41_apply, left_eq hP, right_eq hP, lam_eq, hl]
    rfl
  · unfold masked; rw [if_pos ⟨hq, le_rfl⟩]; exact EReal.coe_ne_bot _
  · unfold masked; rw [if_pos ⟨hq, le_rfl⟩]; exact EReal.coe_ne_bot _

/-- A query in the padding sees no key. -/
theorem avg_padding {q : ℕ} (hq : q < 240) (r v : ℕ → ℝ) (n : ℕ) : avg (masked q r) v n = 0 := by
  have hs : ∀ j, masked q r j = ⊥ := fun j => by
    unfold masked; rw [if_neg]; rintro ⟨h1, h2⟩; omega
  unfold avg tot
  rw [Finset.sum_eq_zero fun j _ => by rw [hs]; simp [wt], zero_div]

theorem diff_eq (hP : Finite (projIn x0)) {l : ℝ} (hl : x1 (ix2 0 0) = (l : EReal)) (i : S4x8448x4x128.Idx) :
    val_main_v46 (F := Ideal) x0 x1 i = diff (projIn x0) (l : EReal) (i 0) (i 2).val (i 1).val (i 3) := by
  have h1 : (i 1).val < 8448 := (i 1).isLt
  rw [val_main_v46_apply, val_main_call1_v1_apply, val_main_v45_apply, val_main_v11_apply, val_main_v10_apply, val_main_v9_apply, val_main_c_apply]
  rw [select_iff (sge_nat (x := (i 1).val) (y := 240) (by omega) (by omega))]
  split
  · rename_i hq
    rw [val_main_v44_apply, attn_eq hP hl _ hq]
    rfl
  · rename_i hq
    unfold diff
    rw [avg_padding (by omega), avg_padding (by omega), EReal.coe_zero, mul_zero, sub_zero]
    exact Ideal.ofBits_zero_f32

theorem normed_eq (hP : Finite (projIn x0)) {l : ℝ} (hl : x1 (ix2 0 0) = (l : EReal)) (i : S4x8448x4x128.Idx) :
    val_main_v61 (F := Ideal) x0 x1 x2 i
      = normed (diff (projIn x0) (l : EReal) (i 0) (i 2).val (i 1).val) (x2 (ix1 (i 3))) (i 3) := by
  rw [val_main_v61_apply, val_main_v59_apply, val_main_v56_apply, val_main_v55_apply, val_main_v54_apply, val_main_v53_apply, val_main_v51_apply,
    val_main_v49_apply, val_main_v48_apply, val_main_v50_apply, val_main_v52_apply, val_main_v58_apply, val_main_v57_apply, val_main_v60_apply,
    val_main_cst_6_apply, val_main_cst_7_apply, val_main_cst_8_apply, val_main_cst_5_apply]
  simp only [val_main_v47_apply, diff_eq hP hl]
  have e : x2 (idx_main_v57 (idx_main_v58 i)) = x2 (ix1 (i 3)) := congrArg x2 (funext fun a => by match a with | ⟨0, _⟩ => rfl)
  have z : (FloatOps.ofBits .f32 0x00000000#32 : Ideal .f32) = (0 : EReal) := Ideal.ofBits_zero_f32
  rw [e, z, zero_add]
  rfl

/-- The reference's result. -/
theorem result_eq (hP : Finite (projIn x0)) {l : ℝ} (hl : x1 (ix2 0 0) = (l : EReal)) (i : S33792x512.Idx) :
    val_main_v63 (F := Ideal) x0 x1 x2 i = resultAt (projIn x0) (l : EReal) (fun e => x2 (ix1 e)) (i 0) (i 1) := by
  have h0 : (i 0).val < 33792 := (i 0).isLt
  have h1 : (i 1).val < 512 := (i 1).isLt
  rw [val_main_v63_apply, val_main_v62_apply, normed_eq x2 hP hl]
  have e0 : @Eq (Fin 4) (idx_main_v62 i 0) ⟨(i 0).val / 8448, by omega⟩ := Fin.ext (by
    show ((i 0).val * 512 + (i 1).val) / 4325376 = (i 0).val / 8448; omega)
  have e1 : (idx_main_v62 i 1).val = (i 0).val % 8448 := by
    show ((i 0).val * 512 + (i 1).val) / 512 % 8448 = (i 0).val % 8448; omega
  have e2 : (idx_main_v62 i 2).val = (i 1).val / 128 := by
    show ((i 0).val * 512 + (i 1).val) / 128 % 4 = (i 1).val / 128; omega
  have e3 : @Eq (Fin 128) (idx_main_v62 i 3) ⟨(i 1).val % 128, by omega⟩ := Fin.ext (by
    show ((i 0).val * 512 + (i 1).val) % 128 = (i 1).val % 128; omega)
  rw [e1, e2]
  refine Eq.trans (b := normed (diff (projIn x0) (l : EReal) (idx_main_v62 i 0) ((i 1).val / 128) ((i 0).val % 8448)) (x2 (ix1 (idx_main_v62 i 3))) (idx_main_v62 i 3)) rfl ?_
  refine (congrArg (fun (b : Fin 4) => normed (diff (projIn x0) (l : EReal) b ((i 1).val / 128) ((i 0).val % 8448)) (x2 (ix1 (idx_main_v62 i 3))) (idx_main_v62 i 3)) e0).trans ?_
  exact congrArg (fun (e : Fin 128) => normed (diff (projIn x0) (l : EReal) ⟨(i 0).val / 8448, by omega⟩ ((i 1).val / 128) ((i 0).val % 8448)) (x2 (ix1 e)) e) e3

end Cert.ReferenceIdeal.Attn

end
-- ==== Proof.Agree.lean ====
/- The precondition's meaning, and the two programs' results put side by side. -/
module

public import proofs.«01_k».proof.Proof.RefFrame
public import proofs.«01_k».proof.Proof.Value
public import proofs.«01_k».proof.Proof.Ref
public import Idealize.ShloMosaic.Lib.ReduceAll

@[expose] public section

set_option maxRecDepth 16384

noncomputable section

namespace Cert.Proof

open Idealize.ShloMosaic Idealize.ShloMosaic.TcCoe Idealize.SL.Sem
open Cert.KernelIdeal.Attn (Finite projAt projOf lamOf gainOf resultArr and_bit ofBool_one)

/-- A word whose absolute value is below infinity is finite. -/
theorem abs_lt_top {x : EReal} (h : Ideal.cmp .olt (max x (-x)) ⊤ = 1#1) : x ≠ ⊤ ∧ x ≠ ⊥ := by
  have h' : max x (-x) < ⊤ := of_decide_eq_true ((ofBool_one _).1 h)
  constructor
  · rintro rfl; exact absurd h' (by simp)
  · rintro rfl; exact absurd h' (by simp)

theorem inf_word : Ideal.ofBits .f32 0x7F800000#32 = ⊤ := by
  simp [Ideal.ofBits, Ideal.ieee]

theorem pre_reads (x0 : FVec Ideal Cert.Pre_finite.S4x8448x3072 .f32) (x1 : FVec Ideal Cert.Pre_finite.S1x1 .f32) (x2 : FVec Ideal Cert.Pre_finite.S128 .f32)
    (h : Cert.Pre_finite.fn x0 x1 x2 = fun _ => 1#1) :
    (∀ b l y, 1536 ≤ y.val → x0 (ix3 b l y) ≠ ⊤ ∧ x0 (ix3 b l y) ≠ ⊥) ∧ (x1 (ix2 0 0) ≠ ⊤ ∧ x1 (ix2 0 0) ≠ ⊥) := by
  have hs : Subsingleton Cert.Pre_finite.S_.Idx := ⟨fun a b => funext fun k => k.elim0⟩
  have h0 := congrFun h (fun k => k.elim0)
  unfold Cert.Pre_finite.fn at h0
  obtain ⟨ha, hb⟩ := (and_bit _ _).1 h0
  constructor
  · intro b l y hy
    have := Host.reduce_andi_all _ _ _ _ _ ha (ix3 b l ⟨y.val - 1536, by have := y.isLt; omega⟩)
    have := abs_lt_top (by rw [← inf_word]; exact this)
    have hx : extractStridedSlice Cert.Pre_finite.S4x8448x1536 ![0, 0, 1536] x0 Cert.Pre_finite.Gen.slices_S4x8448x3072_S4x8448x1536_0_0_1536
        (ix3 b l ⟨y.val - 1536, by have := y.isLt; omega⟩) = x0 (ix3 b l y) := by
      pointwise
      refine congrArg x0 (funext fun a => Fin.ext ?_)
      match a with
      | ⟨0, _⟩ => rfl
      | ⟨1, _⟩ => rfl
      | ⟨2, _⟩ => show 1536 + (y.val - 1536) = y.val; omega
    rw [← hx]; exact this
  · have := Host.reduce_andi_all _ _ _ _ _ hb (ix2 0 0)
    exact abs_lt_top (by rw [← inf_word]; exact this)

theorem algebraic : Cert.algebraic_KernelIdeal_ReferenceIdeal_pre_finite := by
  intro m g m' g' hpre hagree
  have hfin := fun c => pre_reads _ _ _ (hpre c)
  refine ⟨fun c => resultArr m c, ?_, ?_⟩
  · refine (θ_run _ _ _).mono (fun r h c => ⟨((h.1 c).1).trans ?_, (h.1 c).2⟩) (Cert.KernelIdeal.Attn.run_result (F := Ideal) m g)
    exact Cert.KernelIdeal.Attn.result_eq (fun b l y hy => (hfin c).1 b l y hy)
  · refine (θ_run Cert.ReferenceIdeal.defs _ _).mono (fun _ h c => ⟨(h c).1.trans ?_, (h c).2⟩) (Cert.ReferenceIdeal.Value.run (F := Ideal) m' g')
    rw [Cert.ReferenceIdeal.Read.val_main_v63_eq, (hagree c).1, (hagree c).2.1, (hagree c).2.2]
    have hl := (EReal.coe_toReal (hfin c).2.1 (hfin c).2.2).symm
    funext i
    refine (Cert.ReferenceIdeal.Attn.result_eq _ (fun b l y hy => (hfin c).1 b l y hy) hl i).trans ?_
    rw [← hl]
    rfl

end Cert.Proof

end
-- ==== Proof.Post.lean ====
/- One row of an output projection and its feed-forward layer, as a function of the row's inputs and the weights. -/
module

public import Idealize.ShloMosaic.PureOps.Ideal.Laws

@[expose] public section

noncomputable section

namespace Cert.Post

open Idealize.ShloMosaic

/-- The logistic function. -/
def sigmoid (z : EReal) : EReal := Ideal.div 1 (1 + Ideal.exp (-z))

/-- A row over the root of its mean square, times the gain. -/
def normed (x g : Fin 1024 → EReal) (y : Fin 1024) : EReal :=
  x y * Ideal.rsqrt (Ideal.div (∑ k, x k * x k) (Ideal.ofBits .f32 0x44800000#32) + Ideal.ofBits .f32 0x358637BD#32) * g y

/-- The row of the stream plus the two mixers' outputs under the projection; zero in the padding. -/
def mixed (l : ℕ) (h : Fin 1024 → EReal) (a b : Fin 512 → EReal) (wo : Fin 1024 → Fin 1024 → EReal) (y : Fin 1024) : EReal :=
  if 240 ≤ l then h y + (∑ k : Fin 512, a k * wo ⟨k.val, by omega⟩ y + ∑ k : Fin 512, b k * wo ⟨512 + k.val, by omega⟩ y) else 0

/-- A hidden column: the gate under its activation, times the other half. -/
def hiddenCol (x : Fin 1024 → EReal) (wgu : Fin 1024 → Fin 5632 → EReal) (k : Fin 2816) : EReal :=
  (∑ j, x j * wgu j ⟨k.val, by omega⟩) * sigmoid (∑ j, x j * wgu j ⟨k.val, by omega⟩) * ∑ j, x j * wgu j ⟨2816 + k.val, by omega⟩

/-- The feed-forward layer. -/
def ffn (x : Fin 1024 → EReal) (wgu : Fin 1024 → Fin 5632 → EReal) (wd : Fin 2816 → Fin 1024 → EReal) (y : Fin 1024) : EReal :=
  ∑ k, hiddenCol x wgu k * wd k y

/-- The row after the projection and the feed-forward layer; zero in the padding. -/
def layer (l : ℕ) (h : Fin 1024 → EReal) (a b : Fin 512 → EReal) (wo : Fin 1024 → Fin 1024 → EReal) (g : Fin 1024 → EReal)
    (wgu : Fin 1024 → Fin 5632 → EReal) (wd : Fin 2816 → Fin 1024 → EReal) (y : Fin 1024) : EReal :=
  if 240 ≤ l then mixed l h a b wo y + ffn (normed (mixed l h a b wo) g) wgu wd y else 0

/-- The recurrence's output under its gate. -/
def gated (b : Fin 512 → EReal) (wg : Fin 512 → Fin 512 → EReal) (bg : Fin 512 → EReal) (k : Fin 512) : EReal :=
  b k * sigmoid (∑ j, b j * wg j k + bg k)

/-- A sum over 2816 columns, in eleven parts of 256. -/
theorem sum_parts (f : ℕ → EReal) : ∑ k : Fin 2816, f k.val
    = 0 + ∑ k : Fin 256, f (0 + k.val) + ∑ k : Fin 256, f (256 + k.val) + ∑ k : Fin 256, f (512 + k.val) + ∑ k : Fin 256, f (768 + k.val)
      + ∑ k : Fin 256, f (1024 + k.val) + ∑ k : Fin 256, f (1280 + k.val) + ∑ k : Fin 256, f (1536 + k.val) + ∑ k : Fin 256, f (1792 + k.val)
      + ∑ k : Fin 256, f (2048 + k.val) + ∑ k : Fin 256, f (2304 + k.val) + ∑ k : Fin 256, f (2560 + k.val) := by
  have part : ∀ o, ∑ k : Fin 256, f (o + k.val) = ∑ k ∈ Finset.range 256, f (o + k) := fun o =>
    Fin.sum_univ_eq_sum_range (fun k => f (o + k)) 256
  have step : ∀ n, ∑ k ∈ Finset.range (n + 256), f k = ∑ k ∈ Finset.range n, f k + ∑ k : Fin 256, f (n + k.val) := fun n => by
    rw [part, Finset.sum_range_add]
  rw [Fin.sum_univ_eq_sum_range f 2816, step 2560, step 2304, step 2048, step 1792, step 1536, step 1280, step 1024, step 768, step 512, step 256,
    step 0, Finset.sum_range_zero]

/-- A sum over 1024 columns, in two halves. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

end Cert.Post

end
-- ==== Proof.Even.Block.lean ====
/- The block the even layers' projection and feed-forward kernel writes, read at a row and a column. -/
module

public import proofs.«01_k».proof.Proof.Gen.Kernel3Ideal.Value
public import proofs.«01_k».proof.Proof.Post
public import Idealize.ShloMosaic.Lib.Pointwise
public import Idealize.ShloMosaic.Lib.Pipeline.ValueKit

@[expose] public section

set_option maxRecDepth 16384

noncomputable section

namespace Cert.Kernel3Ideal.Even

open Cert.Kernel3Ideal Cert.Kernel3Ideal.Gen Cert.Post
open Idealize.ShloMosaic Idealize.ShloMosaic.TcCoe Idealize.ShloMosaic.Tactic

/-! ## One chunk of 256 hidden columns -/

/-- The chunk's gate columns, its other columns and its rows of the second weights, added to what came before. -/
def chunk (x : FVec Ideal S768x1024 .bf16) (g u : Vec Ideal S1024x256 .bf16) (acc : FVec Ideal S768x1024 .f32) (d : Vec Ideal S256x1024 .bf16) :
    FVec Ideal S768x1024 .f32 := k0_pay13 x g u acc d

theorem chunk_at (x : FVec Ideal S768x1024 .bf16) (g u : Vec Ideal S1024x256 .bf16) (acc : FVec Ideal S768x1024 .f32) (d : Vec Ideal S256x1024 .bf16)
    (r : Fin 768) (y : Fin 1024) :
    chunk x g u acc d (ix2 r y) = acc (ix2 r y) + ∑ k : Fin 256,
      (∑ j : Fin 1024, x (ix2 r j) * g (ix2 j k)) * sigmoid (∑ j : Fin 1024, x (ix2 r j) * g (ix2 j k)) * (∑ j : Fin 1024, x (ix2 r j) * u (ix2 j k)) * d (ix2 k y) := by
  unfold chunk sigmoid
  pointwise [k0_pay13]
  simp only [zero_sub]

/-! ## The row before the layer, and what it is normed to -/

theorem select_iff {α : Type} {c : BitVec 1} {P : Prop} [Decidable P] (h : c = 1#1 ↔ P) (a b : α) :
    Scalar.select c a b = if P then a else b := if_congr h rfl rfl

/-- A row's place in its batch is past the padding. -/
theorem past_pad {n r : ℕ} (hn : n < 11) (hr : r < 768) :
    IntOp.cmpi .sge (IntOp.addi (BitVec.ofNat 32 r) (Scalar.muli (BitVec.ofNat 32 n) 768#32)) 240#32 = 1#1 ↔ 240 ≤ 768 * n + r := by
  have e : IntOp.addi (BitVec.ofNat 32 r) (Scalar.muli (BitVec.ofNat 32 n) 768#32) = BitVec.ofNat 32 (768 * n + r) := by
    show BitVec.ofNat 32 r + BitVec.ofNat 32 n * BitVec.ofNat 32 768 = _
    rw [← BitVec.ofNat_mul, ← BitVec.ofNat_add, Nat.mul_comm, Nat.add_comm]
  have b : ∀ b : Bool, BitVec.ofBool b = 1#1 ↔ b = true := by decide
  rw [e]
  show BitVec.ofBool (BitVec.sle _ _) = 1#1 ↔ _
  rw [b, BitVec.sle_iff_toInt_le, show (240#32).toInt = 240 by decide]
  simp only [BitVec.toInt_ofNat', Int.bmod_def]
  omega

section
variable (i : grid0.Coords) (va vb : Vec Ideal S1x768x512 .bf16) (w1 w2 : Vec Ideal S512x1024 .bf16) (vh : Vec Ideal S1x768x1024 .f32)
  (vg : Vec Ideal S1x1024 .f32) (r : Fin 768) (y : Fin 1024)

theorem sums_at : k0_pay3 (F := Ideal) i va vb w1 w2 vh (ix2 r y) = if 240 ≤ 768 * (i 1).val + r.val then vh (ix3 0 r y)
    + (∑ k : Fin 512, va (ix3 0 r k) * w1 (ix2 k y) + ∑ k : Fin 512, vb (ix3 0 r k) * w2 (ix2 k y)) else 0 := by
  pointwise [k0_pay3, k0_pay2]
  rw [select_iff (past_pad (i 1).isLt r.isLt)]

/-- The row under the norm. -/
def normedRows : FVec Ideal S768x1024 .bf16 :=
  k0_pay6 (k0_pay3 i va vb w1 w2 vh) (k0_pay4 vg) (k0_pay5 i va vb w1 w2 vh)

theorem normedRows_at : normedRows i va vb w1 w2 vh vg (ix2 r y)
    = normed (fun k => k0_pay3 (F := Ideal) i va vb w1 w2 vh (ix2 r k)) (fun k => vg (ix2 0 k)) y := by
  unfold normedRows normed
  pointwise [k0_pay6, k0_pay4, k0_pay5]

theorem last_at (a3 acc : FVec Ideal S768x1024 .f32) :
    k0_pay1 (k0_pay28 (k0_pay2 i) a3 acc) (ix3 0 r y) = if 240 ≤ 768 * (i 1).val + r.val then a3 (ix2 r y) + acc (ix2 r y) else 0 := by
  pointwise [k0_pay1, k0_pay28, k0_pay2]
  rw [select_iff (past_pad (i 1).isLt r.isLt)]

end

/-! ## The whole feed-forward layer, eleven chunks -/

/-- 256 columns of the first weights, from column `o`. -/
def cols (o : ℕ) (h : ∀ a, (![0, o] : Fin 2 → Nat) a + S1024x256.size a ≤ S1024x5632.size a) (w : Vec Ideal S1024x5632 .bf16) :
    Vec Ideal S1024x256 .bf16 := View.ld w (Rect.unit ![0, o] S1024x256.size h)

/-- 256 rows of the second weights, from row `o`. -/
def rows (o : ℕ) (h : ∀ a, (![o, 0] : Fin 2 → Nat) a + S256x1024.size a ≤ S2816x1024.size a) (w : Vec Ideal S2816x1024 .bf16) :
    Vec Ideal S256x1024 .bf16 := View.ld w (Rect.unit ![o, 0] S256x1024.size h)

theorem cols_at (o : ℕ) (ho : o + 256 ≤ 5632) (h) (w : Vec Ideal S1024x5632 .bf16) (j : Fin 1024) (k : Fin 256) :
    cols o h w (ix2 j k) = w (ix2 j ⟨o + k.val, by omega⟩) := by
  unfold cols
  exact congrArg w (funext fun a => Fin.ext ((Rect.idx_unit_val _ _ _ _ a).trans (match a with | ⟨0, _⟩ => Nat.zero_add _ | ⟨1, _⟩ => rfl)))

theorem rows_at (o : ℕ) (ho : o + 256 ≤ 2816) (h) (w : Vec Ideal S2816x1024 .bf16) (k : Fin 256) (y : Fin 1024) :
    rows o h w (ix2 k y) = w (ix2 ⟨o + k.val, by omega⟩ y) := by
  unfold rows
  exact congrArg w (funext fun a => Fin.ext ((Rect.idx_unit_val _ _ _ _ a).trans (match a with | ⟨0, _⟩ => rfl | ⟨1, _⟩ => Nat.zero_add _)))

/-- The chunk from hidden column `o`. -/
def chunkAt (o : ℕ) (ho : o + 256 ≤ 2816) (x : FVec Ideal S768x1024 .bf16) (wgu : Vec Ideal S1024x5632 .bf16) (wd : Vec Ideal S2816x1024 .bf16)
    (acc : FVec Ideal S768x1024 .f32) : FVec Ideal S768x1024 .f32 :=
  chunk x (cols o (fun a => match a with | ⟨0, _⟩ => by show 0 + 1024 ≤ 1024; omega | ⟨1, _⟩ => by show o + 256 ≤ 5632; omega) wgu)
    (cols (2816 + o) (fun a => match a with | ⟨0, _⟩ => by show 0 + 1024 ≤ 1024; omega | ⟨1, _⟩ => by show 2816 + o + 256 ≤ 5632; omega) wgu)
    acc (rows o (fun a => match a with | ⟨0, _⟩ => by show o + 256 ≤ 2816; omega | ⟨1, _⟩ => by show 0 + 1024 ≤ 1024; omega) wd)

/-- All of them, from zero. -/
def ffnRows (x : FVec Ideal S768x1024 .bf16) (wgu : Vec Ideal S1024x5632 .bf16) (wd : Vec Ideal S2816x1024 .bf16) : FVec Ideal S768x1024 .f32 :=
    chunkAt 2560 (by decide) x wgu wd <|
    chunkAt 2304 (by decide) x wgu wd <|
    chunkAt 2048 (by decide) x wgu wd <|
    chunkAt 1792 (by decide) x wgu wd <|
    chunkAt 1536 (by decide) x wgu wd <|
    chunkAt 1280 (by decide) x wgu wd <|
    chunkAt 1024 (by decide) x wgu wd <|
    chunkAt 768 (by decide) x wgu wd <|
    chunkAt 512 (by decide) x wgu wd <|
    chunkAt 256 (by decide) x wgu wd <|
    chunkAt 0 (by decide) x wgu wd k0_pay7

/-- The term of hidden column `n`. -/
def termAt (x : FVec Ideal S768x1024 .bf16) (wgu : Vec Ideal S1024x5632 .bf16) (wd : Vec Ideal S2816x1024 .bf16) (r : Fin 768) (y : Fin 1024) (n : ℕ) : EReal :=
  if h : n < 2816 then hiddenCol (fun j => x (ix2 r j)) (fun j k => wgu (ix2 j k)) ⟨n, h⟩ * wd (ix2 ⟨n, h⟩ y) else 0

theorem chunkAt_at (o : ℕ) (ho : o + 256 ≤ 2816) (x : FVec Ideal S768x1024 .bf16) (wgu : Vec Ideal S1024x5632 .bf16) (wd : Vec Ideal S2816x1024 .bf16)
    (acc : FVec Ideal S768x1024 .f32) (r : Fin 768) (y : Fin 1024) :
    chunkAt o ho x wgu wd acc (ix2 r y) = acc (ix2 r y) + ∑ k : Fin 256, termAt x wgu wd r y (o + k.val) := by
  unfold chunkAt
  rw [chunk_at]
  refine congrArg _ (Finset.sum_congr rfl fun k _ => ?_)
  unfold termAt hiddenCol
  rw [dif_pos (by omega)]
  simp only [cols_at o (by omega), cols_at (2816 + o) (by omega), rows_at o ho, Nat.add_assoc]

theorem ffnRows_at (x : FVec Ideal S768x1024 .bf16) (wgu : Vec Ideal S1024x5632 .bf16) (wd : Vec Ideal S2816x1024 .bf16) (r : Fin 768) (y : Fin 1024) :
    ffnRows x wgu wd (ix2 r y) = ffn (fun j => x (ix2 r j)) (fun j k => wgu (ix2 j k)) (fun k y => wd (ix2 k y)) y := by
  unfold ffnRows ffn
  have z : k0_pay7 (F := Ideal) (ix2 r y) = 0 := by pointwise [k0_pay7]
  have e : ∀ k : Fin 2816, hiddenCol (fun j => x (ix2 r j)) (fun j k => wgu (ix2 j k)) k * wd (ix2 k y) = termAt x wgu wd r y k.val := fun k => by
    unfold termAt; rw [dif_pos k.isLt]
  simp only [e, chunkAt_at, z]
  exact (sum_parts _).symm

/-! ## The block -/

section
variable (i : grid0.Coords) (va vb : Vec Ideal S1x768x512 .bf16) (wo : Vec Ideal S1024x1024 .bf16) (vh : Vec Ideal S1x768x1024 .f32)
  (vg : Vec Ideal S1x1024 .f32) (wgu : Vec Ideal S1024x5632 .bf16) (wd : Vec Ideal S2816x1024 .bf16) (r : Fin 768) (y : Fin 1024)

/-- The upper and the lower half of the projection's weights. -/
def upper : Vec Ideal S512x1024 .bf16 := View.ld wo (Rect.unit ![0, 0] S512x1024.size inb_S1024x1024_S512x1024_0_0)
def lower : Vec Ideal S512x1024 .bf16 := View.ld wo (Rect.unit ![512, 0] S512x1024.size inb_S1024x1024_S512x1024_512_0)

theorem upper_at (k : Fin 512) : upper wo (ix2 k y) = wo (ix2 ⟨k.val, by omega⟩ y) := by
  unfold upper
  exact congrArg wo (funext fun a => Fin.ext ((Rect.idx_unit_val _ _ _ _ a).trans (match a with | ⟨0, _⟩ => Nat.zero_add _ | ⟨1, _⟩ => Nat.zero_add _)))
theorem lower_at (k : Fin 512) : lower wo (ix2 k y) = wo (ix2 ⟨512 + k.val, by omega⟩ y) := by
  unfold lower
  exact congrArg wo (funext fun a => Fin.ext ((Rect.idx_unit_val _ _ _ _ a).trans (match a with | ⟨0, _⟩ => rfl | ⟨1, _⟩ => Nat.zero_add _)))

/-- What the body writes. -/
def block : Vec Ideal S1x768x1024 .f32 :=
  k0_pay1 (k0_pay28 (k0_pay2 i) (k0_pay3 i va vb (upper wo) (lower wo) vh) (ffnRows (normedRows i va vb (upper wo) (lower wo) vh vg) wgu wd))

theorem block_at : block i va vb wo vh vg wgu wd (ix3 0 r y)
    = layer (768 * (i 1).val + r.val) (fun k => vh (ix3 0 r k)) (fun k => va (ix3 0 r k)) (fun k => vb (ix3 0 r k)) (fun j k => wo (ix2 j k))
        (fun k => vg (ix2 0 k)) (fun j k => wgu (ix2 j k)) (fun j k => wd (ix2 j k)) y := by
  unfold block layer
  rw [last_at, ffnRows_at]
  have e : ∀ k, k0_pay3 (F := Ideal) i va vb (upper wo) (lower wo) vh (ix2 r k) = mixed (768 * (i 1).val + r.val) (fun k => vh (ix3 0 r k))
      (fun k => va (ix3 0 r k)) (fun k => vb (ix3 0 r k)) (fun j k => wo (ix2 j k)) k := fun k => by
    rw [sums_at]; unfold mixed; simp only [upper_at, lower_at]
  simp only [e, normedRows_at]

end

variable (m : (ℓ : Loc nD τ sig) → Buf (Elt Ideal) ℓ)

theorem outs_eq (c : Dev nD) (t : Fin cfg0.N) : outsAt0 m c t
    = block (grid0.coords t) (iblk m c 1 t) (iblk m c 2 t) (iblk m c 3 t) (iblk m c 0 t) (iblk m c 4 t) (iblk m c 5 t) (iblk m c 6 t) := by
  unfold outsAt0
  frame_out
  rfl

end Cert.Kernel3Ideal.Even

end
-- ==== Proof.Even.Value.lean ====
/- The even layers' kernel: every block it writes is the layer's values there. -/
module

public import proofs.«01_k».proof.Proof.Even.Block
public import Idealize.ShloMosaic.Lib.Claim
public import Idealize.ShloMosaic.Lib.StableHlo.RunRead
public import Idealize.ShloMosaic.Lib.Pipeline.ValueKit.Point

@[expose] public section

set_option maxRecDepth 16384

noncomputable section

namespace Cert.Kernel3Ideal.Even

open Cert.Kernel3Ideal Cert.Kernel3Ideal.Gen Cert.Post
open Idealize.ShloMosaic Idealize.ShloMosaic.TcCoe Idealize.ShloMosaic.Tactic

variable (m : (ℓ : Loc nD τ sig) → Buf (Elt Ideal) ℓ) (c : Dev nD)

abbrev streamOf : (⟨S4x8448x1024, .f32⟩ : BufTy).Contents (Elt Ideal) := m ((c.tc : Thread nD τ).loc main_arg0)
abbrev firstOf : (⟨S4x8448x512, .bf16⟩ : BufTy).Contents (Elt Ideal) := m ((c.tc : Thread nD τ).loc main_arg1)
abbrev secondOf : (⟨S4x8448x512, .bf16⟩ : BufTy).Contents (Elt Ideal) := m ((c.tc : Thread nD τ).loc main_arg2)
abbrev outOf : (⟨S1024x1024, .f32⟩ : BufTy).Contents (Elt Ideal) := m ((c.tc : Thread nD τ).loc main_arg3)
abbrev gainOf : (⟨S1024, .f32⟩ : BufTy).Contents (Elt Ideal) := m ((c.tc : Thread nD τ).loc main_arg4)
abbrev upOf : (⟨S1024x5632, .f32⟩ : BufTy).Contents (Elt Ideal) := m ((c.tc : Thread nD τ).loc main_arg5)
abbrev downOf : (⟨S2816x1024, .f32⟩ : BufTy).Contents (Elt Ideal) := m ((c.tc : Thread nD τ).loc main_arg6)

/-! ## The blocks the body is handed -/

theorem index_0 : ∀ t : Fin cfg0.N, win0_0.index t = ![t.val / 11, t.val % 11, 0] := (by decide +kernel : ∀ t : Fin grid0.N, _)
theorem index_1 : ∀ t : Fin cfg0.N, win0_1.index t = ![t.val / 11, t.val % 11, 0] := (by decide +kernel : ∀ t : Fin grid0.N, _)
theorem index_2 : ∀ t : Fin cfg0.N, win0_2.index t = ![t.val / 11, t.val % 11, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val / 11, t.val % 11, 0] := (by decide +kernel : ∀ t : Fin grid0.N, _)
theorem part_eq : ∀ t : Fin cfg0.N, (grid0.coords t 1).val = t.val % 11 := (by decide +kernel : ∀ t : Fin grid0.N, _)

/-- The batch and the part of 768 rows of a grid point. -/
def batch (t : Fin cfg0.N) : Fin 4 := ⟨t.val / 11, by have h : t.val < 44 := t.isLt; omega⟩
def rowAt (t : Fin cfg0.N) (r : Fin 768) : Fin 8448 := ⟨768 * (t.val % 11) + r.val, by omega⟩

variable (t : Fin cfg0.N)

theorem stream_at (r : Fin 768) (y : Fin 1024) : (iblk m c 0 t : Vec Ideal S1x768x1024 .f32) (ix3 0 r y) = streamOf m c (ix3 (batch t) (rowAt t r) y) := by
  refine Eq.trans ?_ (congrFun (V_main_arg0 m c) _)
  blk_simp [iblk]
  refine congrArg (V m c main_arg0) ?_
  blk_ext [index_0 t, batch, rowAt]

theorem first_at (r : Fin 768) (y : Fin 512) : (iblk m c 1 t : Vec Ideal S1x768x512 .bf16) (ix3 0 r y) = firstOf m c (ix3 (batch t) (rowAt t r) y) := by
  refine Eq.trans ?_ (congrFun (V_main_arg1 m c) _)
  blk_simp [iblk]
  refine congrArg (V m c main_arg1) ?_
  blk_ext [index_1 t, batch, rowAt]

theorem second_at (r : Fin 768) (y : Fin 512) : (iblk m c 2 t : Vec Ideal S1x768x512 .bf16) (ix3 0 r y) = secondOf m c (ix3 (batch t) (rowAt t r) y) := by
  refine Eq.trans ?_ (congrFun (V_main_arg2 m c) _)
  blk_simp [iblk]
  refine congrArg (V m c main_arg2) ?_
  blk_ext [index_2 t, batch, rowAt]

theorem out_at (j y : Fin 1024) : (iblk m c 3 t : Vec Ideal S1024x1024 .bf16) (ix2 j y) = outOf m c (ix2 j y) := by
  refine Eq.trans (b := (V m c main_v0 : (⟨S1024x1024, .bf16⟩ : BufTy).Contents (Elt Ideal)) (ix2 j y)) ?_ ?_
  · blk_simp [iblk]
    refine congrArg (V m c main_v0) ?_
    blk_ext [index_3 t]
  · entry_read
    pointwise

theorem gain_at (y : Fin 1024) : (iblk m c 4 t : Vec Ideal S1x1024 .f32) (ix2 0 y) = gainOf m c (ix1 y) := by
  refine Eq.trans (b := (V m c main_v1 : (⟨S1x1024, .f32⟩ : BufTy).Contents (Elt Ideal)) (ix2 0 y)) ?_ ?_
  · blk_simp [iblk]
    refine congrArg (V m c main_v1) ?_
    blk_ext [index_4 t]
  · entry_read
    pointwise

theorem up_at (j : Fin 1024) (y : Fin 5632) : (iblk m c 5 t : Vec Ideal S1024x5632 .bf16) (ix2 j y) = upOf m c (ix2 j y) := by
  refine Eq.trans (b := (V m c main_v2 : (⟨S1024x5632, .bf16⟩ : BufTy).Contents (Elt Ideal)) (ix2 j y)) ?_ ?_
  · blk_simp [iblk]
    refine congrArg (V m c main_v2) ?_
    blk_ext [index_5 t]
  · entry_read
    pointwise

theorem down_at (j : Fin 2816) (y : Fin 1024) : (iblk m c 6 t : Vec Ideal S2816x1024 .bf16) (ix2 j y) = downOf m c (ix2 j y) := by
  refine Eq.trans (b := (V m c main_v3 : (⟨S2816x1024, .bf16⟩ : BufTy).Contents (Elt Ideal)) (ix2 j y)) ?_ ?_
  · blk_simp [iblk]
    refine congrArg (V m c main_v3) ?_
    blk_ext [index_6 t]
  · entry_read
    pointwise

/-! ## The whole result -/

def resultAt (b : Fin 4) (l : Fin 8448) (y : Fin 1024) : EReal :=
  layer l.val (fun k => streamOf m c (ix3 b l k)) (fun k => firstOf m c (ix3 b l k)) (fun k => secondOf m c (ix3 b l k))
    (fun j k => outOf m c (ix2 j k)) (fun k => gainOf m c (ix1 k)) (fun j k => upOf m c (ix2 j k)) (fun j k => downOf m c (ix2 j k)) y

def resultArr : (⟨S4x8448x1024, .f32⟩ : BufTy).Contents (Elt Ideal) := fun i => resultAt m c (i 0) (i 1) (i 2)

theorem outs_at (r : Fin 768) (y : Fin 1024) : outsAt0 m c t (ix3 0 r y) = resultAt m c (batch t) (rowAt t r) y := by
  rw [outs_eq, block_at, part_eq]
  simp only [stream_at, first_at, second_at, out_at, gain_at, up_at, down_at]
  rfl

theorem result_eq : (dats (F := Ideal) m 0 c).arrAt 7 cfg0.N = resultArr m c := by
  refine (dats m 0 c).arrAt_eq_of_covers 7 _ (by decide +kernel) fun t _ y => ?_
  blk_simp
  rw [after0_7]
  obtain ⟨r, z, rfl⟩ : ∃ (r : Fin 768) (z : Fin 1024), y = ix3 0 r z :=
    ⟨y 1, y 2, by ext a; match a with | ⟨0, _⟩ => exact Nat.lt_one_iff.1 (y 0).isLt | ⟨1, _⟩ => rfl | ⟨2, _⟩ => rfl⟩
  have he : (win0_7.blk t).view.emb (ix3 0 r z) = ix3 (batch t) (rowAt t r) z := by
    blk_ext [index_7 t, batch, rowAt]
  refine (outs_at m c t r z).trans ?_
  exact congrArg (resultArr m c) he.symm

end Cert.Kernel3Ideal.Even

end
-- ==== Proof.Even.Ref.lean ====
/- The even layers' reference, read at an index. -/
module

public import proofs.«01_k».proof.Proof.Gen.Reference3Ideal.Read
public import proofs.«01_k».proof.Proof.Post
public import Idealize.ShloMosaic.Lib.Pointwise

@[expose] public section

set_option maxRecDepth 16384

noncomputable section

namespace Cert.Reference3Ideal.Even

open Cert.Reference3Ideal Cert.Reference3Ideal.Gen Cert.Reference3Ideal.Read Cert.Post
open Idealize.ShloMosaic Idealize.ShloMosaic.TcCoe

/-! ## The rows past the padding -/

theorem past_pad {l : ℕ} (hl : l < 8448) : IntOp.cmpi .sge (BitVec.ofNat 32 l) 240#32 = 1#1 ↔ 240 ≤ l := by
  have b : ∀ b : Bool, BitVec.ofBool b = 1#1 ↔ b = true := by decide
  show BitVec.ofBool (BitVec.sle _ _) = 1#1 ↔ _
  rw [b, BitVec.sle_iff_toInt_le, show (240#32).toInt = 240 by decide]
  simp only [BitVec.toInt_ofNat', Int.bmod_def]
  omega

theorem word_at {l : ℕ} (hl : l < 8448) : FloatOps.uitofp (F := Ideal) FTy.f32 (IntOp.cmpi .sge (BitVec.ofNat 32 l) 240#32)
    = if 240 ≤ l then (1 : EReal) else 0 := by
  generalize hw : IntOp.cmpi .sge (BitVec.ofNat 32 l) 240#32 = w
  have h := past_pad hl
  rw [hw] at h
  have two : ∀ w : BitVec 1, w = 0#1 ∨ w = 1#1 := by decide
  rcases two w with rfl | rfl
  · rw [if_neg (fun e => absurd (h.2 e) (by decide))]
    simp [FloatOps.uitofp]
  · rw [if_pos (h.1 rfl)]
    simp [FloatOps.uitofp]

theorem valid_at (i : S1x8448x1.Idx) : val_main_v6 (F := Ideal) i = if 240 ≤ (i 1).val then (1 : EReal) else 0 := by
  rw [val_main_v6_apply, val_main_v5_apply, val_main_v4_apply, val_main_v2_apply, val_main_v3_apply, val_main_c_apply]
  exact word_at (i 1).isLt

theorem stream_at (x0 : (⟨S4x8448x1024, .f32⟩ : BufTy).Contents (Elt Ideal)) (b : Fin 4) (l : Fin 8448) (y : Fin 1024) :
    val_main_v9 (F := Ideal) x0 (ix3 b l y) = if 240 ≤ l.val then x0 (ix3 b l y) else 0 := by
  rw [val_main_v9_apply, val_main_call0_v1_apply, val_main_v8_apply, valid_at, val_main_v7_apply, val_main_cst_apply, val_main_call0_v2_apply,
    val_main_call0_v0_apply, val_main_cst_0_apply]
  have z : FloatOps.ofBits (F := Ideal) .f32 0x00000000#32 = (0 : EReal) := by simp [FloatOps.ofBits, Ideal.ofBits, Ideal.ieee]
  rw [z]
  show Scalar.select (Ideal.cmp .ogt (if 240 ≤ l.val then (1 : EReal) else 0) 0) _ _ = _
  split
  · have h : Ideal.cmp .ogt (1 : EReal) 0 = 1#1 := by simp [Ideal.cmp]
    rw [h]; rfl
  · have h : Ideal.cmp .ogt (0 : EReal) 0 = 0#1 := by simp [Ideal.cmp]
    rw [h]; rfl

/-! ## The operations -/

variable (x0 : (⟨S4x8448x1024, .f32⟩ : BufTy).Contents (Elt Ideal)) (x1 x2 : (⟨S4x8448x512, .bf16⟩ : BufTy).Contents (Elt Ideal))
  (x3 : (⟨S1024x1024, .f32⟩ : BufTy).Contents (Elt Ideal)) (x4 : (⟨S1024, .f32⟩ : BufTy).Contents (Elt Ideal))
  (x5 : (⟨S1024x5632, .f32⟩ : BufTy).Contents (Elt Ideal)) (x6 : (⟨S2816x1024, .f32⟩ : BufTy).Contents (Elt Ideal))
  (b : Fin 4) (l : Fin 8448) (y : Fin 1024)

theorem left_at (k : Fin 512) : val_main_v10 (F := Ideal) x1 x2 (ix3 b l ⟨k.val, by omega⟩) = x1 (ix3 b l k) := by
  have hk := k.isLt
  pointwise [val_main_v10, val_main_v0, val_main_v1]

theorem right_at (k : Fin 512) : val_main_v10 (F := Ideal) x1 x2 (ix3 b l ⟨512 + k.val, by omega⟩) = x2 (ix3 b l k) := by
  have hk := k.isLt
  pointwise [val_main_v10, val_main_v0, val_main_v1]

/-- The row after the projection. -/
abbrev rowOf (k : Fin 1024) : EReal := mixed l.val (fun k => x0 (ix3 b l k)) (fun k => x1 (ix3 b l k)) (fun k => x2 (ix3 b l k)) (fun j k => x3 (ix2 j k)) k

theorem mixed_at : val_main_v14 (F := Ideal) x0 x1 x2 x3 (ix3 b l y) = rowOf x0 x1 x2 x3 b l y := by
  rw [val_main_v14_apply, stream_at, val_main_v13_apply, val_main_v12_apply, valid_at, val_main_v11_apply, sum_halves]
  have e1 : ∀ k : Fin 512, val_main_v10 (F := Ideal) x1 x2 (lidx_main_v11 (ix3 b l y) ⟨k.val, by omega⟩) = x1 (ix3 b l k) := fun k => by
    rw [show lidx_main_v11 (ix3 b l y) ⟨k.val, by omega⟩ = ix3 b l ⟨k.val, by omega⟩ from funext fun a => match a with | ⟨0, _⟩ => rfl | ⟨1, _⟩ => rfl | ⟨2, _⟩ => rfl,
      left_at]
  have e2 : ∀ k : Fin 512, val_main_v10 (F := Ideal) x1 x2 (lidx_main_v11 (ix3 b l y) ⟨512 + k.val, by omega⟩) = x2 (ix3 b l k) := fun k => by
    rw [show lidx_main_v11 (ix3 b l y) ⟨512 + k.val, by omega⟩ = ix3 b l ⟨512 + k.val, by omega⟩ from funext fun a => match a with | ⟨0, _⟩ => rfl | ⟨1, _⟩ => rfl | ⟨2, _⟩ => rfl,
      right_at]
  have e3 : ∀ k : Fin 1024, ridx_main_v11 (ix3 b l y) k = ix2 k y := fun k => funext fun a => match a with | ⟨0, _⟩ => rfl | ⟨1, _⟩ => rfl
  simp only [e1, e2, e3]
  unfold rowOf mixed
  show _ + _ * (if 240 ≤ l.val then (1 : EReal) else 0) = _
  split
  · rw [mul_one]
  · rw [mul_zero, add_zero]

theorem normed_at : val_main_v27 (F := Ideal) x0 x1 x2 x3 x4 (ix3 b l y) = normed (rowOf x0 x1 x2 x3 b l) (fun k => x4 (ix1 k)) y := by
  rw [val_main_v27_apply, val_main_v24_apply, mixed_at, val_main_v23_apply, val_main_v22_apply, val_main_v21_apply, val_main_v19_apply,
    val_main_v17_apply, val_main_v16_apply, val_main_v18_apply, val_main_cst_2_apply, val_main_v20_apply, val_main_cst_3_apply, val_main_v26_apply, val_main_v25_apply]
  have e : ∀ k : Fin 1024, val_main_v15 (F := Ideal) x0 x1 x2 x3 (idx_main_v16 (idx_main_v17 (idx_main_v23 (ix3 b l y))) k)
      = rowOf x0 x1 x2 x3 b l k * rowOf x0 x1 x2 x3 b l k := fun k => by
    rw [show idx_main_v16 (idx_main_v17 (idx_main_v23 (ix3 b l y))) k = ix3 b l k from funext fun a => match a with | ⟨0, _⟩ => rfl | ⟨1, _⟩ => rfl | ⟨2, _⟩ => rfl,
      val_main_v15_apply, mixed_at]
    rfl
  have z : val_main_cst_1 (F := Ideal) (Shape.Idx.first h_S_) = (0 : EReal) := by
    rw [val_main_cst_1_apply]; simp [FloatOps.ofBits, Ideal.ofBits, Ideal.ieee]
  have g : x4 (idx_main_v25 (idx_main_v26 (ix3 b l y))) = x4 (ix1 y) := congrArg x4 (funext fun a => match a with | ⟨0, _⟩ => rfl)
  simp only [e, z, zero_add, g]
  rfl

theorem up_at (n : Fin 5632) : val_main_v28 (F := Ideal) x0 x1 x2 x3 x4 x5 (ix3 b l n)
    = ∑ j : Fin 1024, normed (rowOf x0 x1 x2 x3 b l) (fun k => x4 (ix1 k)) j * x5 (ix2 j n) := by
  rw [val_main_v28_apply]
  refine Finset.sum_congr rfl fun j _ => ?_
  rw [show lidx_main_v28 (ix3 b l n) j = ix3 b l j from funext fun a => match a with | ⟨0, _⟩ => rfl | ⟨1, _⟩ => rfl | ⟨2, _⟩ => rfl,
    show ridx_main_v28 (ix3 b l n) j = ix2 j n from funext fun a => match a with | ⟨0, _⟩ => rfl | ⟨1, _⟩ => rfl, normed_at]

theorem hidden_at (n : Fin 2816) : val_main_v32 (F := Ideal) x0 x1 x2 x3 x4 x5 (ix3 b l n)
    = hiddenCol (normed (rowOf x0 x1 x2 x3 b l) (fun k => x4 (ix1 k))) (fun j k => x5 (ix2 j k)) n := by
  rw [val_main_v32_apply, val_main_v31_apply, val_main_call1_v5_apply, val_main_call1_v4_apply, val_main_call1_v3_apply, val_main_call1_v2_apply,
    val_main_call1_v1_apply, val_main_call1_v0_apply, val_main_call1_cst_apply, val_main_call1_cst_0_apply, val_main_v29_apply, val_main_v30_apply]
  rw [show idx_main_v29 (ix3 b l n) = ix3 b l ⟨n.val, by omega⟩ from funext fun a => match a with | ⟨0, _⟩ => rfl | ⟨1, _⟩ => rfl | ⟨2, _⟩ => rfl,
    show idx_main_v30 (ix3 b l n) = ix3 b l ⟨2816 + n.val, by omega⟩ from funext fun a => match a with | ⟨0, _⟩ => rfl | ⟨1, _⟩ => rfl | ⟨2, _⟩ => rfl,
    up_at, up_at]
  have o : FloatOps.ofBits (F := Ideal) .f32 0x3F800000#32 = (1 : EReal) := Ideal.ofBits_one_f32
  rw [o]
  unfold hiddenCol sigmoid
  rfl

theorem down_at : val_main_v33 (F := Ideal) x0 x1 x2 x3 x4 x5 x6 (ix3 b l y)
    = ffn (normed (rowOf x0 x1 x2 x3 b l) (fun k => x4 (ix1 k))) (fun j k => x5 (ix2 j k)) (fun j k => x6 (ix2 j k)) y := by
  rw [val_main_v33_apply]
  unfold ffn
  refine Finset.sum_congr rfl fun j _ => ?_
  rw [show lidx_main_v33 (ix3 b l y) j = ix3 b l j from funext fun a => match a with | ⟨0, _⟩ => rfl | ⟨1, _⟩ => rfl | ⟨2, _⟩ => rfl,
    show ridx_main_v33 (ix3 b l y) j = ix2 j y from funext fun a => match a with | ⟨0, _⟩ => rfl | ⟨1, _⟩ => rfl, hidden_at]

theorem result_at : val_main_v36 (F := Ideal) x0 x1 x2 x3 x4 x5 x6 (ix3 b l y)
    = layer l.val (fun k => x0 (ix3 b l k)) (fun k => x1 (ix3 b l k)) (fun k => x2 (ix3 b l k)) (fun j k => x3 (ix2 j k)) (fun k => x4 (ix1 k))
        (fun j k => x5 (ix2 j k)) (fun j k => x6 (ix2 j k)) y := by
  rw [val_main_v36_apply, mixed_at, val_main_v35_apply, down_at, val_main_v34_apply, valid_at]
  unfold layer
  show _ + _ * (if 240 ≤ l.val then (1 : EReal) else 0) = _
  split
  · rw [mul_one]
  · rename_i h
    rw [mul_zero, add_zero]
    show mixed _ _ _ _ _ _ = 0
    unfold mixed
    rw [if_neg h]

theorem result_eq (i : S4x8448x1024.Idx) : val_main_v36 (F := Ideal) x0 x1 x2 x3 x4 x5 x6 i
    = layer (i 1).val (fun k => x0 (ix3 (i 0) (i 1) k)) (fun k => x1 (ix3 (i 0) (i 1) k)) (fun k => x2 (ix3 (i 0) (i 1) k)) (fun j k => x3 (ix2 j k))
        (fun k => x4 (ix1 k)) (fun j k => x5 (ix2 j k)) (fun j k => x6 (ix2 j k)) (i 2) := by
  rw [show i = ix3 (i 0) (i 1) (i 2) from funext fun a => match a with | ⟨0, _⟩ => rfl | ⟨1, _⟩ => rfl | ⟨2, _⟩ => rfl]
  exact result_at x0 x1 x2 x3 x4 x5 x6 (i 0) (i 1) (i 2)

end Cert.Reference3Ideal.Even

end
-- ==== Proof.Even.Agree.lean ====
/- The even layers' two programs put side by side. -/
module

public import proofs.«01_k».proof.Defs
public import proofs.«01_k».proof.Proof.Even.Value
public import proofs.«01_k».proof.Proof.Even.Ref
public import proofs.«01_k».proof.Proof.Gen.Reference3Ideal.Run
public import Idealize.ShloMosaic.Lib.Claim

@[expose] public section

set_option maxRecDepth 16384

noncomputable section

namespace Cert.Proof.Even

open Idealize.ShloMosaic Idealize.ShloMosaic.TcCoe Idealize.SL.Sem
open Cert.Kernel3Ideal.Even (resultArr)

/-- The reference ends, with its arguments as they were and every counter at zero. -/
theorem frame_reference : Cert.quiescent_Reference3Ideal := fun m g _ =>
  (θ_run _ _ _).mono (fun r h => ⟨fun c => (h c).2, sem_eq_zero_of_no_sems (by decide) r.2⟩)
    (Cert.Reference3Ideal.Value.run (F := Ideal) m g)

/-- Both programs' arrays are the layer's values. -/
theorem algebraic : Cert.algebraic_Kernel3Ideal_Reference3Ideal := by
  intro m g m' g' _ hagree
  refine ⟨fun c => resultArr m c, ?_, ?_⟩
  · exact (θ_run _ _ _).mono (fun r h c => ⟨(h c).1.trans (Cert.Kernel3Ideal.Even.result_eq m c), (h c).2⟩)
      (Cert.Kernel3Ideal.Value.run_blocks (F := Ideal) m g)
  · refine (θ_run Cert.Reference3Ideal.defs _ _).mono (fun _ h c => ⟨(h c).1.trans ?_, (h c).2⟩) (Cert.Reference3Ideal.Value.run (F := Ideal) m' g')
    rw [Cert.Reference3Ideal.Read.val_main_v36_eq, (hagree c).1, (hagree c).2.1, (hagree c).2.2.1, (hagree c).2.2.2.1, (hagree c).2.2.2.2.1, (hagree c).2.2.2.2.2.1, (hagree c).2.2.2.2.2.2]
    funext i
    exact Cert.Reference3Ideal.Even.result_eq _ _ _ _ _ _ _ i

end Cert.Proof.Even

end
-- ==== Proof.Odd.Block.lean ====
/- The odd layers' projection and feed-forward kernel: the block it writes, read at a row and a column. -/
module

public import proofs.«01_k».proof.Proof.Gen.Kernel2Ideal.Value
public import proofs.«01_k».proof.Proof.Even.Block

@[expose] public section

set_option maxRecDepth 16384

noncomputable section

namespace Cert.Kernel2Ideal.Odd

open Cert.Kernel2Ideal Cert.Kernel2Ideal.Gen Cert.Post
open Cert.Kernel3Ideal.Even (ffnRows ffnRows_at upper lower upper_at lower_at select_iff past_pad)
open Idealize.ShloMosaic Idealize.ShloMosaic.TcCoe Idealize.ShloMosaic.Tactic

section
variable (i : grid0.Coords) (va : Vec Ideal S1x768x512 .bf16) (vb : Vec Ideal S1x768x512 .f32) (wg : Vec Ideal S512x512 .bf16) (bg : Vec Ideal S1x512 .f32)
  (w1 w2 : Vec Ideal S512x1024 .bf16) (wo : Vec Ideal S1024x1024 .bf16) (vh : Vec Ideal S1x768x1024 .f32) (vg vf : Vec Ideal S1x1024 .f32)
  (wgu : Vec Ideal S1024x5632 .bf16) (wd : Vec Ideal S2816x1024 .bf16) (r : Fin 768) (y : Fin 1024)

/-- The gated recurrence's output and the other mixer's, under the projection. -/
theorem projected_at : k0_pay4 va vb wg bg w1 w2 (ix2 r y) = ∑ k : Fin 512, va (ix3 0 r k) * w1 (ix2 k y)
    + ∑ k : Fin 512, gated (fun j => vb (ix3 0 r j)) (fun j k => wg (ix2 j k)) (fun k => bg (ix2 0 k)) k * w2 (ix2 k y) := by
  unfold gated sigmoid
  pointwise [k0_pay4]
  simp only [zero_sub]

theorem sums_at (s : FVec Ideal S768x1024 .f32) : k0_pay5 (F := Ideal) (k0_pay3 i) s vh (ix2 r y)
    = if 240 ≤ 768 * (i 1).val + r.val then vh (ix3 0 r y) + s (ix2 r y) else 0 := by
  pointwise [k0_pay5, k0_pay3]
  rw [select_iff (past_pad (i 1).isLt r.isLt)]

theorem normedRows_at (s : FVec Ideal S768x1024 .f32) : k0_pay6 (F := Ideal) (k0_pay3 i) s vh vg (ix2 r y)
    = normed (fun k => k0_pay5 (F := Ideal) (k0_pay3 i) s vh (ix2 r k)) (fun k => vg (ix2 0 k)) y := by
  unfold normed
  pointwise [k0_pay6]

theorem last_at (a acc : FVec Ideal S768x1024 .f32) : k0_pay2 (k0_pay3 i) a acc vf (ix3 0 r y)
    = normed (fun k => if 240 ≤ 768 * (i 1).val + r.val then a (ix2 r k) + acc (ix2 r k) else 0) (fun k => vf (ix2 0 k)) y := by
  unfold normed
  pointwise [k0_pay2, k0_pay3]
  simp only [select_iff (past_pad (i 1).isLt r.isLt)]
  by_cases h : 240 ≤ 768 * (i 1).val + r.val
  · simp only [if_pos h]
  · simp only [if_neg h, zero_mul]

/-- What the body writes. -/
def block : Vec Ideal S1x768x1024 .f32 :=
  k0_pay2 (k0_pay3 i) (k0_pay5 (k0_pay3 i) (k0_pay4 va vb wg bg (upper wo) (lower wo)) vh)
    (ffnRows (k0_pay6 (k0_pay3 i) (k0_pay4 va vb wg bg (upper wo) (lower wo)) vh vg) wgu wd) vf

theorem block_at : block i va vb wg bg wo vh vg vf wgu wd (ix3 0 r y)
    = normed (layer (768 * (i 1).val + r.val) (fun k => vh (ix3 0 r k)) (fun k => va (ix3 0 r k))
        (gated (fun k => vb (ix3 0 r k)) (fun j k => wg (ix2 j k)) (fun k => bg (ix2 0 k))) (fun j k => wo (ix2 j k))
        (fun k => vg (ix2 0 k)) (fun j k => wgu (ix2 j k)) (fun j k => wd (ix2 j k))) (fun k => vf (ix2 0 k)) y := by
  unfold block
  rw [last_at]
  refine congrArg (fun f => normed f _ _) (funext fun z => ?_)
  unfold layer
  rw [ffnRows_at]
  have e : ∀ k, k0_pay5 (F := Ideal) (k0_pay3 i) (k0_pay4 va vb wg bg (upper wo) (lower wo)) vh (ix2 r k)
      = mixed (768 * (i 1).val + r.val) (fun k => vh (ix3 0 r k)) (fun k => va (ix3 0 r k))
        (gated (fun k => vb (ix3 0 r k)) (fun j k => wg (ix2 j k)) (fun k => bg (ix2 0 k))) (fun j k => wo (ix2 j k)) k := fun k => by
    rw [sums_at, projected_at]; unfold mixed; simp only [upper_at, lower_at]
  simp only [e, normedRows_at]

end

variable (m : (ℓ : Loc nD τ sig) → Buf (Elt Ideal) ℓ)

theorem outs_eq (c : Dev nD) (t : Fin cfg0.N) : outsAt0 m c t
    = block (grid0.coords t) (iblk m c 1 t) (iblk m c 2 t) (iblk m c 3 t) (iblk m c 4 t) (iblk m c 5 t) (iblk m c 0 t) (iblk m c 6 t) (iblk m c 9 t)
        (iblk m c 7 t) (iblk m c 8 t) := by
  unfold outsAt0
  frame_out
  rfl

end Cert.Kernel2Ideal.Odd

end
-- ==== Proof.Odd.Value.lean ====
/- The odd layers' kernel: every block it writes is the layer's values there, under the last norm. -/
module

public import proofs.«01_k».proof.Proof.Odd.Block
public import Idealize.ShloMosaic.Lib.Claim
public import Idealize.ShloMosaic.Lib.StableHlo.RunRead
public import Idealize.ShloMosaic.Lib.Pipeline.ValueKit.Point

@[expose] public section

set_option maxRecDepth 16384

noncomputable section

namespace Cert.Kernel2Ideal.Odd

open Cert.Kernel2Ideal Cert.Kernel2Ideal.Gen Cert.Post
open Idealize.ShloMosaic Idealize.ShloMosaic.TcCoe Idealize.ShloMosaic.Tactic

variable (m : (ℓ : Loc nD τ sig) → Buf (Elt Ideal) ℓ) (c : Dev nD)

abbrev streamOf : (⟨S4x8448x1024, .f32⟩ : BufTy).Contents (Elt Ideal) := m ((c.tc : Thread nD τ).loc main_arg0)
abbrev firstOf : (⟨S4x8448x512, .bf16⟩ : BufTy).Contents (Elt Ideal) := m ((c.tc : Thread nD τ).loc main_arg1)
abbrev secondOf : (⟨S4x8448x512, .f32⟩ : BufTy).Contents (Elt Ideal) := m ((c.tc : Thread nD τ).loc main_arg2)
abbrev outOf : (⟨S1024x1024, .f32⟩ : BufTy).Contents (Elt Ideal) := m ((c.tc : Thread nD τ).loc main_arg3)
abbrev gateOf : (⟨S512x512, .f32⟩ : BufTy).Contents (Elt Ideal) := m ((c.tc : Thread nD τ).loc main_arg4)
abbrev biasOf : (⟨S512, .f32⟩ : BufTy).Contents (Elt Ideal) := m ((c.tc : Thread nD τ).loc main_arg5)
abbrev gainOf : (⟨S1024, .f32⟩ : BufTy).Contents (Elt Ideal) := m ((c.tc : Thread nD τ).loc main_arg6)
abbrev upOf : (⟨S1024x5632, .f32⟩ : BufTy).Contents (Elt Ideal) := m ((c.tc : Thread nD τ).loc main_arg7)
abbrev downOf : (⟨S2816x1024, .f32⟩ : BufTy).Contents (Elt Ideal) := m ((c.tc : Thread nD τ).loc main_arg8)
abbrev lastOf : (⟨S1024, .f32⟩ : BufTy).Contents (Elt Ideal) := m ((c.tc : Thread nD τ).loc main_arg9)

/-! ## The blocks the body is handed -/

theorem index_0 : ∀ t : Fin cfg0.N, win0_0.index t = ![t.val / 11, t.val % 11, 0] := (by decide +kernel : ∀ t : Fin grid0.N, _)
theorem index_1 : ∀ t : Fin cfg0.N, win0_1.index t = ![t.val / 11, t.val % 11, 0] := (by decide +kernel : ∀ t : Fin grid0.N, _)
theorem index_2 : ∀ t : Fin cfg0.N, win0_2.index t = ![t.val / 11, t.val % 11, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![t.val / 11, t.val % 11, 0] := (by decide +kernel : ∀ t : Fin grid0.N, _)
theorem part_eq : ∀ t : Fin cfg0.N, (grid0.coords t 1).val = t.val % 11 := (by decide +kernel : ∀ t : Fin grid0.N, _)

/-- The batch and the part of 768 rows of a grid point. -/
def batch (t : Fin cfg0.N) : Fin 4 := ⟨t.val / 11, by have h : t.val < 44 := t.isLt; omega⟩
def rowAt (t : Fin cfg0.N) (r : Fin 768) : Fin 8448 := ⟨768 * (t.val % 11) + r.val, by omega⟩

variable (t : Fin cfg0.N)

theorem stream_at (r : Fin 768) (y : Fin 1024) : (iblk m c 0 t : Vec Ideal S1x768x1024 .f32) (ix3 0 r y) = streamOf m c (ix3 (batch t) (rowAt t r) y) := by
  refine Eq.trans ?_ (congrFun (V_main_arg0 m c) _)
  blk_simp [iblk]
  refine congrArg (V m c main_arg0) ?_
  blk_ext [index_0 t, batch, rowAt]

theorem first_at (r : Fin 768) (y : Fin 512) : (iblk m c 1 t : Vec Ideal S1x768x512 .bf16) (ix3 0 r y) = firstOf m c (ix3 (batch t) (rowAt t r) y) := by
  refine Eq.trans ?_ (congrFun (V_main_arg1 m c) _)
  blk_simp [iblk]
  refine congrArg (V m c main_arg1) ?_
  blk_ext [index_1 t, batch, rowAt]

theorem second_at (r : Fin 768) (y : Fin 512) : (iblk m c 2 t : Vec Ideal S1x768x512 .f32) (ix3 0 r y) = secondOf m c (ix3 (batch t) (rowAt t r) y) := by
  refine Eq.trans ?_ (congrFun (V_main_arg2 m c) _)
  blk_simp [iblk]
  refine congrArg (V m c main_arg2) ?_
  blk_ext [index_2 t, batch, rowAt]

theorem gate_at (j : Fin 512) (y : Fin 512) : (iblk m c 3 t : Vec Ideal S512x512 .bf16) (ix2 j y) = gateOf m c (ix2 j y) := by
  refine Eq.trans (b := (V m c main_v4 : (⟨S512x512, .bf16⟩ : BufTy).Contents (Elt Ideal)) (ix2 j y)) ?_ ?_
  · blk_simp [iblk]
    refine congrArg (V m c main_v4) ?_
    blk_ext [index_3 t]
  · entry_read
    pointwise

theorem bias_at (y : Fin 512) : (iblk m c 4 t : Vec Ideal S1x512 .f32) (ix2 0 y) = biasOf m c (ix1 y) := by
  refine Eq.trans (b := (V m c main_v5 : (⟨S1x512, .f32⟩ : BufTy).Contents (Elt Ideal)) (ix2 0 y)) ?_ ?_
  · blk_simp [iblk]
    refine congrArg (V m c main_v5) ?_
    blk_ext [index_4 t]
  · entry_read
    pointwise

theorem out_at (j : Fin 1024) (y : Fin 1024) : (iblk m c 5 t : Vec Ideal S1024x1024 .bf16) (ix2 j y) = outOf m c (ix2 j y) := by
  refine Eq.trans (b := (V m c main_v0 : (⟨S1024x1024, .bf16⟩ : BufTy).Contents (Elt Ideal)) (ix2 j y)) ?_ ?_
  · blk_simp [iblk]
    refine congrArg (V m c main_v0) ?_
    blk_ext [index_5 t]
  · entry_read
    pointwise

theorem gain_at (y : Fin 1024) : (iblk m c 6 t : Vec Ideal S1x1024 .f32) (ix2 0 y) = gainOf m c (ix1 y) := by
  refine Eq.trans (b := (V m c main_v1 : (⟨S1x1024, .f32⟩ : BufTy).Contents (Elt Ideal)) (ix2 0 y)) ?_ ?_
  · blk_simp [iblk]
    refine congrArg (V m c main_v1) ?_
    blk_ext [index_6 t]
  · entry_read
    pointwise

theorem up_at (j : Fin 1024) (y : Fin 5632) : (iblk m c 7 t : Vec Ideal S1024x5632 .bf16) (ix2 j y) = upOf m c (ix2 j y) := by
  refine Eq.trans (b := (V m c main_v2 : (⟨S1024x5632, .bf16⟩ : BufTy).Contents (Elt Ideal)) (ix2 j y)) ?_ ?_
  · blk_simp [iblk]
    refine congrArg (V m c main_v2) ?_
    blk_ext [index_7 t]
  · entry_read
    pointwise

theorem down_at (j : Fin 2816) (y : Fin 1024) : (iblk m c 8 t : Vec Ideal S2816x1024 .bf16) (ix2 j y) = downOf m c (ix2 j y) := by
  refine Eq.trans (b := (V m c main_v3 : (⟨S2816x1024, .bf16⟩ : BufTy).Contents (Elt Ideal)) (ix2 j y)) ?_ ?_
  · blk_simp [iblk]
    refine congrArg (V m c main_v3) ?_
    blk_ext [index_8 t]
  · entry_read
    pointwise

theorem lastGain_at (y : Fin 1024) : (iblk m c 9 t : Vec Ideal S1x1024 .f32) (ix2 0 y) = lastOf m c (ix1 y) := by
  refine Eq.trans (b := (V m c main_v6 : (⟨S1x1024, .f32⟩ : BufTy).Contents (Elt Ideal)) (ix2 0 y)) ?_ ?_
  · blk_simp [iblk]
    refine congrArg (V m c main_v6) ?_
    blk_ext [index_9 t]
  · entry_read
    pointwise

/-! ## The whole result -/

def resultAt (b : Fin 4) (l : Fin 8448) (y : Fin 1024) : EReal :=
  normed (layer l.val (fun k => streamOf m c (ix3 b l k)) (fun k => firstOf m c (ix3 b l k))
    (gated (fun k => secondOf m c (ix3 b l k)) (fun j k => gateOf m c (ix2 j k)) (fun k => biasOf m c (ix1 k)))
    (fun j k => outOf m c (ix2 j k)) (fun k => gainOf m c (ix1 k)) (fun j k => upOf m c (ix2 j k)) (fun j k => downOf m c (ix2 j k)))
    (fun k => lastOf m c (ix1 k)) y

def resultArr : (⟨S4x8448x1024, .f32⟩ : BufTy).Contents (Elt Ideal) := fun i => resultAt m c (i 0) (i 1) (i 2)

theorem outs_at (r : Fin 768) (y : Fin 1024) : outsAt0 m c t (ix3 0 r y) = resultAt m c (batch t) (rowAt t r) y := by
  rw [outs_eq, block_at, part_eq]
  simp only [stream_at, first_at, second_at, gate_at, bias_at, lastGain_at, out_at, gain_at, up_at, down_at]
  rfl

theorem result_eq : (dats (F := Ideal) m 0 c).arrAt 10 cfg0.N = resultArr m c := by
  refine (dats m 0 c).arrAt_eq_of_covers 10 _ (by decide +kernel) fun t _ y => ?_
  blk_simp
  rw [after0_10]
  obtain ⟨r, z, rfl⟩ : ∃ (r : Fin 768) (z : Fin 1024), y = ix3 0 r z :=
    ⟨y 1, y 2, by ext a; match a with | ⟨0, _⟩ => exact Nat.lt_one_iff.1 (y 0).isLt | ⟨1, _⟩ => rfl | ⟨2, _⟩ => rfl⟩
  have he : (win0_10.blk t).view.emb (ix3 0 r z) = ix3 (batch t) (rowAt t r) z := by
    blk_ext [index_10 t, batch, rowAt]
  refine (outs_at m c t r z).trans ?_
  exact congrArg (resultArr m c) he.symm

end Cert.Kernel2Ideal.Odd

end
-- ==== Proof.Odd.Ref.lean ====
/- The odd layers' reference, read at an index: the even layers' on the gated recurrence, under the last norm. -/
module

public import proofs.«01_k».proof.Proof.Gen.Reference2Ideal.Read
public import proofs.«01_k».proof.Proof.Even.Ref

@[expose] public section

set_option maxRecDepth 16384

noncomputable section

namespace Cert.Reference2Ideal.Odd

open Cert.Reference2Ideal Cert.Reference2Ideal.Gen Cert.Reference2Ideal.Read Cert.Post
open Idealize.ShloMosaic Idealize.ShloMosaic.TcCoe

variable (x0 : (⟨S4x8448x1024, .f32⟩ : BufTy).Contents (Elt Ideal)) (x1 : (⟨S4x8448x512, .bf16⟩ : BufTy).Contents (Elt Ideal))
  (x2 : (⟨S4x8448x512, .f32⟩ : BufTy).Contents (Elt Ideal)) (x3 : (⟨S1024x1024, .f32⟩ : BufTy).Contents (Elt Ideal))
  (x4 : (⟨S512x512, .f32⟩ : BufTy).Contents (Elt Ideal)) (x5 : (⟨S512, .f32⟩ : BufTy).Contents (Elt Ideal))
  (x6 : (⟨S1024, .f32⟩ : BufTy).Contents (Elt Ideal)) (x7 : (⟨S1024x5632, .f32⟩ : BufTy).Contents (Elt Ideal))
  (x8 : (⟨S2816x1024, .f32⟩ : BufTy).Contents (Elt Ideal)) (x9 : (⟨S1024, .f32⟩ : BufTy).Contents (Elt Ideal))
  (b : Fin 4) (l : Fin 8448)

theorem gated_at (y : Fin 512) : val_main_v10 (F := Ideal) x2 x4 x5 (ix3 b l y)
    = gated (fun k => x2 (ix3 b l k)) (fun j k => x4 (ix2 j k)) (fun k => x5 (ix1 k)) y := by
  rw [val_main_v10_apply, val_main_v9_apply, val_main_v8_apply, val_main_cst_0_apply, val_main_v7_apply, val_main_v6_apply, val_main_cst_apply,
    val_main_v5_apply, val_main_v4_apply, val_main_v3_apply, val_main_v2_apply, val_main_v1_apply, val_main_v0_apply]
  have e1 : ∀ j : Fin 512, lidx_main_v0 (ix3 b l y) j = ix3 b l j := fun j => funext fun a => match a with | ⟨0, _⟩ => rfl | ⟨1, _⟩ => rfl | ⟨2, _⟩ => rfl
  have e2 : ∀ j : Fin 512, ridx_main_v0 (ix3 b l y) j = ix2 j y := fun j => funext fun a => match a with | ⟨0, _⟩ => rfl | ⟨1, _⟩ => rfl
  have g : x5 (idx_main_v1 (idx_main_v2 (ix3 b l y))) = x5 (ix1 y) := congrArg x5 (funext fun a => match a with | ⟨0, _⟩ => rfl)
  have o : FloatOps.ofBits (F := Ideal) .f32 0x3F800000#32 = (1 : EReal) := Ideal.ofBits_one_f32
  simp only [e1, e2, g, o]
  rfl

/-- Up to the last norm the program is the even layers', on the gated recurrence. -/
theorem before_last : val_main_v46 (F := Ideal) x0 x1 x2 x3 x4 x5 x6 x7 x8
    = Cert.Reference3Ideal.Read.val_main_v36 (F := Ideal) x0 x1 (val_main_v10 (F := Ideal) x2 x4 x5) x3 x6 x7 x8 := rfl

/-- The row before the last norm. -/
abbrev rowOf : Fin 1024 → EReal :=
  layer l.val (fun k => x0 (ix3 b l k)) (fun k => x1 (ix3 b l k)) (gated (fun k => x2 (ix3 b l k)) (fun j k => x4 (ix2 j k)) (fun k => x5 (ix1 k)))
    (fun j k => x3 (ix2 j k)) (fun k => x6 (ix1 k)) (fun j k => x7 (ix2 j k)) (fun j k => x8 (ix2 j k))

theorem layer_at (y : Fin 1024) : val_main_v46 (F := Ideal) x0 x1 x2 x3 x4 x5 x6 x7 x8 (ix3 b l y) = rowOf x0 x1 x2 x3 x4 x5 x6 x7 x8 b l y := by
  rw [before_last]
  refine (Cert.Reference3Ideal.Even.result_at _ _ _ _ _ _ _ b l y).trans ?_
  rw [show (fun k => val_main_v10 (F := Ideal) x2 x4 x5 (ix3 b l k)) = _ from funext (gated_at x2 x4 x5 b l)]

theorem result_at (y : Fin 1024) : val_main_v59 (F := Ideal) x0 x1 x2 x3 x4 x5 x6 x7 x8 x9 (ix3 b l y)
    = normed (rowOf x0 x1 x2 x3 x4 x5 x6 x7 x8 b l) (fun k => x9 (ix1 k)) y := by
  rw [val_main_v59_apply, val_main_v56_apply, layer_at, val_main_v55_apply, val_main_v54_apply, val_main_v53_apply, val_main_v51_apply,
    val_main_v49_apply, val_main_v48_apply, val_main_v50_apply, val_main_cst_7_apply, val_main_v52_apply, val_main_cst_8_apply, val_main_v58_apply, val_main_v57_apply]
  have e : ∀ k : Fin 1024, val_main_v47 (F := Ideal) x0 x1 x2 x3 x4 x5 x6 x7 x8 (idx_main_v48 (idx_main_v49 (idx_main_v55 (ix3 b l y))) k)
      = rowOf x0 x1 x2 x3 x4 x5 x6 x7 x8 b l k * rowOf x0 x1 x2 x3 x4 x5 x6 x7 x8 b l k := fun k => by
    rw [show idx_main_v48 (idx_main_v49 (idx_main_v55 (ix3 b l y))) k = ix3 b l k from funext fun a => match a with | ⟨0, _⟩ => rfl | ⟨1, _⟩ => rfl | ⟨2, _⟩ => rfl,
      val_main_v47_apply, layer_at]
    rfl
  have z : val_main_cst_6 (F := Ideal) (Shape.Idx.first h_S_) = (0 : EReal) := by
    rw [val_main_cst_6_apply]; exact Ideal.ofBits_zero_f32
  have g : x9 (idx_main_v57 (idx_main_v58 (ix3 b l y))) = x9 (ix1 y) := congrArg x9 (funext fun a => match a with | ⟨0, _⟩ => rfl)
  simp only [e, z, zero_add, g]
  rfl

theorem result_eq (i : S4x8448x1024.Idx) : val_main_v59 (F := Ideal) x0 x1 x2 x3 x4 x5 x6 x7 x8 x9 i
    = normed (rowOf x0 x1 x2 x3 x4 x5 x6 x7 x8 (i 0) (i 1)) (fun k => x9 (ix1 k)) (i 2) := by
  rw [show i = ix3 (i 0) (i 1) (i 2) from funext fun a => match a with | ⟨0, _⟩ => rfl | ⟨1, _⟩ => rfl | ⟨2, _⟩ => rfl]
  exact result_at x0 x1 x2 x3 x4 x5 x6 x7 x8 x9 (i 0) (i 1)  (i 2)

end Cert.Reference2Ideal.Odd

end
-- ==== Proof.Odd.Agree.lean ====
/- The odd layers' two programs put side by side. -/
module

public import proofs.«01_k».proof.Defs
public import proofs.«01_k».proof.Proof.Odd.Value
public import proofs.«01_k».proof.Proof.Odd.Ref
public import proofs.«01_k».proof.Proof.Gen.Reference2Ideal.Run
public import Idealize.ShloMosaic.Lib.Claim

@[expose] public section

set_option maxRecDepth 16384

noncomputable section

namespace Cert.Proof.Odd

open Idealize.ShloMosaic Idealize.ShloMosaic.TcCoe Idealize.SL.Sem
open Cert.Kernel2Ideal.Odd (resultArr)

/-- The reference ends, with its arguments as they were and every counter at zero. -/
theorem frame_reference : Cert.quiescent_Reference2Ideal := fun m g _ =>
  (θ_run _ _ _).mono (fun r h => ⟨fun c => (h c).2, sem_eq_zero_of_no_sems (by decide) r.2⟩)
    (Cert.Reference2Ideal.Value.run (F := Ideal) m g)

/-- Both programs' arrays are the layer's values. -/
theorem algebraic : Cert.algebraic_Kernel2Ideal_Reference2Ideal := by
  intro m g m' g' _ hagree
  refine ⟨fun c => resultArr m c, ?_, ?_⟩
  · exact (θ_run _ _ _).mono (fun r h c => ⟨(h c).1.trans (Cert.Kernel2Ideal.Odd.result_eq m c), (h c).2⟩)
      (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    rw [Cert.Reference2Ideal.Read.val_main_v59_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    funext i
    exact Cert.Reference2Ideal.Odd.result_eq _ _ _ _ _ _ _ _ _ _ i

end Cert.Proof.Odd

end
-- ==== Proof.Proj.Row.lean ====
/- One row of an even layer's projection, as a function of the row, the gain and the weights. -/
module

public import proofs.«01_k».proof.Proof.Post
public import proofs.«01_k».proof.Proof.Spec

@[expose] public section

noncomputable section

namespace Cert.Proj

open Idealize.ShloMosaic Cert.Post

/-- The weights' column behind a column of the keys. -/
def keyCol (y : Fin 1024) : Fin 3072 := if y.val < 512 then ⟨512 + y.val, by omega⟩ else ⟨1536 + y.val, by omega⟩

/-- The weights' column behind a row of the queries and the values. -/
def restCol (y : Fin 2048) : Fin 3072 :=
  if y.val < 512 then ⟨y.val, by omega⟩ else if y.val < 1536 then ⟨512 + y.val, by omega⟩ else ⟨1024 + y.val, by omega⟩

/-- The normed row under one column of the weights. -/
def product (x g : Fin 1024 → EReal) (w : Fin 1024 → EReal) : EReal := ∑ j, normed x g j * w j

/-- A key. -/
def key (x g : Fin 1024 → EReal) (w : Fin 1024 → Fin 3072 → EReal) (y : Fin 1024) : EReal := product x g fun j => w j (keyCol y)

/-- A query, over the root of a head's size, or a value. -/
def rest (x g : Fin 1024 → EReal) (w : Fin 1024 → Fin 3072 → EReal) (y : Fin 2048) : EReal :=
  if y.val < 512 ∨ (1024 ≤ y.val ∧ y.val < 1536) then (product x g fun j => w j (restCol y)) * Ideal.ofBits .f32 0x3E000000#32 else product x g fun j => w j (restCol y)

theorem scale_nonneg : 0 ≤ Ideal.ofBits .f32 0x3E000000#32 := by
  rw [Cert.KernelIdeal.Attn.scale_eq]
  refine EReal.coe_nonneg.2 ?_
  unfold Cert.KernelIdeal.Attn.scale
  refine EReal.toReal_nonneg ?_
  simp [Ideal.ofBits, Ideal.ieee]
  positivity

/-- The factor on every weight of a column is the factor on the product. -/
theorem sum_scaled (x w : Fin 1024 → EReal) : ∑ j, w j * Ideal.ofBits .f32 0x3E000000#32 * x j
    = (∑ j, x j * w j) * Ideal.ofBits .f32 0x3E000000#32 := by
  have h0 := scale_nonneg
  have ht : Ideal.ofBits .f32 0x3E000000#32 ≠ ⊤ := by rw [Cert.KernelIdeal.Attn.scale_eq]; exact EReal.coe_ne_top _
  generalize Ideal.ofBits .f32 0x3E000000#32 = s at h0 ht
  have part : ∀ S : Finset (Fin 1024), ∑ j ∈ S, w j * s * x j = (∑ j ∈ S, x j * w j) * s := fun S => by
    induction S using Finset.cons_induction with
    | empty => simp
    | cons a S ha ih =>
      rw [Finset.sum_cons, Finset.sum_cons, ih, EReal.right_distrib_of_nonneg_of_ne_top h0 ht, mul_right_comm, mul_comm (w a) (x a)]
  exact part _

end Cert.Proj

end
-- ==== Proof.Proj.Block.lean ====
/- The two blocks the even layers' projection kernel writes, read at a row and a column. -/
module

public import proofs.«01_k».proof.Proof.Gen.Kernel4Ideal.Value
public import proofs.«01_k».proof.Proof.Proj.Row
public import Idealize.ShloMosaic.Lib.Pointwise
public import Idealize.ShloMosaic.Lib.Pipeline.ValueKit
public import Idealize.ShloMosaic.Lib.Pipeline.CanonAppend

@[expose] public section

set_option maxRecDepth 16384

noncomputable section

namespace Cert.Kernel4Ideal.Proj

open Cert.Kernel4Ideal Cert.Kernel4Ideal.Gen Cert.Post Cert.Proj
open Idealize.ShloMosaic Idealize.ShloMosaic.TcCoe Idealize.ShloMosaic.Tactic

/-! ## The normed rows -/

theorem load_rows (x : Vec Ideal S512x1024 .f32) (r : Fin 512) (y : Fin 1024) : View.ld x r0_0 (ix2 r y) = x (ix2 r y) :=
  congrArg x (funext fun a => Fin.ext ((Rect.idx_unit_val _ _ _ _ a).trans (match a with | ⟨0, _⟩ => Nat.zero_add _ | ⟨1, _⟩ => Nat.zero_add _)))

theorem load_gain (x : Vec Ideal S1x1024 .f32) (y : Fin 1024) : View.ld x r0_1 (ix2 0 y) = x (ix2 0 y) :=
  congrArg x (funext fun a => Fin.ext ((Rect.idx_unit_val _ _ _ _ a).trans (match a with | ⟨0, _⟩ => Nat.zero_add _ | ⟨1, _⟩ => Nat.zero_add _)))

/-- The rows under the norm. -/
def rowsOf (x : Vec Ideal S512x1024 .f32) (g : Vec Ideal S1x1024 .f32) : FVec Ideal S512x1024 .bf16 := k0_pay4 (View.ld x r0_0) (View.ld g r0_1)

theorem rowsOf_at (x : Vec Ideal S512x1024 .f32) (g : Vec Ideal S1x1024 .f32) (r : Fin 512) (y : Fin 1024) :
    rowsOf x g (ix2 r y) = normed (fun k => x (ix2 r k)) (fun k => g (ix2 0 k)) y := by
  unfold rowsOf normed
  pointwise [k0_pay4]

/-! ## The keys: four stores of 256 columns -/

/-- The rows against all the weights of the keys. -/
def keysOf (a : FVec Ideal S512x1024 .bf16) (w : Vec Ideal S1024x1024 .bf16) : Vec Ideal S512x1024 .bf16 :=
  fun i => ∑ j : Fin 1024, a (ix2 (i 0) j) * w (ix2 j (i 1))

theorem keysOf_at (a : FVec Ideal S512x1024 .bf16) (w : Vec Ideal S1024x1024 .bf16) (r : Fin 512) (y : Fin 1024) :
    keysOf a w (ix2 r y) = (∑ j : Fin 1024, a (ix2 r j) * w (ix2 j y) : EReal) := rfl

theorem keys_part (o : ℕ) (h) (h') (a : FVec Ideal S512x1024 .bf16) (w : Vec Ideal S1024x1024 .bf16) (x : S512x256.Idx) :
    k0_pay8 a (View.ld w (Rect.unit (s := S1024x1024) ![0, o] S1024x256.size h)) x
      = keysOf a w ((Rect.unit (s := S512x1024) ![0, o] S512x256.size h').emb x) := by
  obtain ⟨r, y, rfl⟩ : ∃ (r : Fin 512) (y : Fin 256), x = ix2 r y := ⟨x 0, x 1, by ext a; match a with | ⟨0, _⟩ => rfl | ⟨1, _⟩ => rfl⟩
  have ho : o + 256 ≤ 1024 := h 1
  have e : (Rect.unit (s := S512x1024) ![0, o] S512x256.size h').emb (ix2 r y) = ix2 r ⟨o + y.val, by omega⟩ :=
    funext fun a => Fin.ext ((Rect.idx_unit_val _ _ _ _ a).trans (match a with | ⟨0, _⟩ => Nat.zero_add _ | ⟨1, _⟩ => rfl))
  have l : ∀ j : Fin 1024, View.ld w (Rect.unit (s := S1024x1024) ![0, o] S1024x256.size h) (ix2 j y) = w (ix2 j ⟨o + y.val, by omega⟩) := fun j =>
    congrArg w (funext fun a => Fin.ext ((Rect.idx_unit_val _ _ _ _ a).trans (match a with | ⟨0, _⟩ => Nat.zero_add _ | ⟨1, _⟩ => rfl)))
  rw [e]
  generalize View.ld w (Rect.unit (s := S1024x1024) ![0, o] S1024x256.size h) = v at l
  pointwise [k0_pay8]
  exact Finset.sum_congr rfl fun j _ => by rw [l]; rfl

theorem keys_eq (x0 : Vec Ideal S512x1024 .f32) (x1 : Vec Ideal S1x1024 .f32) (x2 : Vec Ideal S1024x1024 .bf16) (x3 : Vec Ideal S2048x1024 .bf16) :
    out0_4 x0 x1 x2 x3 = keysOf (rowsOf x0 x1) x2 := by
  funext y
  unfold out0_4
  rw [← List.append_nil [_, _, _, _]]
  refine View.canon_append_of_pieces (Val := Elt Ideal) (keysOf (rowsOf x0 x1) x2) [] _ (fun p hp x => ?_) y (cover0_4 _ _ _ _ y)
  simp only [List.mem_cons, List.not_mem_nil, or_false] at hp
  rcases hp with rfl | rfl | rfl | rfl
  · exact keys_part 768 inb_S1024x1024_S1024x256_0_768 inb_S512x1024_S512x256_0_768 (rowsOf x0 x1) x2 x
  · exact keys_part 512 inb_S1024x1024_S1024x256_0_512 inb_S512x1024_S512x256_0_512 (rowsOf x0 x1) x2 x
  · exact keys_part 256 inb_S1024x1024_S1024x256_0_256 inb_S512x1024_S512x256_0_256 (rowsOf x0 x1) x2 x
  · exact keys_part 0 inb_S1024x1024_S1024x256_0_0 inb_S512x1024_S512x256_0_0 (rowsOf x0 x1) x2 x

/-! ## The queries and the values, turned: eight stores of 256 rows -/

/-- All the weights of the queries and the values against the rows. -/
def restOf (a : FVec Ideal S512x1024 .bf16) (w : Vec Ideal S2048x1024 .bf16) : Vec Ideal S2048x512 .bf16 :=
  fun i => ∑ j : Fin 1024, w (ix2 (i 0) j) * a (ix2 (i 1) j)

theorem restOf_at (a : FVec Ideal S512x1024 .bf16) (w : Vec Ideal S2048x1024 .bf16) (y : Fin 2048) (r : Fin 512) :
    restOf a w (ix2 y r) = (∑ j : Fin 1024, w (ix2 y j) * a (ix2 r j) : EReal) := rfl

theorem rest_part (o : ℕ) (h) (h') (a : FVec Ideal S512x1024 .bf16) (w : Vec Ideal S2048x1024 .bf16) (x : S256x512.Idx) :
    k0_pay3 a (View.ld w (Rect.unit (s := S2048x1024) ![o, 0] S256x1024.size h)) x
      = restOf a w ((Rect.unit (s := S2048x512) ![o, 0] S256x512.size h').emb x) := by
  obtain ⟨y, r, rfl⟩ : ∃ (y : Fin 256) (r : Fin 512), x = ix2 y r := ⟨x 0, x 1, by ext a; match a with | ⟨0, _⟩ => rfl | ⟨1, _⟩ => rfl⟩
  have ho : o + 256 ≤ 2048 := h 0
  have e : (Rect.unit (s := S2048x512) ![o, 0] S256x512.size h').emb (ix2 y r) = ix2 ⟨o + y.val, by omega⟩ r :=
    funext fun a => Fin.ext ((Rect.idx_unit_val _ _ _ _ a).trans (match a with | ⟨0, _⟩ => rfl | ⟨1, _⟩ => Nat.zero_add _))
  have l : ∀ j : Fin 1024, View.ld w (Rect.unit (s := S2048x1024) ![o, 0] S256x1024.size h) (ix2 y j) = w (ix2 ⟨o + y.val, by omega⟩ j) := fun j =>
    congrArg w (funext fun a => Fin.ext ((Rect.idx_unit_val _ _ _ _ a).trans (match a with | ⟨0, _⟩ => rfl | ⟨1, _⟩ => Nat.zero_add _)))
  rw [e]
  generalize View.ld w (Rect.unit (s := S2048x1024) ![o, 0] S256x1024.size h) = v at l
  pointwise [k0_pay3]
  exact Finset.sum_congr rfl fun j _ => by rw [l]; rfl

theorem rest_eq (x0 : Vec Ideal S512x1024 .f32) (x1 : Vec Ideal S1x1024 .f32) (x2 : Vec Ideal S1024x1024 .bf16) (x3 : Vec Ideal S2048x1024 .bf16) :
    out0_5 x0 x1 x2 x3 = restOf (rowsOf x0 x1) x3 := by
  funext y
  unfold out0_5
  rw [← List.append_nil [_, _, _, _, _, _, _, _]]
  refine View.canon_append_of_pieces (Val := Elt Ideal) (restOf (rowsOf x0 x1) x3) [] _ (fun p hp x => ?_) y (cover0_5 _ _ _ _ _ _ _ _ y)
  simp only [List.mem_cons, List.not_mem_nil, or_false] at hp
  rcases hp with rfl | rfl | rfl | rfl | rfl | rfl | rfl | rfl
  · exact rest_part 1792 inb_S2048x1024_S256x1024_1792_0 inb_S2048x512_S256x512_1792_0 (rowsOf x0 x1) x3 x
  · exact rest_part 1536 inb_S2048x1024_S256x1024_1536_0 inb_S2048x512_S256x512_1536_0 (rowsOf x0 x1) x3 x
  · exact rest_part 1280 inb_S2048x1024_S256x1024_1280_0 inb_S2048x512_S256x512_1280_0 (rowsOf x0 x1) x3 x
  · exact rest_part 1024 inb_S2048x1024_S256x1024_1024_0 inb_S2048x512_S256x512_1024_0 (rowsOf x0 x1) x3 x
  · exact rest_part 768 inb_S2048x1024_S256x1024_768_0 inb_S2048x512_S256x512_768_0 (rowsOf x0 x1) x3 x
  · exact rest_part 512 inb_S2048x1024_S256x1024_512_0 inb_S2048x512_S256x512_512_0 (rowsOf x0 x1) x3 x
  · exact rest_part 256 inb_S2048x1024_S256x1024_256_0 inb_S2048x512_S256x512_256_0 (rowsOf x0 x1) x3 x
  · exact rest_part 0 inb_S2048x1024_S256x1024_0_0 inb_S2048x512_S256x512_0_0 (rowsOf x0 x1) x3 x

end Cert.Kernel4Ideal.Proj

end
-- ==== Proof.Proj.Value.lean ====
/- The even layers' projection kernel: every block it writes is the projection's values there. -/
module

public import proofs.«01_k».proof.Proof.Proj.Block
public import Idealize.ShloMosaic.Lib.Claim
public import Idealize.ShloMosaic.Lib.StableHlo.RunRead
public import Idealize.ShloMosaic.Lib.Pipeline.ValueKit.Point

@[expose] public section

set_option maxRecDepth 16384

noncomputable section

namespace Cert.Kernel4Ideal.Proj

open Cert.Kernel4Ideal Cert.Kernel4Ideal.Gen Cert.Post Cert.Proj
open Idealize.ShloMosaic Idealize.ShloMosaic.TcCoe Idealize.ShloMosaic.Tactic

variable (m : (ℓ : Loc nD τ sig) → Buf (Elt Ideal) ℓ) (c : Dev nD)

abbrev streamOf : (⟨S4x8448x1024, .f32⟩ : BufTy).Contents (Elt Ideal) := m ((c.tc : Thread nD τ).loc main_arg0)
abbrev gainOf : (⟨S1024, .f32⟩ : BufTy).Contents (Elt Ideal) := m ((c.tc : Thread nD τ).loc main_arg1)
abbrev weightsOf : (⟨S1024x3072, .f32⟩ : BufTy).Contents (Elt Ideal) := m ((c.tc : Thread nD τ).loc main_arg2)

/-! ## The weights' columns, gathered and turned -/

/-- A group of 512 columns of the weights. -/
def group (W : (⟨S1024x3072, .f32⟩ : BufTy).Contents (Elt Ideal)) (o : Fin 2 → ℕ) (h : S1024x3072.Slices o S1024x512) : FVec Ideal S1024x512 .f32 :=
  extractStridedSlice S1024x512 o W h

/-- The group over the root of a head's size. -/
def shrunk (x : FVec Ideal S1024x512 .f32) : FVec Ideal S1024x512 .f32 :=
  mulf x (broadcastInDim S1024x512 ![] bcast_S_S1024x512 (constant S_ .f32 0x3E000000#32))

def sideBySide (a d : FVec Ideal S1024x512 .f32) : FVec Ideal S1024x1024 .bf16 :=
  truncf .bf16 (concatenate S1024x1024 1 [⟨S1024x512, a⟩, ⟨S1024x512, d⟩] concatenates_S1024x512_S1024x512_S1024x1024_d1) bitsLt_bf16_f32

def stacked (a d e f : FVec Ideal S1024x512 .f32) : FVec Ideal S2048x1024 .bf16 :=
  truncf .bf16 (transpose S2048x1024 [1, 0] (concatenate S1024x2048 1 [⟨S1024x512, a⟩, ⟨S1024x512, d⟩, ⟨S1024x512, e⟩, ⟨S1024x512, f⟩]
    concatenates_S1024x512_S1024x512_S1024x512_S1024x512_S1024x2048_d1) transposes_S1024x2048_S2048x1024_1_0) bitsLt_bf16_f32

theorem sideBySide_at (a d : FVec Ideal S1024x512 .f32) (j y : Fin 1024) :
    sideBySide a d (ix2 j y) = if h : y.val < 512 then a (ix2 j ⟨y.val, h⟩) else d (ix2 j ⟨y.val - 512, by omega⟩) := by
  pointwise [sideBySide]

theorem stacked_at (a d e f : FVec Ideal S1024x512 .f32) (y : Fin 2048) (j : Fin 1024) :
    stacked a d e f (ix2 y j) = if h : y.val < 512 then a (ix2 j ⟨y.val, h⟩) else if h : y.val < 1024 then d (ix2 j ⟨y.val - 512, by omega⟩)
      else if h : y.val < 1536 then e (ix2 j ⟨y.val - 1024, by omega⟩) else f (ix2 j ⟨y.val - 1536, by omega⟩) := by
  have hy := y.isLt
  pointwise [stacked]
  by_cases h1 : y.val < 512
  · rw [dif_pos h1, dif_pos h1]
  by_cases h2 : y.val < 1024
  · rw [dif_neg h1, dif_neg h1, dif_pos (by omega), dif_pos h2]
  by_cases h3 : y.val < 1536
  · rw [dif_neg h1, dif_neg h1, dif_neg (by omega), dif_neg h2, dif_pos (by omega), dif_pos h3]
    exact congrArg (fun k => e (ix2 j k)) (Fin.ext (by show y.val - 512 - 512 = y.val - 1024; omega))
  · rw [dif_neg h1, dif_neg h1, dif_neg (by omega), dif_neg h2, dif_neg (by omega), dif_neg h3]
    exact congrArg (fun k => f (ix2 j k)) (Fin.ext (by show y.val - 512 - 512 - 512 = y.val - 1536; omega))

theorem group_at (W : (⟨S1024x3072, .f32⟩ : BufTy).Contents (Elt Ideal)) (o : ℕ) (h : S1024x3072.Slices ![0, o] S1024x512) (ho : o + 512 ≤ 3072)
    (j : Fin 1024) (y : Fin 512) : group W ![0, o] h (ix2 j y) = W (ix2 j ⟨o + y.val, by omega⟩) := by
  unfold group
  exact extractStridedSlice_apply ![0, o] W h (ix2 j y) _ fun a => match a with
    | ⟨0, _⟩ => by show j.val = 0 + j.val; omega
    | ⟨1, _⟩ => rfl

theorem shrunk_at (x : FVec Ideal S1024x512 .f32) (j : Fin 1024) (y : Fin 512) : shrunk x (ix2 j y) = x (ix2 j y) * Ideal.ofBits .f32 0x3E000000#32 := by
  pointwise [shrunk]

theorem keys_entry : (V m c main_v3 : (⟨S1024x1024, .bf16⟩ : BufTy).Contents (Elt Ideal))
    = sideBySide (group (weightsOf m c) ![0, 512] slices_S1024x3072_S1024x512_0_512) (group (weightsOf m c) ![0, 2048] slices_S1024x3072_S1024x512_0_2048) := by
  unfold V
  after_reads_simp
  rfl

theorem rest_entry : (V m c main_v14 : (⟨S2048x1024, .bf16⟩ : BufTy).Contents (Elt Ideal))
    = stacked (shrunk (group (weightsOf m c) ![0, 0] slices_S1024x3072_S1024x512_0_0)) (group (weightsOf m c) ![0, 1024] slices_S1024x3072_S1024x512_0_1024)
      (shrunk (group (weightsOf m c) ![0, 1536] slices_S1024x3072_S1024x512_0_1536)) (group (weightsOf m c) ![0, 2560] slices_S1024x3072_S1024x512_0_2560) := by
  unfold V
  after_reads_simp
  rfl

/-! ## The blocks the body is handed -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, t.val] := (by decide +kernel : ∀ t : Fin grid0.N, _)

/-- The row of the stream a grid point's row is. -/
def rowAt (t : Fin cfg0.N) (r : Fin 512) : Fin 33792 := ⟨512 * t.val + r.val, by have h : t.val < 66 := t.isLt; omega⟩

/-- A row of the stream, in its batch. -/
def streamRow (i : Fin 33792) (k : Fin 1024) : EReal := streamOf m c (ix3 ⟨i.val / 8448, by omega⟩ ⟨i.val % 8448, by omega⟩ k)

variable (t : Fin cfg0.N)

theorem stream_at (r : Fin 512) (y : Fin 1024) : (iblk m c 0 t : Vec Ideal S512x1024 .f32) (ix2 r y) = streamRow m c (rowAt t r) y := by
  refine Eq.trans (b := (V m c main_v15 : (⟨S33792x1024, .f32⟩ : BufTy).Contents (Elt Ideal)) (ix2 (rowAt t r) y)) ?_ ?_
  · blk_simp [iblk]
    refine congrArg (V m c main_v15) ?_
    blk_ext [index_0 t, rowAt]
  · unfold streamRow
    generalize rowAt t r = i
    entry_read
    pointwise

theorem gain_at (y : Fin 1024) : (iblk m c 1 t : Vec Ideal S1x1024 .f32) (ix2 0 y) = gainOf m c (ix1 y) := by
  refine Eq.trans (b := (V m c main_v16 : (⟨S1x1024, .f32⟩ : BufTy).Contents (Elt Ideal)) (ix2 0 y)) ?_ ?_
  · blk_simp [iblk]
    refine congrArg (V m c main_v16) ?_
    blk_ext [index_1 t]
  · entry_read
    pointwise

theorem keyWeights_at (j y : Fin 1024) : (iblk m c 2 t : Vec Ideal S1024x1024 .bf16) (ix2 j y) = weightsOf m c (ix2 j (keyCol y)) := by
  refine Eq.trans (b := (V m c main_v3 : (⟨S1024x1024, .bf16⟩ : BufTy).Contents (Elt Ideal)) (ix2 j y)) ?_ ?_
  · blk_simp [iblk]
    refine congrArg (V m c main_v3) ?_
    blk_ext [index_2 t]
  · rw [keys_entry, sideBySide_at]
    unfold keyCol
    split_ifs with h
    · exact group_at _ 512 _ (by decide) _ _
    · refine (group_at _ 2048 _ (by decide) _ _).trans (congrArg (fun k => weightsOf m c (ix2 j k)) (Fin.ext ?_))
      show 2048 + (y.val - 512) = 1536 + y.val
      omega

theorem restWeights_at (y : Fin 2048) (j : Fin 1024) : (iblk m c 3 t : Vec Ideal S2048x1024 .bf16) (ix2 y j)
    = if y.val < 512 ∨ (1024 ≤ y.val ∧ y.val < 1536) then weightsOf m c (ix2 j (restCol y)) * Ideal.ofBits .f32 0x3E000000#32
      else weightsOf m c (ix2 j (restCol y)) := by
  refine Eq.trans (b := (V m c main_v14 : (⟨S2048x1024, .bf16⟩ : BufTy).Contents (Elt Ideal)) (ix2 y j)) ?_ ?_
  · blk_simp [iblk]
    refine congrArg (V m c main_v14) ?_
    blk_ext [index_3 t]
  rw [rest_entry, stacked_at]
  have hy := y.isLt
  by_cases h1 : y.val < 512
  · rw [dif_pos h1, if_pos (Or.inl h1), show restCol y = ⟨y.val, by omega⟩ from if_pos h1, shrunk_at, group_at _ 0 _ (by decide)]
    exact congrArg (fun k => weightsOf m c (ix2 j k) * Ideal.ofBits .f32 0x3E000000#32) (Fin.ext (Nat.zero_add _))
  by_cases h2 : y.val < 1024
  · rw [dif_neg h1, dif_pos h2, if_neg (c := y.val < 512 ∨ (1024 ≤ y.val ∧ y.val < 1536)) (by omega),
      show restCol y = ⟨512 + y.val, by omega⟩ from (if_neg h1).trans (if_pos (by omega)), group_at _ 1024 _ (by decide)]
    exact congrArg (fun k => weightsOf m c (ix2 j k)) (Fin.ext (by show 1024 + (y.val - 512) = 512 + y.val; omega))
  by_cases h3 : y.val < 1536
  · rw [dif_neg h1, dif_neg h2, dif_pos h3, if_pos (c := y.val < 512 ∨ (1024 ≤ y.val ∧ y.val < 1536)) (by omega),
      show restCol y = ⟨512 + y.val, by omega⟩ from (if_neg h1).trans (if_pos h3), shrunk_at, group_at _ 1536 _ (by decide)]
    exact congrArg (fun k => weightsOf m c (ix2 j k) * Ideal.ofBits .f32 0x3E000000#32) (Fin.ext (by show 1536 + (y.val - 1024) = 512 + y.val; omega))
  · rw [dif_neg h1, dif_neg h2, dif_neg h3, if_neg (c := y.val < 512 ∨ (1024 ≤ y.val ∧ y.val < 1536)) (by omega),
      show restCol y = ⟨1024 + y.val, by omega⟩ from (if_neg h1).trans (if_neg h3), group_at _ 2560 _ (by decide)]
    exact congrArg (fun k => weightsOf m c (ix2 j k)) (Fin.ext (by show 2560 + (y.val - 1536) = 1024 + y.val; omega))

/-! ## The whole results -/

def keyAt (i : Fin 33792) (y : Fin 1024) : EReal := key (streamRow m c i) (fun k => gainOf m c (ix1 k)) (fun j k => weightsOf m c (ix2 j k)) y

def restAt (y : Fin 2048) (i : Fin 33792) : EReal := rest (streamRow m c i) (fun k => gainOf m c (ix1 k)) (fun j k => weightsOf m c (ix2 j k)) y

def keyArr : (⟨S33792x1024, .bf16⟩ : BufTy).Contents (Elt Ideal) := fun i => keyAt m c (i 0) (i 1)

def restArr : (⟨S2048x33792, .bf16⟩ : BufTy).Contents (Elt Ideal) := fun i => restAt m c (i 0) (i 1)

theorem normed_at (r : Fin 512) (j : Fin 1024) : rowsOf (iblk m c 0 t) (iblk m c 1 t) (ix2 r j)
    = normed (streamRow m c (rowAt t r)) (fun k => gainOf m c (ix1 k)) j := by
  rw [rowsOf_at]
  simp only [stream_at, gain_at]

theorem keys_at (r : Fin 512) (y : Fin 1024) : out0_4 (iblk m c 0 t) (iblk m c 1 t) (iblk m c 2 t) (iblk m c 3 t) (ix2 r y) = keyAt m c (rowAt t r) y := by
  rw [keys_eq, keysOf_at]
  unfold keyAt key product
  simp only [normed_at, keyWeights_at]

theorem rest_at (y : Fin 2048) (r : Fin 512) : out0_5 (iblk m c 0 t) (iblk m c 1 t) (iblk m c 2 t) (iblk m c 3 t) (ix2 y r) = restAt m c y (rowAt t r) := by
  rw [rest_eq, restOf_at]
  unfold restAt rest product
  simp only [normed_at, restWeights_at]
  split_ifs
  · exact sum_scaled _ _
  · exact Finset.sum_congr rfl fun j _ => mul_comm _ _

end Cert.Kernel4Ideal.Proj

end
-- ==== Proof.Proj.Arrays.lean ====
/- The even layers' projection kernel: its two arrays after the last grid point. -/
module

public import proofs.«01_k».proof.Proof.Proj.Value
public import Idealize.ShloMosaic.Lib.Claim
public import Idealize.ShloMosaic.Lib.StableHlo.RunRead
public import Idealize.ShloMosaic.Lib.Pipeline.ValueKit.Point

@[expose] public section

set_option maxRecDepth 16384

noncomputable section

namespace Cert.Kernel4Ideal.Proj

open Cert.Kernel4Ideal Cert.Kernel4Ideal.Gen Cert.Post Cert.Proj
open Idealize.ShloMosaic Idealize.ShloMosaic.TcCoe Idealize.ShloMosaic.Tactic

variable (m : (ℓ : Loc nD τ sig) → Buf (Elt Ideal) ℓ) (c : Dev nD)

theorem keyArr_at (i : Fin 33792) (y : Fin 1024) : keyArr m c (ix2 i y) = keyAt m c i y := rfl

theorem restArr_at (y : Fin 2048) (i : Fin 33792) : restArr m c (ix2 y i) = restAt m c y i := rfl

theorem keyArr_eq : (dats (F := Ideal) m 0 c).arrAt 4 cfg0.N = keyArr m c := by
  refine (dats m 0 c).arrAt_eq_of_covers 4 _ (by decide +kernel) fun t _ y => ?_
  blk_simp
  rw [after0_4]
  have hv := keys_at m c t
  generalize out0_4 (iblk m c 0 t) (iblk m c 1 t) (iblk m c 2 t) (iblk m c 3 t) = v at hv ⊢
  obtain ⟨r, z, rfl⟩ : ∃ (r : Fin 512) (z : Fin 1024), y = ix2 r z :=
    ⟨y 0, y 1, by ext a; match a with | ⟨0, _⟩ => rfl | ⟨1, _⟩ => rfl⟩
  have he : (win0_4.blk t).view.emb (ix2 r z) = ix2 (rowAt t r) z := by
    blk_ext [index_4 t, rowAt]
  refine (hv r z).trans ?_
  rw [he, keyArr_at]

theorem restArr_eq : (dats (F := Ideal) m 0 c).arrAt 5 cfg0.N = restArr m c := by
  refine (dats m 0 c).arrAt_eq_of_covers 5 _ (by decide +kernel) fun t _ y => ?_
  blk_simp
  rw [after0_5]
  have hv := rest_at m c t
  generalize out0_5 (iblk m c 0 t) (iblk m c 1 t) (iblk m c 2 t) (iblk m c 3 t) = v at hv ⊢
  obtain ⟨z, r, rfl⟩ : ∃ (z : Fin 2048) (r : Fin 512), y = ix2 z r :=
    ⟨y 0, y 1, by ext a; match a with | ⟨0, _⟩ => rfl | ⟨1, _⟩ => rfl⟩
  have he : (win0_5.blk t).view.emb (ix2 z r) = ix2 z (rowAt t r) := by
    blk_ext [index_5 t, rowAt]
  refine (hv z r).trans ?_
  rw [he, restArr_at]

end Cert.Kernel4Ideal.Proj

end
-- ==== Proof.Proj.Ref.lean ====
/- The even projection's reference, read at an index. -/
module

public import proofs.«01_k».proof.Proof.Gen.Reference4Ideal.Read
public import proofs.«01_k».proof.Proof.Proj.Row
public import Idealize.ShloMosaic.Lib.Pointwise

@[expose] public section

set_option maxRecDepth 16384

noncomputable section

namespace Cert.Reference4Ideal.Proj

open Cert.Reference4Ideal Cert.Reference4Ideal.Gen Cert.Reference4Ideal.Read Cert.Post Cert.Proj
open Idealize.ShloMosaic Idealize.ShloMosaic.TcCoe

variable (x0 : (⟨S4x8448x1024, .f32⟩ : BufTy).Contents (Elt Ideal)) (x1 : (⟨S1024, .f32⟩ : BufTy).Contents (Elt Ideal))
  (x2 : (⟨S1024x3072, .f32⟩ : BufTy).Contents (Elt Ideal)) (b : Fin 4) (l : Fin 8448)

theorem normed_at (y : Fin 1024) : val_main_v12 (F := Ideal) x0 x1 (ix3 b l y) = normed (fun k => x0 (ix3 b l k)) (fun k => x1 (ix1 k)) y := by
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply]
  have e : ∀ k : Fin 1024, val_main_v0 (F := Ideal) x0 (idx_main_v1 (idx_main_v2 (idx_main_v8 (ix3 b l y))) k) = x0 (ix3 b l k) * x0 (ix3 b l k) := fun k => by
    rw [show idx_main_v1 (idx_main_v2 (idx_main_v8 (ix3 b l y))) k = ix3 b l k from funext fun a => match a with | ⟨0, _⟩ => rfl | ⟨1, _⟩ => rfl | ⟨2, _⟩ => rfl,
      val_main_v0_apply]
    rfl
  have z : val_main_cst (F := Ideal) (Shape.Idx.first h_S_) = (0 : EReal) := by
    rw [val_main_cst_apply]; exact Ideal.ofBits_zero_f32
  have g : x1 (idx_main_v10 (idx_main_v11 (ix3 b l y))) = x1 (ix1 y) := congrArg x1 (funext fun a => match a with | ⟨0, _⟩ => rfl)
  simp only [e, z, zero_add, g]
  rfl

/-- The projection. -/
theorem product_at (y : Fin 3072) : val_main_v13 (F := Ideal) x0 x1 x2 (ix3 b l y)
    = product (fun k => x0 (ix3 b l k)) (fun k => x1 (ix1 k)) fun j => x2 (ix2 j y) := by
  rw [val_main_v13_apply]
  have e1 : ∀ j : Fin 1024, lidx_main_v13 (ix3 b l y) j = ix3 b l j := fun j => funext fun a => match a with | ⟨0, _⟩ => rfl | ⟨1, _⟩ => rfl | ⟨2, _⟩ => rfl
  have e2 : ∀ j : Fin 1024, ridx_main_v13 (ix3 b l y) j = ix2 j y := fun j => funext fun a => match a with | ⟨0, _⟩ => rfl | ⟨1, _⟩ => rfl
  simp only [e1, e2, normed_at]
  rfl

/-- Two arrays of 512 columns side by side. -/
theorem pair_at (a d : FVec Ideal S4x8448x512 .f32) (y : Fin 1024) :
    concatenate S4x8448x1024 2 [⟨S4x8448x512, a⟩, ⟨S4x8448x512, d⟩] concatenates_S4x8448x512_S4x8448x512_S4x8448x1024_d2 (ix3 b l y)
      = if h : y.val < 512 then a (ix3 b l ⟨y.val, h⟩) else d (ix3 b l ⟨y.val - 512, by omega⟩) := by
  pointwise

/-- Four of them. -/
theorem four_at (a d e f : FVec Ideal S4x8448x512 .f32) (y : Fin 2048) :
    concatenate S4x8448x2048 2 [⟨S4x8448x512, a⟩, ⟨S4x8448x512, d⟩, ⟨S4x8448x512, e⟩, ⟨S4x8448x512, f⟩]
        concatenates_S4x8448x512_S4x8448x512_S4x8448x512_S4x8448x512_S4x8448x2048_d2 (ix3 b l y)
      = if h : y.val < 512 then a (ix3 b l ⟨y.val, h⟩) else if h : y.val < 1024 then d (ix3 b l ⟨y.val - 512, by omega⟩)
        else if h : y.val < 1536 then e (ix3 b l ⟨y.val - 1024, by omega⟩) else f (ix3 b l ⟨y.val - 1536, by omega⟩) := by
  have hy := y.isLt
  pointwise
  by_cases h1 : y.val < 512
  · rw [dif_pos h1, dif_pos h1]
  by_cases h2 : y.val < 1024
  · rw [dif_neg h1, dif_neg h1, dif_pos (by omega), dif_pos h2]
  by_cases h3 : y.val < 1536
  · rw [dif_neg h1, dif_neg h1, dif_neg (by omega), dif_neg h2, dif_pos (by omega), dif_pos h3]
    exact congrArg (fun k => e (ix3 b l k)) (Fin.ext (by show y.val - 512 - 512 = y.val - 1024; omega))
  · rw [dif_neg h1, dif_neg h1, dif_neg (by omega), dif_neg h2, dif_neg (by omega), dif_neg h3]
    exact congrArg (fun k => f (ix3 b l k)) (Fin.ext (by show y.val - 512 - 512 - 512 = y.val - 1536; omega))

theorem keys_at (y : Fin 1024) : val_main_v20 (F := Ideal) x0 x1 x2 (ix3 b l y)
    = key (fun k => x0 (ix3 b l k)) (fun k => x1 (ix1 k)) (fun j k => x2 (ix2 j k)) y := by
  unfold val_main_v20 key keyCol
  rw [pair_at]
  have hy := y.isLt
  split_ifs with h
  · rw [val_main_v15_apply, ← product_at]
    exact congrArg _ (funext fun a => match a with | ⟨0, _⟩ => rfl | ⟨1, _⟩ => rfl | ⟨2, _⟩ => rfl)
  · rw [val_main_v18_apply, ← product_at]
    exact congrArg _ (funext fun a => match a with | ⟨0, _⟩ => rfl | ⟨1, _⟩ => rfl | ⟨2, _⟩ => Fin.ext (by show 2048 + (y.val - 512) = 1536 + y.val; omega))

theorem rest_at (y : Fin 2048) : val_main_v25 (F := Ideal) x0 x1 x2 (ix3 b l y)
    = rest (fun k => x0 (ix3 b l k)) (fun k => x1 (ix1 k)) (fun j k => x2 (ix2 j k)) y := by
  unfold val_main_v25 rest
  rw [four_at]
  have hy := y.isLt
  by_cases h1 : y.val < 512
  · rw [dif_pos h1, if_pos (Or.inl h1), show restCol y = ⟨y.val, by omega⟩ from if_pos h1, val_main_v22_apply, val_main_v14_apply, val_main_v21_apply, val_main_cst_2_apply, ← product_at]
    exact congrArg (· * Ideal.ofBits .f32 0x3E000000#32) (congrArg _ (funext fun a => match a with | ⟨0, _⟩ => rfl | ⟨1, _⟩ => rfl | ⟨2, _⟩ => rfl))
  by_cases h2 : y.val < 1024
  · rw [dif_neg h1, dif_pos h2, if_neg (c := y.val < 512 ∨ (1024 ≤ y.val ∧ y.val < 1536)) (by omega), show restCol y = ⟨512 + y.val, by omega⟩ from (if_neg h1).trans (if_pos (by omega)), val_main_v16_apply, ← product_at]
    exact congrArg _ (funext fun a => match a with | ⟨0, _⟩ => rfl | ⟨1, _⟩ => rfl | ⟨2, _⟩ => Fin.ext (by show 1024 + (y.val - 512) = 512 + y.val; omega))
  by_cases h3 : y.val < 1536
  · rw [dif_neg h1, dif_neg h2, dif_pos h3, if_pos (c := y.val < 512 ∨ (1024 ≤ y.val ∧ y.val < 1536)) (by omega), show restCol y = ⟨512 + y.val, by omega⟩ from (if_neg h1).trans (if_pos h3), val_main_v24_apply, val_main_v17_apply, val_main_v23_apply, val_main_cst_3_apply, ← product_at]
    exact congrArg (· * Ideal.ofBits .f32 0x3E000000#32)
      (congrArg _ (funext fun a => match a with | ⟨0, _⟩ => rfl | ⟨1, _⟩ => rfl | ⟨2, _⟩ => Fin.ext (by show 1536 + (y.val - 1024) = 512 + y.val; omega)))
  · rw [dif_neg h1, dif_neg h2, dif_neg h3, if_neg (c := y.val < 512 ∨ (1024 ≤ y.val ∧ y.val < 1536)) (by omega), show restCol y = ⟨1024 + y.val, by omega⟩ from (if_neg h1).trans (if_neg h3), val_main_v19_apply, ← product_at]
    exact congrArg _ (funext fun a => match a with | ⟨0, _⟩ => rfl | ⟨1, _⟩ => rfl | ⟨2, _⟩ => Fin.ext (by show 2560 + (y.val - 1536) = 1024 + y.val; omega))

/-- The keys, a row of the stream a row. -/
theorem keys_eq (i : Fin 33792) (y : Fin 1024) : val_main_v27 (F := Ideal) x0 x1 x2 (ix2 i y)
    = key (fun k => x0 (ix3 ⟨i.val / 8448, by omega⟩ ⟨i.val % 8448, by omega⟩ k)) (fun k => x1 (ix1 k)) (fun j k => x2 (ix2 j k)) y := by
  rw [val_main_v27_apply, val_main_v26_apply]
  rw [show idx_main_v26 (ix2 i y) = ix3 ⟨i.val / 8448, by omega⟩ ⟨i.val % 8448, by omega⟩ y from funext fun a => Fin.ext (match a with
    | ⟨0, _⟩ => by show (i.val * 1024 + y.val) / 8650752 = i.val / 8448; omega
    | ⟨1, _⟩ => by show (i.val * 1024 + y.val) / 1024 % 8448 = i.val % 8448; omega
    | ⟨2, _⟩ => by show (i.val * 1024 + y.val) % 1024 = y.val; omega), keys_at]
  rfl

/-- The queries and the values, a row of the stream a column. -/
theorem rest_eq (y : Fin 2048) (i : Fin 33792) : val_main_v30 (F := Ideal) x0 x1 x2 (ix2 y i)
    = rest (fun k => x0 (ix3 ⟨i.val / 8448, by omega⟩ ⟨i.val % 8448, by omega⟩ k)) (fun k => x1 (ix1 k)) (fun j k => x2 (ix2 j k)) y := by
  rw [val_main_v30_apply, val_main_v29_apply, val_main_v28_apply]
  rw [show idx_main_v28 (idx_main_v29 (ix2 y i)) = ix3 ⟨i.val / 8448, by omega⟩ ⟨i.val % 8448, by omega⟩ y from funext fun a => Fin.ext (match a with
    | ⟨0, _⟩ => by show (i.val * 2048 + y.val) / 17301504 = i.val / 8448; omega
    | ⟨1, _⟩ => by show (i.val * 2048 + y.val) / 2048 % 8448 = i.val % 8448; omega
    | ⟨2, _⟩ => by show (i.val * 2048 + y.val) % 2048 = y.val; omega), rest_at]
  rfl

end Cert.Reference4Ideal.Proj

end
-- ==== Proof.Proj.Agree.lean ====
/- The even projection's two programs put side by side. -/
module

public import proofs.«01_k».proof.Defs
public import proofs.«01_k».proof.Proof.Proj.Arrays
public import proofs.«01_k».proof.Proof.Proj.Ref
public import proofs.«01_k».proof.Proof.Gen.Reference4Ideal.Run
public import Idealize.ShloMosaic.Lib.Claim

@[expose] public section

set_option maxRecDepth 16384

noncomputable section

namespace Cert.Proof.Proj

open Idealize.ShloMosaic Idealize.ShloMosaic.TcCoe Idealize.SL.Sem
open Cert.Kernel4Ideal.Proj (keyArr restArr)

/-- The reference ends, with its arguments as they were and every counter at zero. -/
theorem frame_reference : Cert.quiescent_Reference4Ideal := fun m g _ =>
  (θ_run _ _ _).mono (fun r h => ⟨fun c => (h c).2.2, sem_eq_zero_of_no_sems (by decide) r.2⟩)
    (Cert.Reference4Ideal.Value.run (F := Ideal) m g)

/-- Both programs' arrays are the projection's values. -/
theorem algebraic : Cert.algebraic_Kernel4Ideal_Reference4Ideal := by
  intro m g m' g' _ hagree
  refine ⟨fun c => keyArr m c, fun c => restArr m c, ?_, ?_⟩
  · exact (θ_run _ _ _).mono (fun r h c => ⟨(h c).1.trans (Cert.Kernel4Ideal.Proj.keyArr_eq m c), (h c).2.1.trans (Cert.Kernel4Ideal.Proj.restArr_eq m c), (h c).2.2⟩)
      (Cert.Kernel4Ideal.Value.run_blocks (F := Ideal) m g)
  · refine (θ_run Cert.Reference4Ideal.defs _ _).mono (fun _ h c => ⟨(h c).1.trans ?_, (h c).2.1.trans ?_, (h c).2.2⟩) (Cert.Reference4Ideal.Value.run (F := Ideal) m' g')
    · rw [Cert.Reference4Ideal.Read.val_main_v27_eq, (hagree c).1, (hagree c).2.1, (hagree c).2.2]
      funext i
      rw [show i = ix2 (i 0) (i 1) from funext fun a => match a with | ⟨0, _⟩ => rfl | ⟨1, _⟩ => rfl]
      exact Cert.Reference4Ideal.Proj.keys_eq _ _ _ (i 0) (i 1)
    · rw [Cert.Reference4Ideal.Read.val_main_v30_eq, (hagree c).1, (hagree c).2.1, (hagree c).2.2]
      funext i
      rw [show i = ix2 (i 0) (i 1) from funext fun a => match a with | ⟨0, _⟩ => rfl | ⟨1, _⟩ => rfl]
      exact Cert.Reference4Ideal.Proj.rest_eq _ _ _ (i 0) (i 1)

end Cert.Proof.Proj

end
-- ==== Proof.OddProj.Row.lean ====
/- One row of an odd layer's projections, as a function of the row, the gain and the weights. -/
module

public import proofs.«01_k».proof.Proof.Proj.Row

@[expose] public section

noncomputable section

namespace Cert.OddProj

open Idealize.ShloMosaic Cert.Post Cert.Proj

section
variable (x g : Fin 1024 → EReal)

/-- A key. -/
def key (w : Fin 1024 → Fin 2056 → EReal) (y : Fin 512) : EReal := product x g fun j => w j ⟨512 + y.val, by omega⟩

/-- A query, over the root of a head's size, or a value. -/
def rest (w : Fin 1024 → Fin 2056 → EReal) (y : Fin 1024) : EReal :=
  if y.val < 512 then (product x g fun j => w j ⟨y.val, by omega⟩) * Ideal.ofBits .f32 0x3E000000#32
  else product x g fun j => w j ⟨512 + y.val, by omega⟩

/-- An input of the recurrence. -/
def input (w : Fin 1024 → Fin 2056 → EReal) (y : Fin 512) : EReal := product x g fun j => w j ⟨1544 + y.val, by omega⟩

/-- A forgetting logit: the weights are the sum of two parts. -/
def logit (hi lo : Fin 1024 → EReal) : EReal := product x g fun j => hi j + lo j

end

/-- A finite number. -/
def IsReal (x : EReal) : Prop := x ≠ ⊤ ∧ x ≠ ⊥

theorem IsReal.coe {x : EReal} (h : IsReal x) : ∃ r : ℝ, x = (r : EReal) := ⟨x.toReal, (EReal.coe_toReal h.1 h.2).symm⟩

theorem rsqrt_real {z : EReal} (h : 0 < z) : ∃ r : ℝ, Ideal.rsqrt z = (r : EReal) := by
  induction z with
  | bot => exact absurd h (by simp)
  | top => exact ⟨0, rfl⟩
  | coe r =>
    have hr : 0 < r := EReal.coe_pos.1 h
    refine ⟨(Real.sqrt r)⁻¹, ?_⟩
    show (if r < 0 then ⊥ else if r = 0 then ⊤ else (((Real.sqrt r)⁻¹ : ℝ) : EReal)) = _
    rw [if_neg (by linarith), if_neg (by linarith)]

theorem count_pos : 0 < Ideal.ofBits .f32 0x44800000#32 := by
  simp [Ideal.ofBits, Ideal.ieee]
  positivity

theorem count_ne_top : Ideal.ofBits .f32 0x44800000#32 ≠ ⊤ := by
  simp [Ideal.ofBits, Ideal.ieee]
  exact EReal.coe_ne_top (8388608 * (2 ^ 13)⁻¹)

theorem eps_pos : 0 < Ideal.ofBits .f32 0x358637BD#32 := by
  simp [Ideal.ofBits, Ideal.ieee]
  positivity

theorem square_nonneg (x : EReal) : 0 ≤ x * x := by
  induction x with
  | bot => simp
  | top => simp
  | coe r => rw [← EReal.coe_mul]; exact EReal.coe_nonneg.2 (mul_self_nonneg r)

/-- A normed row is finite whatever the row: an infinite entry makes the mean of the squares infinite and the factor zero. -/
theorem normed_real (x : Fin 1024 → EReal) {g : Fin 1024 → EReal} (hg : ∀ k, IsReal (g k)) (y : Fin 1024) : ∃ r : ℝ, normed x g y = (r : EReal) := by
  obtain ⟨b, hb⟩ := (hg y).coe
  have hs : 0 ≤ ∑ k, x k * x k := Finset.sum_nonneg fun k _ => square_nonneg (x k)
  have hd : Ideal.div (∑ k, x k * x k) (Ideal.ofBits .f32 0x44800000#32) = (∑ k, x k * x k) * (Ideal.ofBits .f32 0x44800000#32)⁻¹ := by
    unfold Ideal.div
    rw [if_neg count_pos.ne']
  unfold normed
  rw [hd, hb]
  by_cases hx : IsReal (x y)
  · obtain ⟨a, ha⟩ := hx.coe
    have hm : 0 ≤ (∑ k, x k * x k) * (Ideal.ofBits .f32 0x44800000#32)⁻¹ := EReal.mul_nonneg hs (EReal.inv_nonneg_of_nonneg count_pos.le)
    obtain ⟨q, hq⟩ := rsqrt_real (lt_of_lt_of_le eps_pos (le_add_of_nonneg_left hm))
    exact ⟨a * q * b, by rw [hq, ha, EReal.coe_mul, EReal.coe_mul]⟩
  · have hy : x y * x y = ⊤ := by
      by_cases h : x y = ⊤
      · rw [h]; rfl
      · have h' : x y = ⊥ := by by_contra h'; exact hx ⟨h, h'⟩
        rw [h']; rfl
    have ht : ∑ k, x k * x k = ⊤ := top_le_iff.1 (hy ▸ Finset.single_le_sum (f := fun k => x k * x k) (fun k _ => square_nonneg (x k)) (Finset.mem_univ y))
    have hi : (Ideal.ofBits .f32 0x44800000#32)⁻¹ > 0 := EReal.inv_pos_of_pos_ne_top count_pos count_ne_top
    rw [ht, EReal.top_mul_of_pos hi, EReal.top_add_of_ne_bot eps_pos.ne_bot]
    refine ⟨0, ?_⟩
    show x y * 0 * (b : EReal) = ((0 : ℝ) : EReal)
    rw [mul_zero, zero_mul, EReal.coe_zero]

/-- A finite factor goes into a sum whose first part is finite. -/
theorem split_mul (n h : ℝ) (l : EReal) : ((h : EReal) * n + l * n : EReal) = n * (h + l) := by
  induction l with
  | bot =>
    rw [EReal.add_bot]
    rcases lt_trichotomy n 0 with hn | rfl | hn
    · rw [EReal.bot_mul_coe_of_neg hn, EReal.coe_mul_bot_of_neg hn, ← EReal.coe_mul, EReal.coe_add_top]
    · simp
    · rw [EReal.bot_mul_coe_of_pos hn, EReal.coe_mul_bot_of_pos hn, EReal.add_bot]
  | top =>
    rw [EReal.coe_add_top]
    rcases lt_trichotomy n 0 with hn | rfl | hn
    · rw [EReal.top_mul_coe_of_neg hn, EReal.coe_mul_top_of_neg hn, EReal.add_bot]
    · simp
    · rw [EReal.top_mul_coe_of_pos hn, EReal.coe_mul_top_of_pos hn, ← EReal.coe_mul, EReal.coe_add_top]
  | coe l =>
    rw [← EReal.coe_mul, ← EReal.coe_mul, ← EReal.coe_add, ← EReal.coe_add, ← EReal.coe_mul]
    congr 1
    ring

/-- What the three products add up to: the difference of the row and its copy is zero, the row being finite. -/
theorem logit_parts (x : Fin 1024 → EReal) {g hi lo : Fin 1024 → EReal} (hg : ∀ k, IsReal (g k)) (hh : ∀ k, IsReal (hi k)) :
    ((∑ j, hi j * normed x g j) + (∑ j, hi j * (normed x g j - normed x g j)) + (∑ j, lo j * normed x g j) : EReal) = logit x g hi lo := by
  have z : ∀ j, hi j * (normed x g j - normed x g j) = 0 := fun j => by
    obtain ⟨n, hn⟩ := normed_real x hg j
    rw [hn, ← EReal.coe_sub, sub_self, EReal.coe_zero, mul_zero]
  simp only [z, Finset.sum_const_zero, add_zero]
  unfold logit product
  rw [← Finset.sum_add_distrib]
  refine Finset.sum_congr rfl fun j _ => ?_
  obtain ⟨n, hn⟩ := normed_real x hg j
  obtain ⟨a, ha⟩ := (hh j).coe
  show hi j * normed x g j + lo j * normed x g j = normed x g j * (hi j + lo j)
  rw [hn, ha, split_mul]

end Cert.OddProj

end
-- ==== Proof.OddProj.Block.lean ====
/- The four blocks the odd layers' projection kernel writes, read at a row and a column. -/
module

public import proofs.«01_k».proof.Proof.Gen.Kernel5Ideal.Value
public import proofs.«01_k».proof.Proof.OddProj.Row
public import Idealize.ShloMosaic.Lib.Pointwise
public import Idealize.ShloMosaic.Lib.Pipeline.ValueKit
public import Idealize.ShloMosaic.Lib.Pipeline.CanonAppend

@[expose] public section

set_option maxRecDepth 16384

noncomputable section

namespace Cert.Kernel5Ideal.OddProj

open Cert.Kernel5Ideal Cert.Kernel5Ideal.Gen Cert.Post Cert.OddProj
open Cert.Proj (product sum_scaled)
open Idealize.ShloMosaic Idealize.ShloMosaic.TcCoe Idealize.ShloMosaic.Tactic

/-! ## The normed rows, and their copy in the narrower format -/

def wideOf (x : Vec Ideal S512x1024 .f32) (g : Vec Ideal S1x1024 .f32) : FVec Ideal S512x1024 .f32 := k0_pay1 (View.ld x r0_0) (View.ld g r0_1)

def rowsOf (x : Vec Ideal S512x1024 .f32) (g : Vec Ideal S1x1024 .f32) : FVec Ideal S512x1024 .bf16 := k0_pay2 (View.ld x r0_0) (View.ld g r0_1)

theorem wideOf_at (x : Vec Ideal S512x1024 .f32) (g : Vec Ideal S1x1024 .f32) (r : Fin 512) (y : Fin 1024) :
    wideOf x g (ix2 r y) = normed (fun k => x (ix2 r k)) (fun k => g (ix2 0 k)) y := by
  unfold wideOf normed
  pointwise [k0_pay1]

theorem rowsOf_at (x : Vec Ideal S512x1024 .f32) (g : Vec Ideal S1x1024 .f32) (r : Fin 512) (y : Fin 1024) :
    rowsOf x g (ix2 r y) = normed (fun k => x (ix2 r k)) (fun k => g (ix2 0 k)) y := wideOf_at x g r y

/-! ## The keys: two stores of 256 columns -/

def keysOf (a : FVec Ideal S512x1024 .bf16) (w : Vec Ideal S1024x512 .bf16) : Vec Ideal S512x512 .bf16 :=
  fun i => ∑ j : Fin 1024, a (ix2 (i 0) j) * w (ix2 j (i 1))

theorem keysOf_at (a : FVec Ideal S512x1024 .bf16) (w : Vec Ideal S1024x512 .bf16) (r y : Fin 512) :
    keysOf a w (ix2 r y) = (∑ j : Fin 1024, a (ix2 r j) * w (ix2 j y) : EReal) := rfl

theorem keys_part (o : ℕ) (h) (h') (x0 : Vec Ideal S512x1024 .f32) (x1 : Vec Ideal S1x1024 .f32) (w : Vec Ideal S1024x512 .bf16) (x : S512x256.Idx) :
    k0_pay3 (View.ld x0 r0_0) (View.ld x1 r0_1) (View.ld w (Rect.unit (s := S1024x512) ![0, o] S1024x256.size h)) x
      = keysOf (rowsOf x0 x1) w ((Rect.unit (s := S512x512) ![0, o] S512x256.size h').emb x) := by
  obtain ⟨r, y, rfl⟩ : ∃ (r : Fin 512) (y : Fin 256), x = ix2 r y := ⟨x 0, x 1, by ext a; match a with | ⟨0, _⟩ => rfl | ⟨1, _⟩ => rfl⟩
  have ho : o + 256 ≤ 512 := h 1
  have e : (Rect.unit (s := S512x512) ![0, o] S512x256.size h').emb (ix2 r y) = ix2 r ⟨o + y.val, by omega⟩ :=
    funext fun a => Fin.ext ((Rect.idx_unit_val _ _ _ _ a).trans (match a with | ⟨0, _⟩ => Nat.zero_add _ | ⟨1, _⟩ => rfl))
  have l : ∀ j : Fin 1024, View.ld w (Rect.unit (s := S1024x512) ![0, o] S1024x256.size h) (ix2 j y) = w (ix2 j ⟨o + y.val, by omega⟩) := fun j =>
    congrArg w (funext fun a => Fin.ext ((Rect.idx_unit_val _ _ _ _ a).trans (match a with | ⟨0, _⟩ => Nat.zero_add _ | ⟨1, _⟩ => rfl)))
  rw [e, keysOf_at]
  generalize View.ld w (Rect.unit (s := S1024x512) ![0, o] S1024x256.size h) = v at l
  unfold k0_pay3
  change matmul dot_S512x1024_S1024x256_S512x256_1_0_0_1_n_n none (rowsOf x0 x1) (shapeCast S1024x256 v shapeCasts_S1024x256_S1024x256)
    (constant S512x256 .f32 0x00000000#32) (ix2 r y) = _
  generalize rowsOf x0 x1 = a
  pointwise
  exact Finset.sum_congr rfl fun j _ => by rw [l]

section
variable (x0 : Vec Ideal S512x1024 .f32) (x1 : Vec Ideal S1x1024 .f32) (x2 : Vec Ideal S1024x512 .bf16) (x3 : Vec Ideal S1024x1024 .bf16)
  (x4 : Vec Ideal S1024x512 .bf16) (x5 x6 : Vec Ideal S16x1024 .bf16)

theorem keys_eq : out0_7 x0 x1 x2 x3 x4 x5 x6 = keysOf (rowsOf x0 x1) x2 := by
  funext y
  unfold out0_7
  rw [← List.append_nil [_, _]]
  refine View.canon_append_of_pieces (Val := Elt Ideal) (keysOf (rowsOf x0 x1) x2) [] _ (fun p hp x => ?_) y (cover0_7 _ _ y)
  simp only [List.mem_cons, List.not_mem_nil, or_false] at hp
  rcases hp with rfl | rfl
  · exact keys_part 256 inb_S1024x512_S1024x256_0_256 inb_S512x512_S512x256_0_256 x0 x1 x2 x
  · exact keys_part 0 inb_S1024x512_S1024x256_0_0 inb_S512x512_S512x256_0_0 x0 x1 x2 x

end

/-! ## The queries and the values, turned: four stores of 256 rows -/

def restOf (a : FVec Ideal S512x1024 .bf16) (w : Vec Ideal S1024x1024 .bf16) : Vec Ideal S1024x512 .bf16 :=
  fun i => ∑ j : Fin 1024, w (ix2 (i 0) j) * a (ix2 (i 1) j)

theorem restOf_at (a : FVec Ideal S512x1024 .bf16) (w : Vec Ideal S1024x1024 .bf16) (y : Fin 1024) (r : Fin 512) :
    restOf a w (ix2 y r) = (∑ j : Fin 1024, w (ix2 y j) * a (ix2 r j) : EReal) := rfl

theorem rest_part (o : ℕ) (h) (h') (a : FVec Ideal S512x1024 .bf16) (w : Vec Ideal S1024x1024 .bf16) (x : S256x512.Idx) :
    k0_pay6 a (View.ld w (Rect.unit (s := S1024x1024) ![o, 0] S256x1024.size h)) x
      = restOf a w ((Rect.unit (s := S1024x512) ![o, 0] S256x512.size h').emb x) := by
  obtain ⟨y, r, rfl⟩ : ∃ (y : Fin 256) (r : Fin 512), x = ix2 y r := ⟨x 0, x 1, by ext a; match a with | ⟨0, _⟩ => rfl | ⟨1, _⟩ => rfl⟩
  have ho : o + 256 ≤ 1024 := h 0
  have e : (Rect.unit (s := S1024x512) ![o, 0] S256x512.size h').emb (ix2 y r) = ix2 ⟨o + y.val, by omega⟩ r :=
    funext fun a => Fin.ext ((Rect.idx_unit_val _ _ _ _ a).trans (match a with | ⟨0, _⟩ => rfl | ⟨1, _⟩ => Nat.zero_add _))
  have l : ∀ j : Fin 1024, View.ld w (Rect.unit (s := S1024x1024) ![o, 0] S256x1024.size h) (ix2 y j) = w (ix2 ⟨o + y.val, by omega⟩ j) := fun j =>
    congrArg w (funext fun a => Fin.ext ((Rect.idx_unit_val _ _ _ _ a).trans (match a with | ⟨0, _⟩ => rfl | ⟨1, _⟩ => Nat.zero_add _)))
  rw [e, restOf_at]
  generalize View.ld w (Rect.unit (s := S1024x1024) ![o, 0] S256x1024.size h) = v at l
  pointwise [k0_pay6]
  exact Finset.sum_congr rfl fun j _ => by rw [l]

/-! ## The recurrence's inputs, and the logits: one store each -/

def inputsOf (a : FVec Ideal S512x1024 .bf16) (w : Vec Ideal S1024x512 .bf16) : Vec Ideal S512x512 .f32 := k0_pay9 a (View.ld w r0_14)

theorem inputsOf_at (a : FVec Ideal S512x1024 .bf16) (w : Vec Ideal S1024x512 .bf16) (r y : Fin 512) :
    inputsOf a w (ix2 r y) = (∑ j : Fin 1024, a (ix2 r j) * w (ix2 j y) : EReal) := by
  unfold inputsOf
  pointwise [k0_pay9]

def logitsOf (u : FVec Ideal S512x1024 .f32) (a : FVec Ideal S512x1024 .bf16) (hi lo : Vec Ideal S16x1024 .bf16) : Vec Ideal S16x512 .f32 :=
  k0_pay10 u a (View.ld hi r0_16) (View.ld lo r0_16)

theorem logitsOf_at (u : FVec Ideal S512x1024 .f32) (a : FVec Ideal S512x1024 .bf16) (hi lo : Vec Ideal S16x1024 .bf16) (y : Fin 16) (r : Fin 512) :
    logitsOf u a hi lo (ix2 y r) = ((∑ j : Fin 1024, hi (ix2 y j) * a (ix2 r j)) + (∑ j : Fin 1024, hi (ix2 y j) * (u (ix2 r j) - a (ix2 r j)))
      + (∑ j : Fin 1024, lo (ix2 y j) * a (ix2 r j)) : EReal) := by
  unfold logitsOf
  pointwise [k0_pay10]

section
variable (x0 : Vec Ideal S512x1024 .f32) (x1 : Vec Ideal S1x1024 .f32) (x2 : Vec Ideal S1024x512 .bf16) (x3 : Vec Ideal S1024x1024 .bf16)
  (x4 : Vec Ideal S1024x512 .bf16) (x5 x6 : Vec Ideal S16x1024 .bf16)

theorem rest_eq : out0_8 x0 x1 x2 x3 x4 x5 x6 = restOf (rowsOf x0 x1) x3 := by
  funext y
  unfold out0_8
  rw [← List.append_nil [_, _, _, _]]
  refine View.canon_append_of_pieces (Val := Elt Ideal) (restOf (rowsOf x0 x1) x3) [] _ (fun p hp x => ?_) y (cover0_8 _ _ _ _ y)
  simp only [List.mem_cons, List.not_mem_nil, or_false] at hp
  rcases hp with rfl | rfl | rfl | rfl
  · exact rest_part 768 inb_S1024x1024_S256x1024_768_0 inb_S1024x512_S256x512_768_0 (rowsOf x0 x1) x3 x
  · exact rest_part 512 inb_S1024x1024_S256x1024_512_0 inb_S1024x512_S256x512_512_0 (rowsOf x0 x1) x3 x
  · exact rest_part 256 inb_S1024x1024_S256x1024_256_0 inb_S1024x512_S256x512_256_0 (rowsOf x0 x1) x3 x
  · exact rest_part 0 inb_S1024x1024_S256x1024_0_0 inb_S1024x512_S256x512_0_0 (rowsOf x0 x1) x3 x

theorem emb_square (x : S512x512.Idx) : r0_15.emb x = x :=
  funext fun a => Fin.ext ((Rect.idx_unit_val _ _ _ _ a).trans (match a with | ⟨0, _⟩ => Nat.zero_add _ | ⟨1, _⟩ => Nat.zero_add _))

theorem emb_logits (x : S16x512.Idx) : r0_17.emb x = x :=
  funext fun a => Fin.ext ((Rect.idx_unit_val _ _ _ _ a).trans (match a with | ⟨0, _⟩ => Nat.zero_add _ | ⟨1, _⟩ => Nat.zero_add _))

theorem inputs_eq : out0_9 x0 x1 x2 x3 x4 x5 x6 = inputsOf (rowsOf x0 x1) x4 := by
  funext y
  unfold out0_9
  rw [← List.append_nil [_]]
  refine View.canon_append_of_pieces (Val := Elt Ideal) (inputsOf (rowsOf x0 x1) x4) [] _ (fun p hp x => ?_) y (cover0_9 _ y)
  simp only [List.mem_cons, List.not_mem_nil, or_false] at hp
  subst hp
  exact congrArg (inputsOf (rowsOf x0 x1) x4) (emb_square x).symm

theorem logits_eq : out0_10 x0 x1 x2 x3 x4 x5 x6 = logitsOf (wideOf x0 x1) (rowsOf x0 x1) x5 x6 := by
  funext y
  unfold out0_10
  rw [← List.append_nil [_]]
  refine View.canon_append_of_pieces (Val := Elt Ideal) (logitsOf (wideOf x0 x1) (rowsOf x0 x1) x5 x6) [] _ (fun p hp x => ?_) y (cover0_10 _ y)
  simp only [List.mem_cons, List.not_mem_nil, or_false] at hp
  subst hp
  exact congrArg (logitsOf (wideOf x0 x1) (rowsOf x0 x1) x5 x6) (emb_logits x).symm

end

end Cert.Kernel5Ideal.OddProj

end
-- ==== Proof.OddProj.Value.lean ====
/- The odd layers' projection kernel: every block it writes is the projection's values there. -/
module

public import proofs.«01_k».proof.Proof.OddProj.Block
public import Idealize.ShloMosaic.Lib.Claim
public import Idealize.ShloMosaic.Lib.StableHlo.RunRead
public import Idealize.ShloMosaic.Lib.Pipeline.ValueKit.Point

@[expose] public section

set_option maxRecDepth 16384

noncomputable section

namespace Cert.Kernel5Ideal.OddProj

open Cert.Kernel5Ideal Cert.Kernel5Ideal.Gen Cert.Post Cert.OddProj
open Cert.Proj (product sum_scaled)
open Idealize.ShloMosaic Idealize.ShloMosaic.TcCoe Idealize.ShloMosaic.Tactic

variable (m : (ℓ : Loc nD τ sig) → Buf (Elt Ideal) ℓ) (c : Dev nD)

abbrev streamOf : (⟨S4x8448x1024, .f32⟩ : BufTy).Contents (Elt Ideal) := m ((c.tc : Thread nD τ).loc main_arg0)
abbrev gainOf : (⟨S1024, .f32⟩ : BufTy).Contents (Elt Ideal) := m ((c.tc : Thread nD τ).loc main_arg1)
abbrev weightsOf : (⟨S1024x2056, .f32⟩ : BufTy).Contents (Elt Ideal) := m ((c.tc : Thread nD τ).loc main_arg2)
abbrev highOf : (⟨S16x1024, .bf16⟩ : BufTy).Contents (Elt Ideal) := m ((c.tc : Thread nD τ).loc main_arg3)
abbrev lowOf : (⟨S16x1024, .bf16⟩ : BufTy).Contents (Elt Ideal) := m ((c.tc : Thread nD τ).loc main_arg4)

/-! ## The weights' columns -/

/-- A group of 512 columns of the weights. -/
def group (W : (⟨S1024x2056, .f32⟩ : BufTy).Contents (Elt Ideal)) (o : Fin 2 → ℕ) (h : S1024x2056.Slices o S1024x512) : FVec Ideal S1024x512 .f32 :=
  extractStridedSlice S1024x512 o W h

/-- The group over the root of a head's size. -/
def shrunk (x : FVec Ideal S1024x512 .f32) : FVec Ideal S1024x512 .f32 :=
  mulf x (broadcastInDim S1024x512 ![] bcast_S_S1024x512 (constant S_ .f32 0x3E000000#32))

/-- The group in the narrower format. -/
def narrow (x : FVec Ideal S1024x512 .f32) : FVec Ideal S1024x512 .bf16 := truncf .bf16 x bitsLt_bf16_f32

def stacked (a d : FVec Ideal S1024x512 .f32) : FVec Ideal S1024x1024 .bf16 :=
  truncf .bf16 (transpose S1024x1024 [1, 0] (concatenate S1024x1024 1 [⟨S1024x512, a⟩, ⟨S1024x512, d⟩] concatenates_S1024x512_S1024x512_S1024x1024_d1)
    transposes_S1024x1024_S1024x1024_1_0) bitsLt_bf16_f32

theorem stacked_at (a d : FVec Ideal S1024x512 .f32) (y j : Fin 1024) :
    stacked a d (ix2 y j) = if h : y.val < 512 then a (ix2 j ⟨y.val, h⟩) else d (ix2 j ⟨y.val - 512, by omega⟩) := by
  pointwise [stacked]

theorem narrow_at (x : FVec Ideal S1024x512 .f32) (j : Fin 1024) (y : Fin 512) : narrow x (ix2 j y) = x (ix2 j y) := rfl

theorem group_at (W : (⟨S1024x2056, .f32⟩ : BufTy).Contents (Elt Ideal)) (o : ℕ) (h : S1024x2056.Slices ![0, o] S1024x512) (ho : o + 512 ≤ 2056)
    (j : Fin 1024) (y : Fin 512) : group W ![0, o] h (ix2 j y) = W (ix2 j ⟨o + y.val, by omega⟩) := by
  unfold group
  exact extractStridedSlice_apply ![0, o] W h (ix2 j y) _ fun a => match a with
    | ⟨0, _⟩ => by show j.val = 0 + j.val; omega
    | ⟨1, _⟩ => rfl

theorem shrunk_at (x : FVec Ideal S1024x512 .f32) (j : Fin 1024) (y : Fin 512) : shrunk x (ix2 j y) = x (ix2 j y) * Ideal.ofBits .f32 0x3E000000#32 := by
  pointwise [shrunk]

theorem keys_entry : (V m c main_v1 : (⟨S1024x512, .bf16⟩ : BufTy).Contents (Elt Ideal))
    = narrow (group (weightsOf m c) ![0, 512] slices_S1024x2056_S1024x512_0_512) := by
  unfold V
  after_reads_simp
  rfl

theorem rest_entry : (V m c main_v8 : (⟨S1024x1024, .bf16⟩ : BufTy).Contents (Elt Ideal))
    = stacked (shrunk (group (weightsOf m c) ![0, 0] slices_S1024x2056_S1024x512_0_0)) (group (weightsOf m c) ![0, 1024] slices_S1024x2056_S1024x512_0_1024) := by
  unfold V
  after_reads_simp
  rfl

theorem inputs_entry : (V m c main_v10 : (⟨S1024x512, .bf16⟩ : BufTy).Contents (Elt Ideal))
    = narrow (group (weightsOf m c) ![0, 1544] slices_S1024x2056_S1024x512_0_1544) := by
  unfold V
  after_reads_simp
  rfl

/-! ## The blocks the body is handed -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![0, t.val] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![0, t.val] := (by decide +kernel : ∀ t : Fin grid0.N, _)

/-- The row of the stream a grid point's row is. -/
def rowAt (t : Fin cfg0.N) (r : Fin 512) : Fin 33792 := ⟨512 * t.val + r.val, by have h : t.val < 66 := t.isLt; omega⟩

/-- A row of the stream, in its batch. -/
def streamRow (i : Fin 33792) (k : Fin 1024) : EReal := streamOf m c (ix3 ⟨i.val / 8448, by omega⟩ ⟨i.val % 8448, by omega⟩ k)

variable (t : Fin cfg0.N)

theorem stream_at (r : Fin 512) (y : Fin 1024) : (iblk m c 0 t : Vec Ideal S512x1024 .f32) (ix2 r y) = streamRow m c (rowAt t r) y := by
  refine Eq.trans (b := (V m c main_v11 : (⟨S33792x1024, .f32⟩ : BufTy).Contents (Elt Ideal)) (ix2 (rowAt t r) y)) ?_ ?_
  · blk_simp [iblk]
    refine congrArg (V m c main_v11) ?_
    blk_ext [index_0 t, rowAt]
  · unfold streamRow
    generalize rowAt t r = i
    entry_read
    pointwise

theorem gain_at (y : Fin 1024) : (iblk m c 1 t : Vec Ideal S1x1024 .f32) (ix2 0 y) = gainOf m c (ix1 y) := by
  refine Eq.trans (b := (V m c main_v12 : (⟨S1x1024, .f32⟩ : BufTy).Contents (Elt Ideal)) (ix2 0 y)) ?_ ?_
  · blk_simp [iblk]
    refine congrArg (V m c main_v12) ?_
    blk_ext [index_1 t]
  · entry_read
    pointwise

theorem keyWeights_at (j : Fin 1024) (y : Fin 512) : (iblk m c 2 t : Vec Ideal S1024x512 .bf16) (ix2 j y) = weightsOf m c (ix2 j ⟨512 + y.val, by omega⟩) := by
  refine Eq.trans (b := (V m c main_v1 : (⟨S1024x512, .bf16⟩ : BufTy).Contents (Elt Ideal)) (ix2 j y)) ?_ ?_
  · blk_simp [iblk]
    refine congrArg (V m c main_v1) ?_
    blk_ext [index_2 t]
  · rw [keys_entry, narrow_at, group_at _ 512 _ (by decide)]

theorem restWeights_at (y j : Fin 1024) : (iblk m c 3 t : Vec Ideal S1024x1024 .bf16) (ix2 y j)
    = if y.val < 512 then weightsOf m c (ix2 j ⟨y.val, by omega⟩) * Ideal.ofBits .f32 0x3E000000#32 else weightsOf m c (ix2 j ⟨512 + y.val, by omega⟩) := by
  refine Eq.trans (b := (V m c main_v8 : (⟨S1024x1024, .bf16⟩ : BufTy).Contents (Elt Ideal)) (ix2 y j)) ?_ ?_
  · blk_simp [iblk]
    refine congrArg (V m c main_v8) ?_
    blk_ext [index_3 t]
  rw [rest_entry, stacked_at]
  by_cases h : y.val < 512
  · rw [dif_pos h, if_pos h, shrunk_at, group_at _ 0 _ (by decide)]
    exact congrArg (fun k => weightsOf m c (ix2 j k) * Ideal.ofBits .f32 0x3E000000#32) (Fin.ext (Nat.zero_add _))
  · rw [dif_neg h, if_neg h, group_at _ 1024 _ (by decide)]
    exact congrArg (fun k => weightsOf m c (ix2 j k)) (Fin.ext (by show 1024 + (y.val - 512) = 512 + y.val; omega))

theorem inputWeights_at (j : Fin 1024) (y : Fin 512) : (iblk m c 4 t : Vec Ideal S1024x512 .bf16) (ix2 j y) = weightsOf m c (ix2 j ⟨1544 + y.val, by omega⟩) := by
  refine Eq.trans (b := (V m c main_v10 : (⟨S1024x512, .bf16⟩ : BufTy).Contents (Elt Ideal)) (ix2 j y)) ?_ ?_
  · blk_simp [iblk]
    refine congrArg (V m c main_v10) ?_
    blk_ext [index_4 t]
  · rw [inputs_entry, narrow_at, group_at _ 1544 _ (by decide)]

theorem high_at (y : Fin 16) (j : Fin 1024) : (iblk m c 5 t : Vec Ideal S16x1024 .bf16) (ix2 y j) = highOf m c (ix2 y j) := by
  refine Eq.trans (b := (V m c main_arg3 : (⟨S16x1024, .bf16⟩ : BufTy).Contents (Elt Ideal)) (ix2 y j)) ?_ ?_
  · blk_simp [iblk]
    refine congrArg (V m c main_arg3) ?_
    blk_ext [index_5 t]
  · entry_read
    rfl

theorem low_at (y : Fin 16) (j : Fin 1024) : (iblk m c 6 t : Vec Ideal S16x1024 .bf16) (ix2 y j) = lowOf m c (ix2 y j) := by
  refine Eq.trans (b := (V m c main_arg4 : (⟨S16x1024, .bf16⟩ : BufTy).Contents (Elt Ideal)) (ix2 y j)) ?_ ?_
  · blk_simp [iblk]
    refine congrArg (V m c main_arg4) ?_
    blk_ext [index_6 t]
  · entry_read
    rfl

/-! ## The whole results -/

def keyAt (i : Fin 33792) (y : Fin 512) : EReal := key (streamRow m c i) (fun k => gainOf m c (ix1 k)) (fun j k => weightsOf m c (ix2 j k)) y

def restAt (y : Fin 1024) (i : Fin 33792) : EReal := rest (streamRow m c i) (fun k => gainOf m c (ix1 k)) (fun j k => weightsOf m c (ix2 j k)) y

def inputAt (i : Fin 33792) (y : Fin 512) : EReal := input (streamRow m c i) (fun k => gainOf m c (ix1 k)) (fun j k => weightsOf m c (ix2 j k)) y

def logitAt (y : Fin 16) (i : Fin 33792) : EReal :=
  logit (streamRow m c i) (fun k => gainOf m c (ix1 k)) (fun j => highOf m c (ix2 y j)) (fun j => lowOf m c (ix2 y j))

def keyArr : (⟨S33792x512, .bf16⟩ : BufTy).Contents (Elt Ideal) := fun i => keyAt m c (i 0) (i 1)

def restArr : (⟨S1024x33792, .bf16⟩ : BufTy).Contents (Elt Ideal) := fun i => restAt m c (i 0) (i 1)

def inputArr : (⟨S33792x512, .f32⟩ : BufTy).Contents (Elt Ideal) := fun i => inputAt m c (i 0) (i 1)

def logitArr : (⟨S16x33792, .f32⟩ : BufTy).Contents (Elt Ideal) := fun i => logitAt m c (i 0) (i 1)

/-- The gain and the first part of the forgetting weights are finite. -/
structure Finite : Prop where
  gain : ∀ k, IsReal (gainOf m c (ix1 k))
  high : ∀ y k, IsReal (highOf m c (ix2 y k))

theorem normed_at (r : Fin 512) (j : Fin 1024) : rowsOf (iblk m c 0 t) (iblk m c 1 t) (ix2 r j)
    = normed (streamRow m c (rowAt t r)) (fun k => gainOf m c (ix1 k)) j := by
  rw [rowsOf_at]
  simp only [stream_at, gain_at]

theorem wide_at (r : Fin 512) (j : Fin 1024) : wideOf (iblk m c 0 t) (iblk m c 1 t) (ix2 r j)
    = normed (streamRow m c (rowAt t r)) (fun k => gainOf m c (ix1 k)) j := by
  rw [wideOf_at]
  simp only [stream_at, gain_at]

theorem keys_at (r y : Fin 512) : out0_7 (iblk m c 0 t) (iblk m c 1 t) (iblk m c 2 t) (iblk m c 3 t) (iblk m c 4 t) (iblk m c 5 t) (iblk m c 6 t) (ix2 r y)
    = keyAt m c (rowAt t r) y := by
  rw [keys_eq, keysOf_at]
  unfold keyAt key product
  simp only [normed_at, keyWeights_at]

theorem rest_at (y : Fin 1024) (r : Fin 512) : out0_8 (iblk m c 0 t) (iblk m c 1 t) (iblk m c 2 t) (iblk m c 3 t) (iblk m c 4 t) (iblk m c 5 t) (iblk m c 6 t) (ix2 y r)
    = restAt m c y (rowAt t r) := by
  rw [rest_eq, restOf_at]
  unfold restAt rest product
  simp only [normed_at, restWeights_at]
  split_ifs
  · exact sum_scaled _ _
  · exact Finset.sum_congr rfl fun j _ => mul_comm _ _

theorem inputs_at (r y : Fin 512) : out0_9 (iblk m c 0 t) (iblk m c 1 t) (iblk m c 2 t) (iblk m c 3 t) (iblk m c 4 t) (iblk m c 5 t) (iblk m c 6 t) (ix2 r y)
    = inputAt m c (rowAt t r) y := by
  rw [inputs_eq, inputsOf_at]
  unfold inputAt input product
  simp only [normed_at, inputWeights_at]

theorem logits_at (hf : Finite m c) (y : Fin 16) (r : Fin 512) :
    out0_10 (iblk m c 0 t) (iblk m c 1 t) (iblk m c 2 t) (iblk m c 3 t) (iblk m c 4 t) (iblk m c 5 t) (iblk m c 6 t) (ix2 y r) = logitAt m c y (rowAt t r) := by
  rw [logits_eq, logitsOf_at]
  refine Eq.trans ?_ (logit_parts (streamRow m c (rowAt t r)) hf.gain (hf.high y))
  simp only [normed_at, wide_at, high_at, low_at]

end Cert.Kernel5Ideal.OddProj

end
-- ==== Proof.OddProj.Arrays.lean ====
/- The odd layers' projection kernel: its four arrays after the last grid point. -/
module

public import proofs.«01_k».proof.Proof.OddProj.Value
public import Idealize.ShloMosaic.Lib.Claim
public import Idealize.ShloMosaic.Lib.StableHlo.RunRead
public import Idealize.ShloMosaic.Lib.Pipeline.ValueKit.Point

@[expose] public section

set_option maxRecDepth 16384

noncomputable section

namespace Cert.Kernel5Ideal.OddProj

open Cert.Kernel5Ideal Cert.Kernel5Ideal.Gen Cert.Post Cert.OddProj
open Cert.Proj (product sum_scaled)
open Idealize.ShloMosaic Idealize.ShloMosaic.TcCoe Idealize.ShloMosaic.Tactic

variable (m : (ℓ : Loc nD τ sig) → Buf (Elt Ideal) ℓ) (c : Dev nD)

theorem keyArr_at (i : Fin 33792) (y : Fin 512) : keyArr m c (ix2 i y) = keyAt m c i y := rfl

theorem restArr_at (y : Fin 1024) (i : Fin 33792) : restArr m c (ix2 y i) = restAt m c y i := rfl

theorem inputArr_at (i : Fin 33792) (y : Fin 512) : inputArr m c (ix2 i y) = inputAt m c i y := rfl

theorem logitArr_at (y : Fin 16) (i : Fin 33792) : logitArr m c (ix2 y i) = logitAt m c y i := rfl

theorem keyArr_eq : (dats (F := Ideal) m 0 c).arrAt 7 cfg0.N = keyArr m c := by
  refine (dats m 0 c).arrAt_eq_of_covers 7 _ (by decide +kernel) fun t _ y => ?_
  blk_simp
  rw [after0_7]
  have hv := keys_at m c t
  generalize out0_7 (iblk m c 0 t) (iblk m c 1 t) (iblk m c 2 t) (iblk m c 3 t) (iblk m c 4 t) (iblk m c 5 t) (iblk m c 6 t) = v at hv ⊢
  obtain ⟨r, z, rfl⟩ : ∃ (r : Fin 512) (z : Fin 512), y = ix2 r z :=
    ⟨y 0, y 1, by ext a; match a with | ⟨0, _⟩ => rfl | ⟨1, _⟩ => rfl⟩
  have he : (win0_7.blk t).view.emb (ix2 r z) = ix2 (rowAt t r) z := by
    blk_ext [index_7 t, rowAt]
  refine (hv r z).trans ?_
  rw [he, keyArr_at]

theorem restArr_eq : (dats (F := Ideal) m 0 c).arrAt 8 cfg0.N = restArr m c := by
  refine (dats m 0 c).arrAt_eq_of_covers 8 _ (by decide +kernel) fun t _ y => ?_
  blk_simp
  rw [after0_8]
  have hv := rest_at m c t
  generalize out0_8 (iblk m c 0 t) (iblk m c 1 t) (iblk m c 2 t) (iblk m c 3 t) (iblk m c 4 t) (iblk m c 5 t) (iblk m c 6 t) = v at hv ⊢
  obtain ⟨z, r, rfl⟩ : ∃ (z : Fin 1024) (r : Fin 512), y = ix2 z r :=
    ⟨y 0, y 1, by ext a; match a with | ⟨0, _⟩ => rfl | ⟨1, _⟩ => rfl⟩
  have he : (win0_8.blk t).view.emb (ix2 z r) = ix2 z (rowAt t r) := by
    blk_ext [index_8 t, rowAt]
  refine (hv z r).trans ?_
  rw [he, restArr_at]

theorem inputArr_eq : (dats (F := Ideal) m 0 c).arrAt 9 cfg0.N = inputArr m c := by
  refine (dats m 0 c).arrAt_eq_of_covers 9 _ (by decide +kernel) fun t _ y => ?_
  blk_simp
  rw [after0_9]
  have hv := inputs_at m c t
  generalize out0_9 (iblk m c 0 t) (iblk m c 1 t) (iblk m c 2 t) (iblk m c 3 t) (iblk m c 4 t) (iblk m c 5 t) (iblk m c 6 t) = v at hv ⊢
  obtain ⟨r, z, rfl⟩ : ∃ (r : Fin 512) (z : Fin 512), y = ix2 r z :=
    ⟨y 0, y 1, by ext a; match a with | ⟨0, _⟩ => rfl | ⟨1, _⟩ => rfl⟩
  have he : (win0_9.blk t).view.emb (ix2 r z) = ix2 (rowAt t r) z := by
    blk_ext [index_9 t, rowAt]
  refine (hv r z).trans ?_
  rw [he, inputArr_at]

theorem logitArr_eq (hf : Finite m c) : (dats (F := Ideal) m 0 c).arrAt 10 cfg0.N = logitArr m c := by
  refine (dats m 0 c).arrAt_eq_of_covers 10 _ (by decide +kernel) fun t _ y => ?_
  blk_simp
  rw [after0_10]
  have hv := logits_at m c t hf
  generalize out0_10 (iblk m c 0 t) (iblk m c 1 t) (iblk m c 2 t) (iblk m c 3 t) (iblk m c 4 t) (iblk m c 5 t) (iblk m c 6 t) = v at hv ⊢
  obtain ⟨z, r, rfl⟩ : ∃ (z : Fin 16) (r : Fin 512), y = ix2 z r :=
    ⟨y 0, y 1, by ext a; match a with | ⟨0, _⟩ => rfl | ⟨1, _⟩ => rfl⟩
  have he : (win0_10.blk t).view.emb (ix2 z r) = ix2 z (rowAt t r) := by
    blk_ext [index_10 t, rowAt]
  refine (hv z r).trans ?_
  rw [he, logitArr_at]

end Cert.Kernel5Ideal.OddProj

end
-- ==== Proof.OddProj.Ref.lean ====
/- The odd projection's reference, read at an index. -/
module

public import proofs.«01_k».proof.Proof.Gen.Reference5Ideal.Read
public import proofs.«01_k».proof.Proof.OddProj.Row
public import Idealize.ShloMosaic.Lib.Pointwise

@[expose] public section

set_option maxRecDepth 16384

noncomputable section

namespace Cert.Reference5Ideal.OddProj

open Cert.Reference5Ideal Cert.Reference5Ideal.Gen Cert.Reference5Ideal.Read Cert.Post Cert.OddProj
open Cert.Proj (product sum_scaled)
open Idealize.ShloMosaic Idealize.ShloMosaic.TcCoe

variable (x0 : (⟨S4x8448x1024, .f32⟩ : BufTy).Contents (Elt Ideal)) (x1 : (⟨S1024, .f32⟩ : BufTy).Contents (Elt Ideal))
  (x2 : (⟨S1024x2056, .f32⟩ : BufTy).Contents (Elt Ideal)) (x3 x4 : (⟨S16x1024, .bf16⟩ : BufTy).Contents (Elt Ideal)) (b : Fin 4) (l : Fin 8448)

theorem normed_at (y : Fin 1024) : val_main_v12 (F := Ideal) x0 x1 (ix3 b l y) = normed (fun k => x0 (ix3 b l k)) (fun k => x1 (ix1 k)) y := by
  rw [val_main_v12_apply, val_main_v9_apply, val_main_v8_apply, val_main_v7_apply, val_main_v6_apply, val_main_v4_apply, val_main_v2_apply,
    val_main_v1_apply, val_main_v3_apply, val_main_cst_0_apply, val_main_v5_apply, val_main_cst_1_apply, val_main_v11_apply, val_main_v10_apply]
  have e : ∀ k : Fin 1024, val_main_v0 (F := Ideal) x0 (idx_main_v1 (idx_main_v2 (idx_main_v8 (ix3 b l y))) k) = x0 (ix3 b l k) * x0 (ix3 b l k) := fun k => by
    rw [show idx_main_v1 (idx_main_v2 (idx_main_v8 (ix3 b l y))) k = ix3 b l k from funext fun a => match a with | ⟨0, _⟩ => rfl | ⟨1, _⟩ => rfl | ⟨2, _⟩ => rfl,
      val_main_v0_apply]
    rfl
  have z : val_main_cst (F := Ideal) (Shape.Idx.first h_S_) = (0 : EReal) := by
    rw [val_main_cst_apply]; exact Ideal.ofBits_zero_f32
  have g : x1 (idx_main_v10 (idx_main_v11 (ix3 b l y))) = x1 (ix1 y) := congrArg x1 (funext fun a => match a with | ⟨0, _⟩ => rfl)
  simp only [e, z, zero_add, g]
  rfl

/-- The projection. -/
theorem product_at (y : Fin 2056) : val_main_v13 (F := Ideal) x0 x1 x2 (ix3 b l y)
    = product (fun k => x0 (ix3 b l k)) (fun k => x1 (ix1 k)) fun j => x2 (ix2 j y) := by
  rw [val_main_v13_apply]
  have e1 : ∀ j : Fin 1024, lidx_main_v13 (ix3 b l y) j = ix3 b l j := fun j => funext fun a => match a with | ⟨0, _⟩ => rfl | ⟨1, _⟩ => rfl | ⟨2, _⟩ => rfl
  have e2 : ∀ j : Fin 1024, ridx_main_v13 (ix3 b l y) j = ix2 j y := fun j => funext fun a => match a with | ⟨0, _⟩ => rfl | ⟨1, _⟩ => rfl
  simp only [e1, e2, normed_at]
  rfl

/-- Two arrays of 512 columns side by side. -/
theorem pair_at (a d : FVec Ideal S4x8448x512 .f32) (y : Fin 1024) :
    concatenate S4x8448x1024 2 [⟨S4x8448x512, a⟩, ⟨S4x8448x512, d⟩] concatenates_S4x8448x512_S4x8448x512_S4x8448x1024_d2 (ix3 b l y)
      = if h : y.val < 512 then a (ix3 b l ⟨y.val, h⟩) else d (ix3 b l ⟨y.val - 512, by omega⟩) := by
  pointwise

theorem rest_at (y : Fin 1024) : val_main_v26 (F := Ideal) x0 x1 x2 (ix3 b l y)
    = rest (fun k => x0 (ix3 b l k)) (fun k => x1 (ix1 k)) (fun j k => x2 (ix2 j k)) y := by
  unfold val_main_v26 rest
  rw [pair_at]
  by_cases h : y.val < 512
  · rw [dif_pos h, if_pos h, val_main_v25_apply, val_main_v14_apply, val_main_v24_apply, val_main_cst_2_apply, ← product_at]
    exact congrArg (· * Ideal.ofBits .f32 0x3E000000#32) (congrArg _ (funext fun a => match a with | ⟨0, _⟩ => rfl | ⟨1, _⟩ => rfl | ⟨2, _⟩ => rfl))
  · rw [dif_neg h, if_neg h, val_main_v16_apply, ← product_at]
    exact congrArg _ (funext fun a => match a with | ⟨0, _⟩ => rfl | ⟨1, _⟩ => rfl | ⟨2, _⟩ => Fin.ext (by show 1024 + (y.val - 512) = 512 + y.val; omega))

/-- The two parts of the forgetting weights, added. -/
theorem weights_at (j : Fin 1024) (y : Fin 16) : val_main_v22 (F := Ideal) x3 x4 (ix2 j y) = x3 (ix2 y j) + x4 (ix2 y j) := by
  rw [val_main_v22_apply, val_main_v21_apply, val_main_v19_apply, val_main_v20_apply,
    show idx_main_v22 (ix2 j y) = ix2 y j from funext fun a => match a with | ⟨0, _⟩ => rfl | ⟨1, _⟩ => rfl]
  rfl

theorem logit_at (y : Fin 16) : val_main_v23 (F := Ideal) x0 x1 x3 x4 (ix3 b l y)
    = logit (fun k => x0 (ix3 b l k)) (fun k => x1 (ix1 k)) (fun j => x3 (ix2 y j)) fun j => x4 (ix2 y j) := by
  rw [val_main_v23_apply]
  have e1 : ∀ j : Fin 1024, lidx_main_v23 (ix3 b l y) j = ix3 b l j := fun j => funext fun a => match a with | ⟨0, _⟩ => rfl | ⟨1, _⟩ => rfl | ⟨2, _⟩ => rfl
  have e2 : ∀ j : Fin 1024, ridx_main_v23 (ix3 b l y) j = ix2 j y := fun j => funext fun a => match a with | ⟨0, _⟩ => rfl | ⟨1, _⟩ => rfl
  simp only [e1, e2, normed_at, weights_at]
  rfl

/-- The keys, a row of the stream a row. -/
theorem keys_eq (i : Fin 33792) (y : Fin 512) : val_main_v28 (F := Ideal) x0 x1 x2 (ix2 i y)
    = key (fun k => x0 (ix3 ⟨i.val / 8448, by omega⟩ ⟨i.val % 8448, by omega⟩ k)) (fun k => x1 (ix1 k)) (fun j k => x2 (ix2 j k)) y := by
  rw [val_main_v28_apply, val_main_v27_apply, val_main_v15_apply]
  rw [show idx_main_v15 (idx_main_v27 (ix2 i y)) = ix3 ⟨i.val / 8448, by omega⟩ ⟨i.val % 8448, by omega⟩ ⟨512 + y.val, by omega⟩ from funext fun a => Fin.ext (match a with
    | ⟨0, _⟩ => by show (i.val * 512 + y.val) / 4325376 = i.val / 8448; omega
    | ⟨1, _⟩ => by show (i.val * 512 + y.val) / 512 % 8448 = i.val % 8448; omega
    | ⟨2, _⟩ => by show 512 + (i.val * 512 + y.val) % 512 = 512 + y.val; omega), product_at]
  rfl

/-- The recurrence's inputs, a row of the stream a row. -/
theorem inputs_eq (i : Fin 33792) (y : Fin 512) : val_main_v32 (F := Ideal) x0 x1 x2 (ix2 i y)
    = input (fun k => x0 (ix3 ⟨i.val / 8448, by omega⟩ ⟨i.val % 8448, by omega⟩ k)) (fun k => x1 (ix1 k)) (fun j k => x2 (ix2 j k)) y := by
  rw [val_main_v32_apply, val_main_v18_apply]
  rw [show idx_main_v18 (idx_main_v32 (ix2 i y)) = ix3 ⟨i.val / 8448, by omega⟩ ⟨i.val % 8448, by omega⟩ ⟨1544 + y.val, by omega⟩ from funext fun a => Fin.ext (match a with
    | ⟨0, _⟩ => by show (i.val * 512 + y.val) / 4325376 = i.val / 8448; omega
    | ⟨1, _⟩ => by show (i.val * 512 + y.val) / 512 % 8448 = i.val % 8448; omega
    | ⟨2, _⟩ => by show 1544 + (i.val * 512 + y.val) % 512 = 1544 + y.val; omega), product_at]
  rfl

/-- The queries and the values, a row of the stream a column. -/
theorem rest_eq (y : Fin 1024) (i : Fin 33792) : val_main_v31 (F := Ideal) x0 x1 x2 (ix2 y i)
    = rest (fun k => x0 (ix3 ⟨i.val / 8448, by omega⟩ ⟨i.val % 8448, by omega⟩ k)) (fun k => x1 (ix1 k)) (fun j k => x2 (ix2 j k)) y := by
  rw [val_main_v31_apply, val_main_v30_apply, val_main_v29_apply]
  rw [show idx_main_v29 (idx_main_v30 (ix2 y i)) = ix3 ⟨i.val / 8448, by omega⟩ ⟨i.val % 8448, by omega⟩ y from funext fun a => Fin.ext (match a with
    | ⟨0, _⟩ => by show (i.val * 1024 + y.val) / 8650752 = i.val / 8448; omega
    | ⟨1, _⟩ => by show (i.val * 1024 + y.val) / 1024 % 8448 = i.val % 8448; omega
    | ⟨2, _⟩ => by show (i.val * 1024 + y.val) % 1024 = y.val; omega), rest_at]
  rfl

/-- The forgetting logits, a row of the stream a column. -/
theorem logits_eq (y : Fin 16) (i : Fin 33792) : val_main_v34 (F := Ideal) x0 x1 x3 x4 (ix2 y i)
    = logit (fun k => x0 (ix3 ⟨i.val / 8448, by omega⟩ ⟨i.val % 8448, by omega⟩ k)) (fun k => x1 (ix1 k)) (fun j => x3 (ix2 y j)) fun j => x4 (ix2 y j) := by
  rw [val_main_v34_apply, val_main_v33_apply]
  rw [show idx_main_v33 (idx_main_v34 (ix2 y i)) = ix3 ⟨i.val / 8448, by omega⟩ ⟨i.val % 8448, by omega⟩ y from funext fun a => Fin.ext (match a with
    | ⟨0, _⟩ => by show (i.val * 16 + y.val) / 135168 = i.val / 8448; omega
    | ⟨1, _⟩ => by show (i.val * 16 + y.val) / 16 % 8448 = i.val % 8448; omega
    | ⟨2, _⟩ => by show (i.val * 16 + y.val) % 16 = y.val; omega), logit_at]

end Cert.Reference5Ideal.OddProj

end
-- ==== Proof.OddProj.Agree.lean ====
/- The odd projection's two programs put side by side. -/
module

public import proofs.«01_k».proof.Proof.Agree
public import proofs.«01_k».proof.Proof.OddProj.Arrays
public import proofs.«01_k».proof.Proof.OddProj.Ref
public import proofs.«01_k».proof.Proof.Gen.Reference5Ideal.Run
public import proofs.«01_k».proof.Proof.Gen.Kernel5Ideal.Frame
public import proofs.«01_k».proof.Proof.Gen.Pre_finite5
public import Idealize.ShloMosaic.Lib.Claim

@[expose] public section

set_option maxRecDepth 16384

noncomputable section

namespace Cert.Proof.OddProj

open Idealize.ShloMosaic Idealize.ShloMosaic.TcCoe Idealize.SL.Sem
open Cert.OddProj (IsReal)
open Cert.KernelIdeal.Attn (and_bit)
open Cert.Kernel5Ideal.OddProj (keyArr restArr inputArr logitArr Finite)

/-- The reference ends, with its arguments as they were and every counter at zero. -/
theorem frame_reference : Cert.quiescent_Reference5Ideal := fun m g _ =>
  (θ_run _ _ _).mono (fun r h => ⟨fun c => (h c).2.2.2.2, sem_eq_zero_of_no_sems (by decide) r.2⟩)
    (Cert.Reference5Ideal.Value.run (F := Ideal) m g)

theorem frame_reference_finite : Cert.quiescent_Reference5Ideal_pre_finite5 := fun m g _ =>
  (θ_run _ _ _).mono (fun r h => ⟨fun c => (h c).2.2.2.2, sem_eq_zero_of_no_sems (by decide) r.2⟩)
    (Cert.Reference5Ideal.Value.run (F := Ideal) m g)

theorem inf_half : Ideal.ofBits .bf16 0x7F80#16 = ⊤ := by
  simp [Ideal.ofBits, Ideal.ieee]

/-- What the precondition says of the gain's and the high part's entries. -/
theorem pre_reads (x0 : FVec Ideal Cert.Pre_finite5.S4x8448x1024 .f32) (x1 : FVec Ideal Cert.Pre_finite5.S1024 .f32) (x2 : FVec Ideal Cert.Pre_finite5.S1024x2056 .f32)
    (x3 x4 : FVec Ideal Cert.Pre_finite5.S16x1024 .bf16) (h : Cert.Pre_finite5.fn x0 x1 x2 x3 x4 = fun _ => 1#1) :
    (∀ k, IsReal (x1 (ix1 k))) ∧ (∀ y k, IsReal (x3 (ix2 y k))) := by
  have hs : Subsingleton Cert.Pre_finite5.S_.Idx := ⟨fun a b => funext fun k => k.elim0⟩
  have h0 := congrFun h (fun k => k.elim0)
  unfold Cert.Pre_finite5.fn at h0
  obtain ⟨hb, hc⟩ := (and_bit _ _).1 h0
  refine ⟨fun k => ?_, fun y k => ?_⟩
  · have := Host.reduce_andi_all _ _ _ _ _ hb (ix1 k)
    exact abs_lt_top (by rw [← inf_word]; exact this)
  · have := Host.reduce_andi_all _ _ _ _ _ hc (ix2 y k)
    exact abs_lt_top (by rw [← inf_half]; exact this)

/-- Both programs' arrays are the projection's values. -/
theorem algebraic : Cert.algebraic_Kernel5Ideal_Reference5Ideal_pre_finite5 := by
  intro m g m' g' hpre hagree
  have hf : ∀ c, Finite m c := fun c =>
    have h := pre_reads _ _ _ _ _ (hpre c)
    ⟨h.1, h.2⟩
  refine ⟨fun c => keyArr m c, fun c => restArr m c, fun c => inputArr m c, fun c => logitArr m c, ?_, ?_⟩
  · exact (θ_run _ _ _).mono (fun r h c => ⟨(h c).1.trans (Cert.Kernel5Ideal.OddProj.keyArr_eq m c), (h c).2.1.trans (Cert.Kernel5Ideal.OddProj.restArr_eq m c),
        (h c).2.2.1.trans (Cert.Kernel5Ideal.OddProj.inputArr_eq m c), (h c).2.2.2.1.trans (Cert.Kernel5Ideal.OddProj.logitArr_eq m c (hf c)), (h c).2.2.2.2⟩)
      (Cert.Kernel5Ideal.Value.run_blocks (F := Ideal) m g)
  · refine (θ_run Cert.Reference5Ideal.defs _ _).mono (fun _ h c => ⟨(h c).1.trans ?_, (h c).2.1.trans ?_, (h c).2.2.1.trans ?_, (h c).2.2.2.1.trans ?_, (h c).2.2.2.2⟩)
      (Cert.Reference5Ideal.Value.run (F := Ideal) m' g')
    · rw [Cert.Reference5Ideal.Read.val_main_v28_eq, (hagree c).1, (hagree c).2.1, (hagree c).2.2.1]
      funext i
      rw [show i = ix2 (i 0) (i 1) from funext fun a => match a with | ⟨0, _⟩ => rfl | ⟨1, _⟩ => rfl]
      exact Cert.Reference5Ideal.OddProj.keys_eq _ _ _ (i 0) (i 1)
    · rw [Cert.Reference5Ideal.Read.val_main_v31_eq, (hagree c).1, (hagree c).2.1, (hagree c).2.2.1]
      funext i
      rw [show i = ix2 (i 0) (i 1) from funext fun a => match a with | ⟨0, _⟩ => rfl | ⟨1, _⟩ => rfl]
      exact Cert.Reference5Ideal.OddProj.rest_eq _ _ _ (i 0) (i 1)
    · rw [Cert.Reference5Ideal.Read.val_main_v32_eq, (hagree c).1, (hagree c).2.1, (hagree c).2.2.1]
      funext i
      rw [show i = ix2 (i 0) (i 1) from funext fun a => match a with | ⟨0, _⟩ => rfl | ⟨1, _⟩ => rfl]
      exact Cert.Reference5Ideal.OddProj.inputs_eq _ _ _ (i 0) (i 1)
    · rw [Cert.Reference5Ideal.Read.val_main_v34_eq, (hagree c).1, (hagree c).2.1, (hagree c).2.2.2.1, (hagree c).2.2.2.2]
      funext i
      rw [show i = ix2 (i 0) (i 1) from funext fun a => match a with | ⟨0, _⟩ => rfl | ⟨1, _⟩ => rfl]
      exact Cert.Reference5Ideal.OddProj.logits_eq _ _ _ _ (i 0) (i 1)

end Cert.Proof.OddProj

end
-- ==== Proof.lean ====
module

public import proofs.«01_k».proof.Defs
public import proofs.«01_k».proof.Proof.Plain
public import proofs.«01_k».proof.Proof.Agree
public import proofs.«01_k».proof.Proof.Even.Agree
public import proofs.«01_k».proof.Proof.Odd.Agree
public import proofs.«01_k».proof.Proof.Proj.Agree
public import proofs.«01_k».proof.Proof.OddProj.Agree
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts, Cert.Pre_finite5.Gen.facts,
    Cert.KernelIdeal.Attn.frame_plain, frame_kernel, frame_kernel_finite, frame_reference, frame_reference_finite,
    fun m g _ => Cert.Kernel2.Gen.frame m g, fun m g _ => Cert.Kernel2Ideal.Gen.frame m g, Odd.frame_reference,
    fun m g _ => Cert.Kernel3.Gen.frame m g, fun m g _ => Cert.Kernel3Ideal.Gen.frame m g, Even.frame_reference,
    fun m g _ => Cert.Kernel4.Gen.frame m g, fun m g _ => Cert.Kernel4Ideal.Gen.frame m g, Proj.frame_reference,
    fun m g _ => Cert.Kernel5.Gen.frame m g, fun m g _ => Cert.Kernel5Ideal.Gen.frame m g, fun m g _ => Cert.Kernel5Ideal.Gen.frame m g,
    OddProj.frame_reference, OddProj.frame_reference_finite,
    preserves, algebraic, trivial, Odd.algebraic, trivial, Even.algebraic, trivial, Proj.algebraic, trivial, OddProj.algebraic⟩

end Cert.Proof
